-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_memory_finite [hPre_memory_finite : Cert.Pre_memory_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_memory_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_memory_finite [hPre_memory_finite : Cert.Pre_memory_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_memory_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_memory_finite [hKernel3Ideal : Cert.Kernel3Ideal.Facts] [hPre_memory_finite : Cert.Pre_memory_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_memory_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_memory_finite [hReference3Ideal : Cert.Reference3Ideal.Facts] [hPre_memory_finite : Cert.Pre_memory_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_memory_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "neg_init" .f32 0xF149F2CA#32 ⊥
  ∧ IdealRules.named_const.Statement Cert.KernelIdeal.κ "q_scale" .f32 0x3E38AA3B#32 (((1 / 8) * (Real.log 2)⁻¹ : ℝ) : EReal)

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "q_scale" .f32 0x3E38AA3B#32 (((1 / 8) * (Real.log 2)⁻¹ : ℝ) : EReal)
  ∧ IdealRules.named_const.Statement Cert.Kernel3Ideal.κ "neg_init" .f32 0xF149F2CA#32 ⊥

def algebraic_Kernel3Ideal_Reference3Ideal_pre_memory_finite [hKernel3Ideal : Cert.Kernel3Ideal.Facts] [hReference3Ideal : Cert.Reference3Ideal.Facts] [hPre_memory_finite : Cert.Pre_memory_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_memory_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "q_scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)) (v2 : (c : Dev Cert.Kernel4Ideal.nD) → Buf (Elt Ideal) ((c.tc : Thread Cert.Kernel4Ideal.nD Cert.Kernel4Ideal.τ).loc Cert.Kernel4Ideal.main_v24_2)) (v3 : (c : Dev Cert.Kernel4Ideal.nD) → Buf (Elt Ideal) ((c.tc : Thread Cert.Kernel4Ideal.nD Cert.Kernel4Ideal.τ).loc Cert.Kernel4Ideal.main_v24_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_v24_2) = v2 c
          ∧ r.2.mem ((c.tc : Thread Cert.Kernel4Ideal.nD Cert.Kernel4Ideal.τ).loc Cert.Kernel4Ideal.main_v24_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v96) = v0 c
          ∧ r.2.mem ((c.tc : Thread Cert.Reference4Ideal.nD Cert.Reference4Ideal.τ).loc Cert.Reference4Ideal.main_v99) = v1 c
          ∧ r.2.mem ((c.tc : Thread Cert.Reference4Ideal.nD Cert.Reference4Ideal.τ).loc Cert.Reference4Ideal.main_v104) = v2 c
          ∧ r.2.mem ((c.tc : Thread Cert.Reference4Ideal.nD Cert.Reference4Ideal.τ).loc Cert.Reference4Ideal.main_v111) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "q_scale" .f32 0x3E38AA3B#32 (((1 / 8) * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)) (v3 : (c : Dev Cert.Kernel5Ideal.nD) → Buf (Elt Ideal) ((c.tc : Thread Cert.Kernel5Ideal.nD Cert.Kernel5Ideal.τ).loc Cert.Kernel5Ideal.main_v23_3)) (v4 : (c : Dev Cert.Kernel5Ideal.nD) → Buf (Elt Ideal) ((c.tc : Thread Cert.Kernel5Ideal.nD Cert.Kernel5Ideal.τ).loc Cert.Kernel5Ideal.main_v23_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_v23_3) = v3 c
          ∧ r.2.mem ((c.tc : Thread Cert.Kernel5Ideal.nD Cert.Kernel5Ideal.τ).loc Cert.Kernel5Ideal.main_v23_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v98) = v1 c
          ∧ r.2.mem ((c.tc : Thread Cert.Reference5Ideal.nD Cert.Reference5Ideal.τ).loc Cert.Reference5Ideal.main_v101) = v2 c
          ∧ r.2.mem ((c.tc : Thread Cert.Reference5Ideal.nD Cert.Reference5Ideal.τ).loc Cert.Reference5Ideal.main_v106) = v3 c
          ∧ r.2.mem ((c.tc : Thread Cert.Reference5Ideal.nD Cert.Reference5Ideal.τ).loc Cert.Reference5Ideal.main_v113) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_qk_finite : Cert.Pre_qk_finite.Facts) (hPre_memory_finite : Cert.Pre_memory_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_memory_finite (hKernel3Ideal := hKernel3Ideal) (hPre_memory_finite := hPre_memory_finite)
    ∧ quiescent_Reference3Ideal (hReference3Ideal := hReference3Ideal)
    ∧ quiescent_Reference3Ideal_pre_memory_finite (hReference3Ideal := hReference3Ideal) (hPre_memory_finite := hPre_memory_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_memory_finite (hKernel3Ideal := hKernel3Ideal) (hReference3Ideal := hReference3Ideal) (hPre_memory_finite := hPre_memory_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_memory_finite.lean ====
abbrev S2x16384x1024 : Shape := ⟨3, ![2, 16384, 1024]⟩
abbrev S2x16384x768 : Shape := ⟨3, ![2, 16384, 768]⟩
abbrev S2x16384x4x64 : Shape := ⟨4, ![2, 16384, 4, 64]⟩
abbrev S2x256x4x64 : Shape := ⟨4, ![2, 256, 4, 64]⟩
abbrev S1024x1024 : Shape := ⟨2, ![1024, 1024]⟩
abbrev S1024 : Shape := ⟨1, ![1024]⟩
abbrev S_ : Shape := ⟨0, ![]⟩
abbrev S2x16640x4x64 : Shape := ⟨4, ![2, 16640, 4, 64]⟩

class Facts : Prop where
  bcast_S_S2x16384x4x64 : S_.BroadcastsInDim S2x16384x4x64 (![] : Fin 0 → Fin S2x16384x4x64.rank)
  bcast_S_S2x256x4x64 : S_.BroadcastsInDim S2x256x4x64 (![] : Fin 0 → Fin S2x256x4x64.rank)
  concatenates_S2x16384x4x64_S2x256x4x64_S2x16640x4x64_d1 : Shape.Concatenates [S2x16384x4x64, S2x256x4x64] S2x16640x4x64 1

variable [Facts]

def fn {F : FTy → Type} [FloatOps F] (main_arg0 : FVec F S2x16384x1024 .f32) (main_arg1 : FVec F S2x16384x768 .f32) (main_arg2 : FVec F S2x16384x4x64 .f32) (main_arg3 : FVec F S2x256x4x64 .f32) (main_arg4 : FVec F S2x256x4x64 .f32) (main_arg5 : FVec F S1024x1024 .f32) (main_arg6 : FVec F S1024 .f32) : IVec S2x16640x4x64 1 :=
  let main_v0 : FVec F S2x16384x4x64 .f32 := Host.absf main_arg2
  let main_cst : FVec F S_ .f32 := constant S_ .f32 0x7F800000#32
  let main_v1 : FVec F S2x16384x4x64 .f32 := broadcastInDim S2x16384x4x64 ![] bcast_S_S2x16384x4x64 main_cst
  let main_v2 : IVec S2x16384x4x64 1 := cmpf .olt main_v0 main_v1
  let main_v3 : FVec F S2x256x4x64 .f32 := Host.absf main_arg3
  let main_cst_0 : FVec F S_ .f32 := constant S_ .f32 0x7F800000#32
  let main_v4 : FVec F S2x256x4x64 .f32 := broadcastInDim S2x256x4x64 ![] bcast_S_S2x256x4x64 main_cst_0
  let main_v5 : IVec S2x256x4x64 1 := cmpf .olt main_v3 main_v4
  let main_v6 : IVec S2x16640x4x64 1 := (fun a b => concatenate S2x16640x4x64 1 [⟨S2x16384x4x64, a⟩, ⟨S2x256x4x64, b⟩] concatenates_S2x16384x4x64_S2x256x4x64_S2x16640x4x64_d1) main_v2 main_v5
  main_v6
-- ==== Pre_qk_finite.lean ====
abbrev S2x16384x12x64 : Shape := ⟨4, ![2, 16384, 12, 64]⟩
abbrev S2x16384x3x64 : Shape := ⟨4, ![2, 16384, 3, 64]⟩
abbrev S_ : Shape := ⟨0, ![]⟩
abbrev S2x16384x15x64 : Shape := ⟨4, ![2, 16384, 15, 64]⟩

class Facts : Prop where
  bcast_S_S2x16384x12x64 : S_.BroadcastsInDim S2x16384x12x64 (![] : Fin 0 → Fin S2x16384x12x64.rank)
  bcast_S_S2x16384x3x64 : S_.BroadcastsInDim S2x16384x3x64 (![] : Fin 0 → Fin S2x16384x3x64.rank)
  concatenates_S2x16384x12x64_S2x16384x3x64_S2x16384x15x64_d2 : Shape.Concatenates [S2x16384x12x64, S2x16384x3x64] S2x16384x15x64 2

variable [Facts]

def fn {F : FTy → Type} [FloatOps F] (main_arg0 : FVec F S2x16384x12x64 .f32) (main_arg1 : FVec F S2x16384x3x64 .f32) (main_arg2 : FVec F S2x16384x3x64 .f32) : IVec S2x16384x15x64 1 :=
  let main_v0 : FVec F S2x16384x12x64 .f32 := Host.absf main_arg0
  let main_cst : FVec F S_ .f32 := constant S_ .f32 0x7F800000#32
  let main_v1 : FVec F S2x16384x12x64 .f32 := broadcastInDim S2x16384x12x64 ![] bcast_S_S2x16384x12x64 main_cst
  let main_v2 : IVec S2x16384x12x64 1 := cmpf .olt main_v0 main_v1
  let main_v3 : FVec F S2x16384x3x64 .f32 := Host.absf main_arg1
  let main_cst_0 : FVec F S_ .f32 := constant S_ .f32 0x7F800000#32
  let main_v4 : FVec F S2x16384x3x64 .f32 := broadcastInDim S2x16384x3x64 ![] bcast_S_S2x16384x3x64 main_cst_0
  let main_v5 : IVec S2x16384x3x64 1 := cmpf .olt main_v3 main_v4
  let main_v6 : IVec S2x16384x15x64 1 := (fun a b => concatenate S2x16384x15x64 2 [⟨S2x16384x12x64, a⟩, ⟨S2x16384x3x64, b⟩] concatenates_S2x16384x12x64_S2x16384x3x64_S2x16384x15x64_d2) main_v2 main_v5
  main_v6
-- ==== Kernel.lean ====
abbrev S2x16384x12x64 : Shape := ⟨4, ![2, 16384, 12, 64]⟩
abbrev S2x16384x3x64 : Shape := ⟨4, ![2, 16384, 3, 64]⟩
abbrev S32768x768 : Shape := ⟨2, ![32768, 768]⟩
abbrev S768x32768 : Shape := ⟨2, ![768, 32768]⟩
abbrev S32768x192 : Shape := ⟨2, ![32768, 192]⟩
abbrev S192x32768 : Shape := ⟨2, ![192, 32768]⟩
abbrev S3x64x2x16384 : Shape := ⟨4, ![3, 64, 2, 16384]⟩
abbrev S3x64x32768 : Shape := ⟨3, ![3, 64, 32768]⟩
abbrev S3x16x32768 : Shape := ⟨3, ![3, 16, 32768]⟩
abbrev S_ : Shape := ⟨0, ![]⟩
abbrev S3x80x32768 : Shape := ⟨3, ![3, 80, 32768]⟩
abbrev S240x32768 : Shape := ⟨2, ![240, 32768]⟩
abbrev S256x512 : Shape := ⟨2, ![256, 512]⟩
abbrev S64x16384 : Shape := ⟨2, ![64, 16384]⟩
abbrev S80x16384 : Shape := ⟨2, ![80, 16384]⟩
abbrev S16384x64 : Shape := ⟨2, ![16384, 64]⟩
abbrev S4x8x512 : Shape := ⟨3, ![4, 8, 512]⟩
abbrev S4x64x512 : Shape := ⟨3, ![4, 64, 512]⟩
abbrev S64x512 : Shape := ⟨2, ![64, 512]⟩
abbrev S512x64 : Shape := ⟨2, ![512, 64]⟩
abbrev S256x64 : Shape := ⟨2, ![256, 64]⟩
abbrev S80x256 : Shape := ⟨2, ![80, 256]⟩
abbrev S1x8x256 : Shape := ⟨3, ![1, 8, 256]⟩
abbrev S8x256 : Shape := ⟨2, ![8, 256]⟩
abbrev S1x64x256 : Shape := ⟨3, ![1, 64, 256]⟩
abbrev S64x256 : Shape := ⟨2, ![64, 256]⟩
abbrev S256x256 : Shape := ⟨2, ![256, 256]⟩
abbrev S32x8x256 : Shape := ⟨3, ![32, 8, 256]⟩
abbrev S8x8x256 : Shape := ⟨3, ![8, 8, 256]⟩
abbrev S1x64x512 : Shape := ⟨3, ![1, 64, 512]⟩
abbrev S1x8x512 : Shape := ⟨3, ![1, 8, 512]⟩
abbrev S8x512 : Shape := ⟨2, ![8, 512]⟩
abbrev S8x8x512 : Shape := ⟨3, ![8, 8, 512]⟩

abbrev nBuf : Space → Nat
  | .hbm => 25
  | .vmem => 12
  | .smem => 0
  | _ => 0

abbrev bufTy : (tb : Table) → Fin (tcTables nBuf tb) → BufTy
  | .hbm, ⟨0, _⟩ => ⟨S2x16384x12x64, .f32⟩
  | .hbm, ⟨1, _⟩ => ⟨S2x16384x3x64, .f32⟩
  | .hbm, ⟨2, _⟩ => ⟨S2x16384x3x64, .f32⟩
  | .hbm, ⟨3, _⟩ => ⟨S32768x768, .f32⟩
  | .hbm, ⟨4, _⟩ => ⟨S768x32768, .f32⟩
  | .hbm, ⟨5, _⟩ => ⟨S768x32768, .bf16⟩
  | .hbm, ⟨6, _⟩ => ⟨S32768x192, .f32⟩
  | .hbm, ⟨7, _⟩ => ⟨S192x32768, .f32⟩
  | .hbm, ⟨8, _⟩ => ⟨S192x32768, .bf16⟩
  | .hbm, ⟨9, _⟩ => ⟨S3x64x2x16384, .f32⟩
  | .hbm, ⟨10, _⟩ => ⟨S3x64x32768, .f32⟩
  | .hbm, ⟨11, _⟩ => ⟨S3x64x32768, .bf16⟩
  | .hbm, ⟨12, _⟩ => ⟨S3x16x32768, .i32⟩
  | .hbm, ⟨13, _⟩ => ⟨S_, .i32⟩
  | .hbm, ⟨14, _⟩ => ⟨S3x16x32768, .i32⟩
  | .hbm, ⟨15, _⟩ => ⟨S3x16x32768, .i1⟩
  | .hbm, ⟨16, _⟩ => ⟨S_, .f32⟩
  | .hbm, ⟨17, _⟩ => ⟨S_, .f32⟩
  | .hbm, ⟨18, _⟩ => ⟨S3x16x32768, .f32⟩
  | .hbm, ⟨19, _⟩ => ⟨S3x16x32768, .f32⟩
  | .hbm, ⟨20, _⟩ => ⟨S3x16x32768, .f32⟩
  | .hbm, ⟨21, _⟩ => ⟨S3x16x32768, .bf16⟩
  | .hbm, ⟨22, _⟩ => ⟨S3x80x32768, .bf16⟩
  | .hbm, ⟨23, _⟩ => ⟨S240x32768, .bf16⟩
  | .hbm, ⟨24, _⟩ => ⟨S768x32768, .bf16⟩
  | .local _ .vmem, ⟨0, _⟩ => ⟨S256x512, .bf16⟩
  | .local _ .vmem, ⟨1, _⟩ => ⟨S256x512, .bf16⟩
  | .local _ .vmem, ⟨2, _⟩ => ⟨S64x16384, .bf16⟩
  | .local _ .vmem, ⟨3, _⟩ => ⟨S64x16384, .bf16⟩
  | .local _ .vmem, ⟨4, _⟩ => ⟨S80x16384, .bf16⟩
  | .local _ .vmem, ⟨5, _⟩ => ⟨S80x16384, .bf16⟩
  | .local _ .vmem, ⟨6, _⟩ => ⟨S256x512, .bf16⟩
  | .local _ .vmem, ⟨7, _⟩ => ⟨S256x512, .bf16⟩
  | .local _ .vmem, ⟨8, _⟩ => ⟨S16384x64, .bf16⟩
  | .local _ .vmem, ⟨9, _⟩ => ⟨S4x8x512, .f32⟩
  | .local _ .vmem, ⟨10, _⟩ => ⟨S4x8x512, .f32⟩
  | .local _ .vmem, ⟨11, _⟩ => ⟨S4x64x512, .f32⟩
  | _, _ => ⟨S2x16384x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 3, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_54 : BitVec 32 := 0#32
  let c32_i32 : BitVec 32 := 32#32
  let v92 : BitVec 32 := Scalar.addi c0_i32_54 c32_i32
  let c1_i32_55 : BitVec 32 := 1#32
  ⟨c0_i32_54, v92, c1_i32_55⟩
def k0_mult1 (k0_t1 : Fin k0_t1_loop.trips) : BitVec 32 :=
  let c0_i32_54 : BitVec 32 := 0#32
  let c1_i32_55 : BitVec 32 := 1#32
  let arg11 : BitVec 32 := Scf.iv c0_i32_54 c1_i32_55 k0_t1
  let c512_i32 : BitVec 32 := 512#32
  let v93 : BitVec 32 := Scalar.muli arg11 c512_i32
  v93
def k0_off1 (k0_t1 : Fin k0_t1_loop.trips) : Fin 2 → Nat :=
  let c0_57 : Index := 0#32
  let c0_i32_54 : BitVec 32 := 0#32
  let c1_i32_55 : BitVec 32 := 1#32
  let arg11 : BitVec 32 := Scf.iv c0_i32_54 c1_i32_55 k0_t1
  let c512_i32 : BitVec 32 := 512#32
  let v93 : BitVec 32 := Scalar.muli arg11 c512_i32
  let v94 : BitVec 32 := v93
  let v95 : Index := Scalar.indexCast v94
  ![0, v95.toNat]
def k0_off2 (k0_t1 : Fin k0_t1_loop.trips) : Fin 2 → Nat :=
  let c0_i32_54 : BitVec 32 := 0#32
  let c1_i32_55 : BitVec 32 := 1#32
  let arg11 : BitVec 32 := Scf.iv c0_i32_54 c1_i32_55 k0_t1
  let c512_i32 : BitVec 32 := 512#32
  let v93 : BitVec 32 := Scalar.muli arg11 c512_i32
  let v94 : BitVec 32 := v93
  let v99 : Index := Scalar.indexCast v94
  let c0_58 : Index := 0#32
  ![v99.toNat, 0]
@[reducible] def k0_t2_loop : Scf.Loop 32 :=
  let c0_i32_11 : BitVec 32 := 0#32
  let c2_i32 : BitVec 32 := 2#32
  let v15 : BitVec 32 := Scalar.addi c0_i32_11 c2_i32
  let c1_i32 : BitVec 32 := 1#32
  ⟨c0_i32_11, v15, c1_i32⟩
def k0_mult2 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32 : BitVec 32 := 32#32
  let v92 : BitVec 32 := Scalar.muli arg11 c32_i32
  let c0_i32_54 : BitVec 32 := 0#32
  let v93 : BitVec 32 := Scalar.addi v92 c0_i32_54
  let c256_i32 : BitVec 32 := 256#32
  let v94 : BitVec 32 := Scalar.muli v93 c256_i32
  v94
def k0_off3 (k0_t2 : Fin k0_t2_loop.trips) (c0_i32_54 : BitVec 32) : Fin 2 → Nat :=
  let c0_i32_11 : BitVec 32 := 0#32
  let c1_i32 : BitVec 32 := 1#32
  let arg11 : BitVec 32 := Scf.iv c0_i32_11 c1_i32 k0_t2
  let c32_i32 : BitVec 32 := 32#32
  let v92 : BitVec 32 := Scalar.muli arg11 c32_i32
  let v93 : BitVec 32 := Scalar.addi v92 c0_i32_54
  let c256_i32 : BitVec 32 := 256#32
  let v94 : BitVec 32 := Scalar.muli v93 c256_i32
  let v95 : BitVec 32 := v94
  let v96 : Index := Scalar.indexCast v95
  let c0_55 : Index := 0#32
  ![v96.toNat, 0]
def k0_off4 (k0_t2 : Fin k0_t2_loop.trips) (c0_i32_54 : BitVec 32) : Fin 2 → Nat :=
  let c0_56 : Index := 0#32
  let c0_i32_11 : BitVec 32 := 0#32
  let c1_i32 : BitVec 32 := 1#32
  let arg11 : BitVec 32 := Scf.iv c0_i32_11 c1_i32 k0_t2
  let c32_i32 : BitVec 32 := 32#32
  let v92 : BitVec 32 := Scalar.muli arg11 c32_i32
  let v93 : BitVec 32 := Scalar.addi v92 c0_i32_54
  let c256_i32 : BitVec 32 := 256#32
  let v94 : BitVec 32 := Scalar.muli v93 c256_i32
  let v95 : BitVec 32 := v94
  let v98 : Index := Scalar.indexCast v95
  ![0, v98.toNat]
def k0_mult3 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_57 : BitVec 32 := 32#32
  let v101 : BitVec 32 := Scalar.muli arg11 c32_i32_57
  let c1_i32_58 : BitVec 32 := 1#32
  let v102 : BitVec 32 := Scalar.addi v101 c1_i32_58
  let c256_i32_59 : BitVec 32 := 256#32
  let v103 : BitVec 32 := Scalar.muli v102 c256_i32_59
  v103
def k0_mult4 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_62 : BitVec 32 := 32#32
  let v110 : BitVec 32 := Scalar.muli arg11 c32_i32_62
  let c2_i32_63 : BitVec 32 := 2#32
  let v111 : BitVec 32 := Scalar.addi v110 c2_i32_63
  let c256_i32_64 : BitVec 32 := 256#32
  let v112 : BitVec 32 := Scalar.muli v111 c256_i32_64
  v112
def k0_mult5 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_67 : BitVec 32 := 32#32
  let v119 : BitVec 32 := Scalar.muli arg11 c32_i32_67
  let c3_i32 : BitVec 32 := 3#32
  let v120 : BitVec 32 := Scalar.addi v119 c3_i32
  let c256_i32_68 : BitVec 32 := 256#32
  let v121 : BitVec 32 := Scalar.muli v120 c256_i32_68
  v121
def k0_mult6 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_71 : BitVec 32 := 32#32
  let v128 : BitVec 32 := Scalar.muli arg11 c32_i32_71
  let c4_i32_72 : BitVec 32 := 4#32
  let v129 : BitVec 32 := Scalar.addi v128 c4_i32_72
  let c256_i32_73 : BitVec 32 := 256#32
  let v130 : BitVec 32 := Scalar.muli v129 c256_i32_73
  v130
def k0_mult7 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_76 : BitVec 32 := 32#32
  let v137 : BitVec 32 := Scalar.muli arg11 c32_i32_76
  let c5_i32 : BitVec 32 := 5#32
  let v138 : BitVec 32 := Scalar.addi v137 c5_i32
  let c256_i32_77 : BitVec 32 := 256#32
  let v139 : BitVec 32 := Scalar.muli v138 c256_i32_77
  v139
def k0_mult8 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_80 : BitVec 32 := 32#32
  let v146 : BitVec 32 := Scalar.muli arg11 c32_i32_80
  let c6_i32 : BitVec 32 := 6#32
  let v147 : BitVec 32 := Scalar.addi v146 c6_i32
  let c256_i32_81 : BitVec 32 := 256#32
  let v148 : BitVec 32 := Scalar.muli v147 c256_i32_81
  v148
def k0_mult9 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_84 : BitVec 32 := 32#32
  let v155 : BitVec 32 := Scalar.muli arg11 c32_i32_84
  let c7_i32 : BitVec 32 := 7#32
  let v156 : BitVec 32 := Scalar.addi v155 c7_i32
  let c256_i32_85 : BitVec 32 := 256#32
  let v157 : BitVec 32 := Scalar.muli v156 c256_i32_85
  v157
def k0_mult10 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_88 : BitVec 32 := 32#32
  let v164 : BitVec 32 := Scalar.muli arg11 c32_i32_88
  let c8_i32 : BitVec 32 := 8#32
  let v165 : BitVec 32 := Scalar.addi v164 c8_i32
  let c256_i32_89 : BitVec 32 := 256#32
  let v166 : BitVec 32 := Scalar.muli v165 c256_i32_89
  v166
def k0_mult11 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_92 : BitVec 32 := 32#32
  let v173 : BitVec 32 := Scalar.muli arg11 c32_i32_92
  let c9_i32 : BitVec 32 := 9#32
  let v174 : BitVec 32 := Scalar.addi v173 c9_i32
  let c256_i32_93 : BitVec 32 := 256#32
  let v175 : BitVec 32 := Scalar.muli v174 c256_i32_93
  v175
def k0_mult12 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_96 : BitVec 32 := 32#32
  let v182 : BitVec 32 := Scalar.muli arg11 c32_i32_96
  let c10_i32 : BitVec 32 := 10#32
  let v183 : BitVec 32 := Scalar.addi v182 c10_i32
  let c256_i32_97 : BitVec 32 := 256#32
  let v184 : BitVec 32 := Scalar.muli v183 c256_i32_97
  v184
def k0_mult13 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_100 : BitVec 32 := 32#32
  let v191 : BitVec 32 := Scalar.muli arg11 c32_i32_100
  let c11_i32 : BitVec 32 := 11#32
  let v192 : BitVec 32 := Scalar.addi v191 c11_i32
  let c256_i32_101 : BitVec 32 := 256#32
  let v193 : BitVec 32 := Scalar.muli v192 c256_i32_101
  v193
def k0_mult14 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_104 : BitVec 32 := 32#32
  let v200 : BitVec 32 := Scalar.muli arg11 c32_i32_104
  let c12_i32 : BitVec 32 := 12#32
  let v201 : BitVec 32 := Scalar.addi v200 c12_i32
  let c256_i32_105 : BitVec 32 := 256#32
  let v202 : BitVec 32 := Scalar.muli v201 c256_i32_105
  v202
def k0_mult15 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_108 : BitVec 32 := 32#32
  let v209 : BitVec 32 := Scalar.muli arg11 c32_i32_108
  let c13_i32 : BitVec 32 := 13#32
  let v210 : BitVec 32 := Scalar.addi v209 c13_i32
  let c256_i32_109 : BitVec 32 := 256#32
  let v211 : BitVec 32 := Scalar.muli v210 c256_i32_109
  v211
def k0_mult16 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_112 : BitVec 32 := 32#32
  let v218 : BitVec 32 := Scalar.muli arg11 c32_i32_112
  let c14_i32 : BitVec 32 := 14#32
  let v219 : BitVec 32 := Scalar.addi v218 c14_i32
  let c256_i32_113 : BitVec 32 := 256#32
  let v220 : BitVec 32 := Scalar.muli v219 c256_i32_113
  v220
def k0_mult17 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_116 : BitVec 32 := 32#32
  let v227 : BitVec 32 := Scalar.muli arg11 c32_i32_116
  let c15_i32 : BitVec 32 := 15#32
  let v228 : BitVec 32 := Scalar.addi v227 c15_i32
  let c256_i32_117 : BitVec 32 := 256#32
  let v229 : BitVec 32 := Scalar.muli v228 c256_i32_117
  v229
def k0_mult18 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_120 : BitVec 32 := 32#32
  let v236 : BitVec 32 := Scalar.muli arg11 c32_i32_120
  let c16_i32 : BitVec 32 := 16#32
  let v237 : BitVec 32 := Scalar.addi v236 c16_i32
  let c256_i32_121 : BitVec 32 := 256#32
  let v238 : BitVec 32 := Scalar.muli v237 c256_i32_121
  v238
def k0_mult19 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_124 : BitVec 32 := 32#32
  let v245 : BitVec 32 := Scalar.muli arg11 c32_i32_124
  let c17_i32 : BitVec 32 := 17#32
  let v246 : BitVec 32 := Scalar.addi v245 c17_i32
  let c256_i32_125 : BitVec 32 := 256#32
  let v247 : BitVec 32 := Scalar.muli v246 c256_i32_125
  v247
def k0_mult20 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_128 : BitVec 32 := 32#32
  let v254 : BitVec 32 := Scalar.muli arg11 c32_i32_128
  let c18_i32 : BitVec 32 := 18#32
  let v255 : BitVec 32 := Scalar.addi v254 c18_i32
  let c256_i32_129 : BitVec 32 := 256#32
  let v256 : BitVec 32 := Scalar.muli v255 c256_i32_129
  v256
def k0_mult21 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_132 : BitVec 32 := 32#32
  let v263 : BitVec 32 := Scalar.muli arg11 c32_i32_132
  let c19_i32 : BitVec 32 := 19#32
  let v264 : BitVec 32 := Scalar.addi v263 c19_i32
  let c256_i32_133 : BitVec 32 := 256#32
  let v265 : BitVec 32 := Scalar.muli v264 c256_i32_133
  v265
def k0_mult22 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_136 : BitVec 32 := 32#32
  let v272 : BitVec 32 := Scalar.muli arg11 c32_i32_136
  let c20_i32 : BitVec 32 := 20#32
  let v273 : BitVec 32 := Scalar.addi v272 c20_i32
  let c256_i32_137 : BitVec 32 := 256#32
  let v274 : BitVec 32 := Scalar.muli v273 c256_i32_137
  v274
def k0_mult23 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_140 : BitVec 32 := 32#32
  let v281 : BitVec 32 := Scalar.muli arg11 c32_i32_140
  let c21_i32 : BitVec 32 := 21#32
  let v282 : BitVec 32 := Scalar.addi v281 c21_i32
  let c256_i32_141 : BitVec 32 := 256#32
  let v283 : BitVec 32 := Scalar.muli v282 c256_i32_141
  v283
def k0_mult24 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_144 : BitVec 32 := 32#32
  let v290 : BitVec 32 := Scalar.muli arg11 c32_i32_144
  let c22_i32 : BitVec 32 := 22#32
  let v291 : BitVec 32 := Scalar.addi v290 c22_i32
  let c256_i32_145 : BitVec 32 := 256#32
  let v292 : BitVec 32 := Scalar.muli v291 c256_i32_145
  v292
def k0_mult25 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_148 : BitVec 32 := 32#32
  let v299 : BitVec 32 := Scalar.muli arg11 c32_i32_148
  let c23_i32 : BitVec 32 := 23#32
  let v300 : BitVec 32 := Scalar.addi v299 c23_i32
  let c256_i32_149 : BitVec 32 := 256#32
  let v301 : BitVec 32 := Scalar.muli v300 c256_i32_149
  v301
def k0_mult26 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_152 : BitVec 32 := 32#32
  let v308 : BitVec 32 := Scalar.muli arg11 c32_i32_152
  let c24_i32 : BitVec 32 := 24#32
  let v309 : BitVec 32 := Scalar.addi v308 c24_i32
  let c256_i32_153 : BitVec 32 := 256#32
  let v310 : BitVec 32 := Scalar.muli v309 c256_i32_153
  v310
def k0_mult27 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_156 : BitVec 32 := 32#32
  let v317 : BitVec 32 := Scalar.muli arg11 c32_i32_156
  let c25_i32 : BitVec 32 := 25#32
  let v318 : BitVec 32 := Scalar.addi v317 c25_i32
  let c256_i32_157 : BitVec 32 := 256#32
  let v319 : BitVec 32 := Scalar.muli v318 c256_i32_157
  v319
def k0_mult28 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_160 : BitVec 32 := 32#32
  let v326 : BitVec 32 := Scalar.muli arg11 c32_i32_160
  let c26_i32 : BitVec 32 := 26#32
  let v327 : BitVec 32 := Scalar.addi v326 c26_i32
  let c256_i32_161 : BitVec 32 := 256#32
  let v328 : BitVec 32 := Scalar.muli v327 c256_i32_161
  v328
def k0_mult29 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_164 : BitVec 32 := 32#32
  let v335 : BitVec 32 := Scalar.muli arg11 c32_i32_164
  let c27_i32 : BitVec 32 := 27#32
  let v336 : BitVec 32 := Scalar.addi v335 c27_i32
  let c256_i32_165 : BitVec 32 := 256#32
  let v337 : BitVec 32 := Scalar.muli v336 c256_i32_165
  v337
def k0_mult30 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_168 : BitVec 32 := 32#32
  let v344 : BitVec 32 := Scalar.muli arg11 c32_i32_168
  let c28_i32 : BitVec 32 := 28#32
  let v345 : BitVec 32 := Scalar.addi v344 c28_i32
  let c256_i32_169 : BitVec 32 := 256#32
  let v346 : BitVec 32 := Scalar.muli v345 c256_i32_169
  v346
def k0_mult31 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_172 : BitVec 32 := 32#32
  let v353 : BitVec 32 := Scalar.muli arg11 c32_i32_172
  let c29_i32 : BitVec 32 := 29#32
  let v354 : BitVec 32 := Scalar.addi v353 c29_i32
  let c256_i32_173 : BitVec 32 := 256#32
  let v355 : BitVec 32 := Scalar.muli v354 c256_i32_173
  v355
def k0_mult32 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_176 : BitVec 32 := 32#32
  let v362 : BitVec 32 := Scalar.muli arg11 c32_i32_176
  let c30_i32 : BitVec 32 := 30#32
  let v363 : BitVec 32 := Scalar.addi v362 c30_i32
  let c256_i32_177 : BitVec 32 := 256#32
  let v364 : BitVec 32 := Scalar.muli v363 c256_i32_177
  v364
def k0_mult33 (k0_t2 : Fin k0_t2_loop.trips) : BitVec 32 :=
  let c0_i32_11 : BitVec 32 := 0#32
  let c1_i32 : BitVec 32 := 1#32
  let arg11 : BitVec 32 := Scf.iv c0_i32_11 c1_i32 k0_t2
  let c32_i32_180 : BitVec 32 := 32#32
  let v371 : BitVec 32 := Scalar.muli arg11 c32_i32_180
  let c31_i32 : BitVec 32 := 31#32
  let v372 : BitVec 32 := Scalar.addi v371 c31_i32
  let c256_i32_181 : BitVec 32 := 256#32
  let v373 : BitVec 32 := Scalar.muli v372 c256_i32_181
  v373
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S80x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "neg_init" => some ⊥
  | "q_scale" => some (((1 / 8) * (Real.log 2)⁻¹ : ℝ) : EReal)
  | _ => none
-- ==== ReferenceIdeal.lean ====
abbrev S2x16384x12x64 : Shape := ⟨4, ![2, 16384, 12, 64]⟩
abbrev S2x16384x3x64 : Shape := ⟨4, ![2, 16384, 3, 64]⟩
abbrev S2x16384x3x4x64 : Shape := ⟨5, ![2, 16384, 3, 4, 64]⟩
abbrev S2x3x16384x16384x4 : Shape := ⟨5, ![2, 3, 16384, 16384, 4]⟩
abbrev S2x3x4x16384x16384 : Shape := ⟨5, ![2, 3, 4, 16384, 16384]⟩
abbrev S_ : Shape := ⟨0, ![]⟩
abbrev S2x3x4x16384 : Shape := ⟨4, ![2, 3, 4, 16384]⟩
abbrev S2x3x4x16384x1 : Shape := ⟨5, ![2, 3, 4, 16384, 1]⟩
abbrev S2x3x64x4x16384 : Shape := ⟨5, ![2, 3, 64, 4, 16384]⟩
abbrev S32768x768 : Shape := ⟨2, ![32768, 768]⟩
abbrev S768x32768 : Shape := ⟨2, ![768, 32768]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x12x64, .f32⟩
  | .hbm, ⟨1, _⟩ => ⟨S2x16384x3x64, .f32⟩
  | .hbm, ⟨2, _⟩ => ⟨S2x16384x3x64, .f32⟩
  | .hbm, ⟨3, _⟩ => ⟨S2x16384x3x4x64, .f32⟩
  | .hbm, ⟨4, _⟩ => ⟨S2x3x16384x16384x4, .f32⟩
  | .hbm, ⟨5, _⟩ => ⟨S2x3x4x16384x16384, .f32⟩
  | .hbm, ⟨6, _⟩ => ⟨S_, .f32⟩
  | .hbm, ⟨7, _⟩ => ⟨S2x3x4x16384x16384, .f32⟩
  | .hbm, ⟨8, _⟩ => ⟨S2x3x4x16384x16384, .f32⟩
  | .hbm, ⟨9, _⟩ => ⟨S_, .f32⟩
  | .hbm, ⟨10, _⟩ => ⟨S2x3x4x16384, .f32⟩
  | .hbm, ⟨11, _⟩ => ⟨S_, .f32⟩
  | .hbm, ⟨12, _⟩ => ⟨S2x3x4x16384, .f32⟩
  | .hbm, ⟨13, _⟩ => ⟨S2x3x4x16384, .f32⟩
  | .hbm, ⟨14, _⟩ => ⟨S2x3x4x16384x1, .f32⟩
  | .hbm, ⟨15, _⟩ => ⟨S2x3x4x16384x16384, .f32⟩
  | .hbm, ⟨16, _⟩ => ⟨S2x3x4x16384x16384, .f32⟩
  | .hbm, ⟨17, _⟩ => ⟨S2x3x4x16384x16384, .f32⟩
  | .hbm, ⟨18, _⟩ => ⟨S_, .f32⟩
  | .hbm, ⟨19, _⟩ => ⟨S2x3x4x16384, .f32⟩
  | .hbm, ⟨20, _⟩ => ⟨S2x3x4x16384x1, .f32⟩
  | .hbm, ⟨21, _⟩ => ⟨S2x3x4x16384x16384, .f32⟩
  | .hbm, ⟨22, _⟩ => ⟨S2x3x4x16384x16384, .f32⟩
  | .hbm, ⟨23, _⟩ => ⟨S2x3x64x4x16384, .f32⟩
  | .hbm, ⟨24, _⟩ => ⟨S2x16384x3x4x64, .f32⟩
  | .hbm, ⟨25, _⟩ => ⟨S32768x768, .f32⟩
  | .hbm, ⟨26, _⟩ => ⟨S768x32768, .f32⟩
  | .hbm, ⟨27, _⟩ => ⟨S768x32768, .bf16⟩
  | _, _ => ⟨S2x16384x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S1024x32768 : Shape := ⟨2, ![1024, 32768]⟩
abbrev S5632x1024 : Shape := ⟨2, ![5632, 1024]⟩
abbrev S2x11x256x1024 : Shape := ⟨4, ![2, 11, 256, 1024]⟩
abbrev S11x2x256x1024 : Shape := ⟨4, ![11, 2, 256, 1024]⟩
abbrev S1024x2816 : Shape := ⟨2, ![1024, 2816]⟩
abbrev S1024x1 : Shape := ⟨2, ![1024, 1]⟩
abbrev S1024x512 : Shape := ⟨2, ![1024, 512]⟩
abbrev S512x1024 : Shape := ⟨2, ![512, 1024]⟩
abbrev S512 : Shape := ⟨1, ![512]⟩
abbrev S1x512 : Shape := ⟨2, ![1, 512]⟩
abbrev S512x512 : Shape := ⟨2, ![512, 512]⟩
abbrev S256x512 : Shape := ⟨2, ![256, 512]⟩
abbrev S1024x256 : Shape := ⟨2, ![1024, 256]⟩

abbrev nBuf : Space → Nat
  | .hbm => 17
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x32768, .f32⟩
  | .hbm, ⟨7, _⟩ => ⟨S5632x1024, .f32⟩
  | .hbm, ⟨8, _⟩ => ⟨S5632x1024, .bf16⟩
  | .hbm, ⟨9, _⟩ => ⟨S2x11x256x1024, .bf16⟩
  | .hbm, ⟨10, _⟩ => ⟨S11x2x256x1024, .bf16⟩
  | .hbm, ⟨11, _⟩ => ⟨S5632x1024, .bf16⟩
  | .hbm, ⟨12, _⟩ => ⟨S1024x2816, .f32⟩
  | .hbm, ⟨13, _⟩ => ⟨S1024x2816, .bf16⟩
  | .hbm, ⟨14, _⟩ => ⟨S1024x1, .f32⟩
  | .hbm, ⟨15, _⟩ => ⟨S1024x1, .f32⟩
  | .hbm, ⟨16, _⟩ => ⟨S32768x1024, .f32⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S5632x1024, .bf16⟩
  | .local _ .vmem, ⟨4, _⟩ => ⟨S1024x2816, .bf16⟩
  | .local _ .vmem, ⟨5, _⟩ => ⟨S1024x1, .f32⟩
  | .local _ .vmem, ⟨6, _⟩ => ⟨S512x1024, .f32⟩
  | .local _ .vmem, ⟨7, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x16384x1024 : Shape := ⟨3, ![2, 16384, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x5632, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S_, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x1024, .f32⟩
  | .hbm, ⟨47, _⟩ => ⟨S2x16384x1024, .f32⟩
  | .hbm, ⟨48, _⟩ => ⟨S1x1x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x768 : Shape := ⟨3, ![2, 16384, 768]⟩
abbrev S2x16384x4x64 : Shape := ⟨4, ![2, 16384, 4, 64]⟩
abbrev S2x256x4x64 : Shape := ⟨4, ![2, 256, 4, 64]⟩
abbrev S1024x1024 : Shape := ⟨2, ![1024, 1024]⟩
abbrev S1024 : Shape := ⟨1, ![1024]⟩
abbrev S32768x1024 : Shape := ⟨2, ![32768, 1024]⟩
abbrev S1024x32768 : Shape := ⟨2, ![1024, 32768]⟩
abbrev S32768x768 : Shape := ⟨2, ![32768, 768]⟩
abbrev S768x32768 : Shape := ⟨2, ![768, 32768]⟩
abbrev S32768x256 : Shape := ⟨2, ![32768, 256]⟩
abbrev S256x32768 : Shape := ⟨2, ![256, 32768]⟩
abbrev S2x4x256x64 : Shape := ⟨4, ![2, 4, 256, 64]⟩
abbrev S2x4x16x256 : Shape := ⟨4, ![2, 4, 16, 256]⟩
abbrev S_ : Shape := ⟨0, ![]⟩
abbrev S2x4x64x256 : Shape := ⟨4, ![2, 4, 64, 256]⟩
abbrev S2x4x80x256 : Shape := ⟨4, ![2, 4, 80, 256]⟩
abbrev S1024x1 : Shape := ⟨2, ![1024, 1]⟩
abbrev S768x1024 : Shape := ⟨2, ![768, 1024]⟩
abbrev S256x1024 : Shape := ⟨2, ![256, 1024]⟩
abbrev S1x4x256x64 : Shape := ⟨4, ![1, 4, 256, 64]⟩
abbrev S1x4x80x256 : Shape := ⟨4, ![1, 4, 80, 256]⟩
abbrev S64x256 : Shape := ⟨2, ![64, 256]⟩
abbrev S1x1x256x64 : Shape := ⟨4, ![1, 1, 256, 64]⟩
abbrev S256x64 : Shape := ⟨2, ![256, 64]⟩
abbrev S256x256 : Shape := ⟨2, ![256, 256]⟩
abbrev S32x8x256 : Shape := ⟨3, ![32, 8, 256]⟩
abbrev S256x768 : Shape := ⟨2, ![256, 768]⟩
abbrev S768x256 : Shape := ⟨2, ![768, 256]⟩
abbrev S1x1x80x256 : Shape := ⟨4, ![1, 1, 80, 256]⟩
abbrev S80x256 : Shape := ⟨2, ![80, 256]⟩
abbrev S8x256 : Shape := ⟨2, ![8, 256]⟩
abbrev S1x8x256 : Shape := ⟨3, ![1, 8, 256]⟩
abbrev S8x8x256 : Shape := ⟨3, ![8, 8, 256]⟩
abbrev S64x1024 : Shape := ⟨2, ![64, 1024]⟩
abbrev S1024x256 : Shape := ⟨2, ![1024, 256]⟩
abbrev S1x1024 : Shape := ⟨2, ![1, 1024]⟩

abbrev nBuf : Space → Nat
  | .hbm => 34
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x4x64, .f32⟩
  | .hbm, ⟨3, _⟩ => ⟨S2x256x4x64, .f32⟩
  | .hbm, ⟨4, _⟩ => ⟨S2x256x4x64, .f32⟩
  | .hbm, ⟨5, _⟩ => ⟨S1024x1024, .f32⟩
  | .hbm, ⟨6, _⟩ => ⟨S1024, .f32⟩
  | .hbm, ⟨7, _⟩ => ⟨S32768x1024, .f32⟩
  | .hbm, ⟨8, _⟩ => ⟨S1024x32768, .f32⟩
  | .hbm, ⟨9, _⟩ => ⟨S32768x768, .f32⟩
  | .hbm, ⟨10, _⟩ => ⟨S768x32768, .f32⟩
  | .hbm, ⟨11, _⟩ => ⟨S768x32768, .bf16⟩
  | .hbm, ⟨12, _⟩ => ⟨S32768x256, .f32⟩
  | .hbm, ⟨13, _⟩ => ⟨S256x32768, .f32⟩
  | .hbm, ⟨14, _⟩ => ⟨S256x32768, .bf16⟩
  | .hbm, ⟨15, _⟩ => ⟨S2x4x256x64, .f32⟩
  | .hbm, ⟨16, _⟩ => ⟨S2x4x256x64, .bf16⟩
  | .hbm, ⟨17, _⟩ => ⟨S2x4x16x256, .i32⟩
  | .hbm, ⟨18, _⟩ => ⟨S_, .i32⟩
  | .hbm, ⟨19, _⟩ => ⟨S2x4x16x256, .i32⟩
  | .hbm, ⟨20, _⟩ => ⟨S2x4x16x256, .i1⟩
  | .hbm, ⟨21, _⟩ => ⟨S_, .f32⟩
  | .hbm, ⟨22, _⟩ => ⟨S_, .f32⟩
  | .hbm, ⟨23, _⟩ => ⟨S2x4x16x256, .f32⟩
  | .hbm, ⟨24, _⟩ => ⟨S2x4x16x256, .f32⟩
  | .hbm, ⟨25, _⟩ => ⟨S2x4x16x256, .f32⟩
  | .hbm, ⟨26, _⟩ => ⟨S2x4x16x256, .bf16⟩
  | .hbm, ⟨27, _⟩ => ⟨S2x4x64x256, .f32⟩
  | .hbm, ⟨28, _⟩ => ⟨S2x4x64x256, .bf16⟩
  | .hbm, ⟨29, _⟩ => ⟨S2x4x80x256, .bf16⟩
  | .hbm, ⟨30, _⟩ => ⟨S1024x1024, .f32⟩
  | .hbm, ⟨31, _⟩ => ⟨S1024x1024, .bf16⟩
  | .hbm, ⟨32, _⟩ => ⟨S1024x1, .f32⟩
  | .hbm, ⟨33, _⟩ => ⟨S1024x32768, .f32⟩
  | .local _ .vmem, ⟨0, _⟩ => ⟨S1024x1024, .f32⟩
  | .local _ .vmem, ⟨1, _⟩ => ⟨S1024x1024, .f32⟩
  | .local _ .vmem, ⟨2, _⟩ => ⟨S768x1024, .bf16⟩
  | .local _ .vmem, ⟨3, _⟩ => ⟨S768x1024, .bf16⟩
  | .local _ .vmem, ⟨4, _⟩ => ⟨S256x1024, .bf16⟩
  | .local _ .vmem, ⟨5, _⟩ => ⟨S256x1024, .bf16⟩
  | .local _ .vmem, ⟨6, _⟩ => ⟨S1x4x256x64, .bf16⟩
  | .local _ .vmem, ⟨7, _⟩ => ⟨S1x4x256x64, .bf16⟩
  | .local _ .vmem, ⟨8, _⟩ => ⟨S1x4x80x256, .bf16⟩
  | .local _ .vmem, ⟨9, _⟩ => ⟨S1x4x80x256, .bf16⟩
  | .local _ .vmem, ⟨10, _⟩ => ⟨S1024x1024, .bf16⟩
  | .local _ .vmem, ⟨11, _⟩ => ⟨S1024x1, .f32⟩
  | .local _ .vmem, ⟨12, _⟩ => ⟨S1024x1024, .f32⟩
  | .local _ .vmem, ⟨13, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "neg_init" => some ⊥
  | "q_scale" => some (((1 / 8) * (Real.log 2)⁻¹ : ℝ) : EReal)
  | _ => none
-- ==== Reference3Ideal.lean ====
abbrev S2x16384x1024 : Shape := ⟨3, ![2, 16384, 1024]⟩
abbrev S2x16384x768 : Shape := ⟨3, ![2, 16384, 768]⟩
abbrev S2x16384x4x64 : Shape := ⟨4, ![2, 16384, 4, 64]⟩
abbrev S2x256x4x64 : Shape := ⟨4, ![2, 256, 4, 64]⟩
abbrev S1024x1024 : Shape := ⟨2, ![1024, 1024]⟩
abbrev S1024 : Shape := ⟨1, ![1024]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x256 : Shape := ⟨3, ![2, 16384, 256]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩
abbrev S1024x32768 : Shape := ⟨2, ![1024, 32768]⟩

abbrev nBuf : Space → Nat
  | .hbm => 49
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x4x64, .f32⟩
  | .hbm, ⟨3, _⟩ => ⟨S2x256x4x64, .f32⟩
  | .hbm, ⟨4, _⟩ => ⟨S2x256x4x64, .f32⟩
  | .hbm, ⟨5, _⟩ => ⟨S1024x1024, .f32⟩
  | .hbm, ⟨6, _⟩ => ⟨S1024, .f32⟩
  | .hbm, ⟨7, _⟩ => ⟨S2x4x16384x256, .f32⟩
  | .hbm, ⟨8, _⟩ => ⟨S_, .f32⟩
  | .hbm, ⟨9, _⟩ => ⟨S2x4x16384x256, .f32⟩
  | .hbm, ⟨10, _⟩ => ⟨S2x4x16384x256, .f32⟩
  | .hbm, ⟨11, _⟩ => ⟨S_, .f32⟩
  | .hbm, ⟨12, _⟩ => ⟨S2x4x16384, .f32⟩
  | .hbm, ⟨13, _⟩ => ⟨S_, .f32⟩
  | .hbm, ⟨14, _⟩ => ⟨S2x4x16384, .f32⟩
  | .hbm, ⟨15, _⟩ => ⟨S2x4x16384, .f32⟩
  | .hbm, ⟨16, _⟩ => ⟨S2x4x16384x1, .f32⟩
  | .hbm, ⟨17, _⟩ => ⟨S2x4x16384x256, .f32⟩
  | .hbm, ⟨18, _⟩ => ⟨S2x4x16384x256, .f32⟩
  | .hbm, ⟨19, _⟩ => ⟨S2x4x16384x256, .f32⟩
  | .hbm, ⟨20, _⟩ => ⟨S_, .f32⟩
  | .hbm, ⟨21, _⟩ => ⟨S2x4x16384, .f32⟩
  | .hbm, ⟨22, _⟩ => ⟨S2x4x16384x1, .f32⟩
  | .hbm, ⟨23, _⟩ => ⟨S2x4x16384x256, .f32⟩
  | .hbm, ⟨24, _⟩ => ⟨S2x4x16384x256, .f32⟩
  | .hbm, ⟨25, _⟩ => ⟨S2x4x64x16384, .f32⟩
  | .hbm, ⟨26, _⟩ => ⟨S2x16384x4x64, .f32⟩
  | .hbm, ⟨27, _⟩ => ⟨S2x16384x256, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S_, .f32⟩
  | .hbm, ⟨32, _⟩ => ⟨S2x16384, .f32⟩
  | .hbm, ⟨33, _⟩ => ⟨S2x16384x1, .f32⟩
  | .hbm, ⟨34, _⟩ => ⟨S_, .f32⟩
  | .hbm, ⟨35, _⟩ => ⟨S2x16384x1, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S2x16384x1, .f32⟩
  | .hbm, ⟨41, _⟩ => ⟨S2x16384x1024, .f32⟩
  | .hbm, ⟨42, _⟩ => ⟨S2x16384x1024, .f32⟩
  | .hbm, ⟨43, _⟩ => ⟨S1x1x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S32768x1024, .f32⟩
  | .hbm, ⟨48, _⟩ => ⟨S1024x32768, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024x1408 : Shape := ⟨2, ![1024, 1408]⟩
abbrev S1024 : Shape := ⟨1, ![1024]⟩
abbrev S32768x1024 : Shape := ⟨2, ![32768, 1024]⟩
abbrev S1024x32768 : Shape := ⟨2, ![1024, 32768]⟩
abbrev S16384 : Shape := ⟨1, ![16384]⟩
abbrev S8 : Shape := ⟨1, ![8]⟩
abbrev S_ : Shape := ⟨0, ![]⟩
abbrev S8x1 : Shape := ⟨2, ![8, 1]⟩
abbrev S1x16384 : Shape := ⟨2, ![1, 16384]⟩
abbrev S8x16384 : Shape := ⟨2, ![8, 16384]⟩
abbrev S1408x1024 : Shape := ⟨2, ![1408, 1024]⟩
abbrev S1024x1 : Shape := ⟨2, ![1024, 1]⟩
abbrev S768x32768 : Shape := ⟨2, ![768, 32768]⟩
abbrev S192x32768 : Shape := ⟨2, ![192, 32768]⟩
abbrev S240x32768 : Shape := ⟨2, ![240, 32768]⟩
abbrev S256x32768 : Shape := ⟨2, ![256, 32768]⟩
abbrev S1024x512 : Shape := ⟨2, ![1024, 512]⟩
abbrev S8x512 : Shape := ⟨2, ![8, 512]⟩
abbrev S768x512 : Shape := ⟨2, ![768, 512]⟩
abbrev S192x512 : Shape := ⟨2, ![192, 512]⟩
abbrev S240x512 : Shape := ⟨2, ![240, 512]⟩
abbrev S256x512 : Shape := ⟨2, ![256, 512]⟩
abbrev S512 : Shape := ⟨1, ![512]⟩
abbrev S1x512 : Shape := ⟨2, ![1, 512]⟩
abbrev S1408x512 : Shape := ⟨2, ![1408, 512]⟩
abbrev S64x512 : Shape := ⟨2, ![64, 512]⟩
abbrev S48x512 : Shape := ⟨2, ![48, 512]⟩
abbrev S16x512 : Shape := ⟨2, ![16, 512]⟩

abbrev nBuf : Space → Nat
  | .hbm => 35
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S1024x1408, .f32⟩
  | .hbm, ⟨2, _⟩ => ⟨S1024, .f32⟩
  | .hbm, ⟨3, _⟩ => ⟨S32768x1024, .f32⟩
  | .hbm, ⟨4, _⟩ => ⟨S1024x32768, .f32⟩
  | .hbm, ⟨5, _⟩ => ⟨S16384, .i32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S16384, .f32⟩
  | .hbm, ⟨22, _⟩ => ⟨S1x16384, .f32⟩
  | .hbm, ⟨23, _⟩ => ⟨S8x16384, .f32⟩
  | .hbm, ⟨24, _⟩ => ⟨S8x16384, .f32⟩
  | .hbm, ⟨25, _⟩ => ⟨S8x16384, .f32⟩
  | .hbm, ⟨26, _⟩ => ⟨S8x16384, .f32⟩
  | .hbm, ⟨27, _⟩ => ⟨S8x16384, .f32⟩
  | .hbm, ⟨28, _⟩ => ⟨S1408x1024, .f32⟩
  | .hbm, ⟨29, _⟩ => ⟨S1408x1024, .bf16⟩
  | .hbm, ⟨30, _⟩ => ⟨S1024x1, .f32⟩
  | .hbm, ⟨31, _⟩ => ⟨S768x32768, .bf16⟩
  | .hbm, ⟨32, _⟩ => ⟨S192x32768, .bf16⟩
  | .hbm, ⟨33, _⟩ => ⟨S240x32768, .bf16⟩
  | .hbm, ⟨34, _⟩ => ⟨S256x32768, .bf16⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S1408x1024, .bf16⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S768x512, .bf16⟩
  | .local _ .vmem, ⟨9, _⟩ => ⟨S768x512, .bf16⟩
  | .local _ .vmem, ⟨10, _⟩ => ⟨S192x512, .bf16⟩
  | .local _ .vmem, ⟨11, _⟩ => ⟨S192x512, .bf16⟩
  | .local _ .vmem, ⟨12, _⟩ => ⟨S240x512, .bf16⟩
  | .local _ .vmem, ⟨13, _⟩ => ⟨S240x512, .bf16⟩
  | .local _ .vmem, ⟨14, _⟩ => ⟨S256x512, .bf16⟩
  | .local _ .vmem, ⟨15, _⟩ => ⟨S256x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_v24_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S240x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
variable {F : FTy → Type} [FloatOps F] [Named F]
def κ : String → Option EReal := fun
  | "q_scale" => some (((1 / 8) * (Real.log 2)⁻¹ : ℝ) : EReal)
  | _ => none
-- ==== Reference4Ideal.lean ====
abbrev S2x16384x1024 : Shape := ⟨3, ![2, 16384, 1024]⟩
abbrev S1024x1408 : Shape := ⟨2, ![1024, 1408]⟩
abbrev S1024 : Shape := ⟨1, ![1024]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1408 : Shape := ⟨3, ![2, 16384, 1408]⟩
abbrev S2x16384x768 : Shape := ⟨3, ![2, 16384, 768]⟩
abbrev S2x16384x12x64 : Shape := ⟨4, ![2, 16384, 12, 64]⟩
abbrev S2x16384x192 : Shape := ⟨3, ![2, 16384, 192]⟩
abbrev S2x16384x3x64 : Shape := ⟨4, ![2, 16384, 3, 64]⟩
abbrev S2x16384x256 : Shape := ⟨3, ![2, 16384, 256]⟩
abbrev S2x16384x12x16 : Shape := ⟨4, ![2, 16384, 12, 16]⟩
abbrev S2x16384x12x8 : Shape := ⟨4, ![2, 16384, 12, 8]⟩
abbrev S16384x1x8 : Shape := ⟨3, ![16384, 1, 8]⟩
abbrev S1x16384x1x8 : Shape := ⟨4, ![1, 16384, 1, 8]⟩
abbrev S2x16384x12x48 : Shape := ⟨4, ![2, 16384, 12, 48]⟩
abbrev S2x16384x3x16 : Shape := ⟨4, ![2, 16384, 3, 16]⟩
abbrev S2x16384x3x8 : Shape := ⟨4, ![2, 16384, 3, 8]⟩
abbrev S2x16384x3x48 : Shape := ⟨4, ![2, 16384, 3, 48]⟩
abbrev S16 : Shape := ⟨1, ![16]⟩
abbrev S32768x768 : Shape := ⟨2, ![32768, 768]⟩
abbrev S768x32768 : Shape := ⟨2, ![768, 32768]⟩
abbrev S32768x192 : Shape := ⟨2, ![32768, 192]⟩
abbrev S192x32768 : Shape := ⟨2, ![192, 32768]⟩
abbrev S2x16384x3x80 : Shape := ⟨4, ![2, 16384, 3, 80]⟩
abbrev S32768x240 : Shape := ⟨2, ![32768, 240]⟩
abbrev S240x32768 : Shape := ⟨2, ![240, 32768]⟩
abbrev S32768x256 : Shape := ⟨2, ![32768, 256]⟩
abbrev S256x32768 : Shape := ⟨2, ![256, 32768]⟩

abbrev nBuf : Space → Nat
  | .hbm => 130
  | .vmem => 0
  | .smem => 0
  | _ => 0

abbrev hbmTy0_0 (i : Nat) : BufTy := match i % 128 with
  | 0 => ⟨S2x16384x1024, .f32⟩
  | 1 => ⟨S1024x1408, .f32⟩
  | 2 => ⟨S1024, .f32⟩
  | 3 => ⟨S16384, .i32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S16384, .f32⟩
  | 19 => ⟨S16384x1, .f32⟩
  | 20 => ⟨S1x8, .f32⟩
  | 21 => ⟨S16384x8, .f32⟩
  | 22 => ⟨S16384x8, .f32⟩
  | 23 => ⟨S16384x8, .f32⟩
  | 24 => ⟨S16384x8, .f32⟩
  | 25 => ⟨S16384x8, .f32⟩
  | 26 => ⟨S2x16384x1024, .f32⟩
  | 27 => ⟨S_, .f32⟩
  | 28 => ⟨S2x16384, .f32⟩
  | 29 => ⟨S2x16384x1, .f32⟩
  | 30 => ⟨S_, .f32⟩
  | 31 => ⟨S2x16384x1, .f32⟩
  | 32 => ⟨S2x16384x1, .f32⟩
  | 33 => ⟨S_, .f32⟩
  | 34 => ⟨S2x16384x1, .f32⟩
  | 35 => ⟨S2x16384x1, .f32⟩
  | 36 => ⟨S2x16384x1, .f32⟩
  | 37 => ⟨S2x16384x1024, .f32⟩
  | 38 => ⟨S2x16384x1024, .f32⟩
  | 39 => ⟨S1x1x1024, .f32⟩
  | 40 => ⟨S2x16384x1024, .f32⟩
  | 41 => ⟨S2x16384x1024, .f32⟩
  | 42 => ⟨S2x16384x1408, .f32⟩
  | 43 => ⟨S2x16384x768, .f32⟩
  | 44 => ⟨S2x16384x12x64, .f32⟩
  | 45 => ⟨S2x16384x192, .f32⟩
  | 46 => ⟨S2x16384x3x64, .f32⟩
  | 47 => ⟨S2x16384x192, .f32⟩
  | 48 => ⟨S2x16384x3x64, .f32⟩
  | 49 => ⟨S2x16384x256, .f32⟩
  | 50 => ⟨S2x16384x12x16, .f32⟩
  | 51 => ⟨S2x16384x12x8, .f32⟩
  | 52 => ⟨S2x16384x12x8, .f32⟩
  | 53 => ⟨S16384x1x8, .f32⟩
  | 54 => ⟨S16384x1x8, .f32⟩
  | 55 => ⟨S1x16384x1x8, .f32⟩
  | 56 => ⟨S2x16384x12x8, .f32⟩
  | 57 => ⟨S2x16384x12x8, .f32⟩
  | 58 => ⟨S1x16384x1x8, .f32⟩
  | 59 => ⟨S2x16384x12x8, .f32⟩
  | 60 => ⟨S2x16384x12x8, .f32⟩
  | 61 => ⟨S2x16384x12x8, .f32⟩
  | 62 => ⟨S1x16384x1x8, .f32⟩
  | 63 => ⟨S2x16384x12x8, .f32⟩
  | 64 => ⟨S2x16384x12x8, .f32⟩
  | 65 => ⟨S1x16384x1x8, .f32⟩
  | 66 => ⟨S2x16384x12x8, .f32⟩
  | 67 => ⟨S2x16384x12x8, .f32⟩
  | 68 => ⟨S2x16384x12x8, .f32⟩
  | 69 => ⟨S2x16384x12x16, .f32⟩
  | 70 => ⟨S2x16384x12x48, .f32⟩
  | 71 => ⟨S2x16384x12x64, .f32⟩
  | 72 => ⟨S2x16384x3x16, .f32⟩
  | 73 => ⟨S2x16384x3x8, .f32⟩
  | 74 => ⟨S2x16384x3x8, .f32⟩
  | 75 => ⟨S16384x1x8, .f32⟩
  | 76 => ⟨S16384x1x8, .f32⟩
  | 77 => ⟨S1x16384x1x8, .f32⟩
  | 78 => ⟨S2x16384x3x8, .f32⟩
  | 79 => ⟨S2x16384x3x8, .f32⟩
  | 80 => ⟨S1x16384x1x8, .f32⟩
  | 81 => ⟨S2x16384x3x8, .f32⟩
  | 82 => ⟨S2x16384x3x8, .f32⟩
  | 83 => ⟨S2x16384x3x8, .f32⟩
  | 84 => ⟨S1x16384x1x8, .f32⟩
  | 85 => ⟨S2x16384x3x8, .f32⟩
  | 86 => ⟨S2x16384x3x8, .f32⟩
  | 87 => ⟨S1x16384x1x8, .f32⟩
  | 88 => ⟨S2x16384x3x8, .f32⟩
  | 89 => ⟨S2x16384x3x8, .f32⟩
  | 90 => ⟨S2x16384x3x8, .f32⟩
  | 91 => ⟨S2x16384x3x16, .f32⟩
  | 92 => ⟨S2x16384x3x48, .f32⟩
  | 93 => ⟨S2x16384x3x64, .f32⟩
  | 94 => ⟨S_, .f32⟩
  | 95 => ⟨S_, .f32⟩
  | 96 => ⟨S16, .i32⟩
  | 97 => ⟨S_, .i32⟩
  | 98 => ⟨S16, .i32⟩
  | 99 => ⟨S16, .i1⟩
  | 100 => ⟨S_, .f32⟩
  | 101 => ⟨S_, .f32⟩
  | 102 => ⟨S16, .f32⟩
  | 103 => ⟨S16, .f32⟩
  | 104 => ⟨S16, .f32⟩
  | 105 => ⟨S2x16384x3x16, .f32⟩
  | 106 => ⟨S_, .f32⟩
  | 107 => ⟨S2x16384x12x64, .f32⟩
  | 108 => ⟨S2x16384x12x64, .f32⟩
  | 109 => ⟨S2x16384x12x64, .f32⟩
  | 110 => ⟨S2x16384x12x64, .f32⟩
  | 111 => ⟨S32768x768, .f32⟩
  | 112 => ⟨S768x32768, .f32⟩
  | 113 => ⟨S768x32768, .bf16⟩
  | 114 => ⟨S32768x192, .f32⟩
  | 115 => ⟨S192x32768, .f32⟩
  | 116 => ⟨S192x32768, .bf16⟩
  | 117 => ⟨S2x16384x3x16, .f32⟩
  | 118 => ⟨S2x16384x3x80, .f32⟩
  | 119 => ⟨S32768x240, .f32⟩
  | 120 => ⟨S240x32768, .f32⟩
  | 121 => ⟨S240x32768, .bf16⟩
  | 122 => ⟨S_, .f32⟩
  | 123 => ⟨S2x16384x256, .f32⟩
  | 124 => ⟨S2x16384x256, .f32⟩
  | 125 => ⟨S2x16384x256, .f32⟩
  | 126 => ⟨S2x16384x256, .f32⟩
  | 127 => ⟨S32768x256, .f32⟩
  | _ => ⟨S2x16384x1024, .f32⟩

abbrev hbmTy0_1 (i : Nat) : BufTy := match i % 128 with
  | 0 => ⟨S256x32768, .f32⟩
  | 1 => ⟨S256x32768, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_6 : Ref sig .tc := ⟨.hbm, 94, rfl⟩
abbrev main_v84 : Ref sig .tc := ⟨.hbm, 95, rfl⟩
abbrev main_v85 : Ref sig .tc := ⟨.hbm, 96, rfl⟩
abbrev main_c : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_cst_8 : Ref sig .tc := ⟨.hbm, 101, rfl⟩
abbrev main_call0_v0 : Ref sig .tc := ⟨.hbm, 102, rfl⟩
abbrev main_call0_v1 : Ref sig .tc := ⟨.hbm, 103, rfl⟩
abbrev main_v88 : Ref sig .tc := ⟨.hbm, 104, rfl⟩
abbrev main_v89 : Ref sig .tc := ⟨.hbm, 105, rfl⟩
abbrev main_cst_9 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_10 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024x1408 : Shape := ⟨2, ![1024, 1408]⟩
abbrev S1024 : Shape := ⟨1, ![1024]⟩
abbrev S16384 : Shape := ⟨1, ![16384]⟩
abbrev S8 : Shape := ⟨1, ![8]⟩
abbrev S_ : Shape := ⟨0, ![]⟩
abbrev S8x1 : Shape := ⟨2, ![8, 1]⟩
abbrev S1x16384 : Shape := ⟨2, ![1, 16384]⟩
abbrev S8x16384 : Shape := ⟨2, ![8, 16384]⟩
abbrev S1408x1024 : Shape := ⟨2, ![1408, 1024]⟩
abbrev S32768x1024 : Shape := ⟨2, ![32768, 1024]⟩
abbrev S1x1024 : Shape := ⟨2, ![1, 1024]⟩
abbrev S1024x32768 : Shape := ⟨2, ![1024, 32768]⟩
abbrev S768x32768 : Shape := ⟨2, ![768, 32768]⟩
abbrev S192x32768 : Shape := ⟨2, ![192, 32768]⟩
abbrev S240x32768 : Shape := ⟨2, ![240, 32768]⟩
abbrev S256x32768 : Shape := ⟨2, ![256, 32768]⟩
abbrev S512x1024 : Shape := ⟨2, ![512, 1024]⟩
abbrev S8x512 : Shape := ⟨2, ![8, 512]⟩
abbrev S1024x512 : Shape := ⟨2, ![1024, 512]⟩
abbrev S768x512 : Shape := ⟨2, ![768, 512]⟩
abbrev S192x512 : Shape := ⟨2, ![192, 512]⟩
abbrev S240x512 : Shape := ⟨2, ![240, 512]⟩
abbrev S256x512 : Shape := ⟨2, ![256, 512]⟩
abbrev S512 : Shape := ⟨1, ![512]⟩
abbrev S512x1 : Shape := ⟨2, ![512, 1]⟩
abbrev S1408x512 : Shape := ⟨2, ![1408, 512]⟩
abbrev S64x512 : Shape := ⟨2, ![64, 512]⟩
abbrev S48x512 : Shape := ⟨2, ![48, 512]⟩
abbrev S16x512 : Shape := ⟨2, ![16, 512]⟩

abbrev nBuf : Space → Nat
  | .hbm => 35
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S1024x1408, .f32⟩
  | .hbm, ⟨2, _⟩ => ⟨S1024, .f32⟩
  | .hbm, ⟨3, _⟩ => ⟨S16384, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8x1, .f32⟩
  | .hbm, ⟨19, _⟩ => ⟨S16384, .f32⟩
  | .hbm, ⟨20, _⟩ => ⟨S1x16384, .f32⟩
  | .hbm, ⟨21, _⟩ => ⟨S8x16384, .f32⟩
  | .hbm, ⟨22, _⟩ => ⟨S8x16384, .f32⟩
  | .hbm, ⟨23, _⟩ => ⟨S8x16384, .f32⟩
  | .hbm, ⟨24, _⟩ => ⟨S8x16384, .f32⟩
  | .hbm, ⟨25, _⟩ => ⟨S8x16384, .f32⟩
  | .hbm, ⟨26, _⟩ => ⟨S1408x1024, .f32⟩
  | .hbm, ⟨27, _⟩ => ⟨S1408x1024, .bf16⟩
  | .hbm, ⟨28, _⟩ => ⟨S32768x1024, .f32⟩
  | .hbm, ⟨29, _⟩ => ⟨S1x1024, .f32⟩
  | .hbm, ⟨30, _⟩ => ⟨S1024x32768, .f32⟩
  | .hbm, ⟨31, _⟩ => ⟨S768x32768, .bf16⟩
  | .hbm, ⟨32, _⟩ => ⟨S192x32768, .bf16⟩
  | .hbm, ⟨33, _⟩ => ⟨S240x32768, .bf16⟩
  | .hbm, ⟨34, _⟩ => ⟨S256x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S768x512, .bf16⟩
  | .local _ .vmem, ⟨11, _⟩ => ⟨S768x512, .bf16⟩
  | .local _ .vmem, ⟨12, _⟩ => ⟨S192x512, .bf16⟩
  | .local _ .vmem, ⟨13, _⟩ => ⟨S192x512, .bf16⟩
  | .local _ .vmem, ⟨14, _⟩ => ⟨S240x512, .bf16⟩
  | .local _ .vmem, ⟨15, _⟩ => ⟨S240x512, .bf16⟩
  | .local _ .vmem, ⟨16, _⟩ => ⟨S256x512, .bf16⟩
  | .local _ .vmem, ⟨17, _⟩ => ⟨S256x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S240x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel5Ideal.lean ====
variable {F : FTy → Type} [FloatOps F] [Named F]
def κ : String → Option EReal := fun
  | "q_scale" => some (((1 / 8) * (Real.log 2)⁻¹ : ℝ) : EReal)
  | _ => none
-- ==== Reference5Ideal.lean ====
abbrev S2x16384x1024 : Shape := ⟨3, ![2, 16384, 1024]⟩
abbrev S1024x1408 : Shape := ⟨2, ![1024, 1408]⟩
abbrev S1024 : Shape := ⟨1, ![1024]⟩
abbrev S32768x1024 : Shape := ⟨2, ![32768, 1024]⟩
abbrev S1024x32768 : Shape := ⟨2, ![1024, 32768]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1408 : Shape := ⟨3, ![2, 16384, 1408]⟩
abbrev S2x16384x768 : Shape := ⟨3, ![2, 16384, 768]⟩
abbrev S2x16384x12x64 : Shape := ⟨4, ![2, 16384, 12, 64]⟩
abbrev S2x16384x192 : Shape := ⟨3, ![2, 16384, 192]⟩
abbrev S2x16384x3x64 : Shape := ⟨4, ![2, 16384, 3, 64]⟩
abbrev S2x16384x256 : Shape := ⟨3, ![2, 16384, 256]⟩
abbrev S2x16384x12x16 : Shape := ⟨4, ![2, 16384, 12, 16]⟩
abbrev S2x16384x12x8 : Shape := ⟨4, ![2, 16384, 12, 8]⟩
abbrev S16384x1x8 : Shape := ⟨3, ![16384, 1, 8]⟩
abbrev S1x16384x1x8 : Shape := ⟨4, ![1, 16384, 1, 8]⟩
abbrev S2x16384x12x48 : Shape := ⟨4, ![2, 16384, 12, 48]⟩
abbrev S2x16384x3x16 : Shape := ⟨4, ![2, 16384, 3, 16]⟩
abbrev S2x16384x3x8 : Shape := ⟨4, ![2, 16384, 3, 8]⟩
abbrev S2x16384x3x48 : Shape := ⟨4, ![2, 16384, 3, 48]⟩
abbrev S16 : Shape := ⟨1, ![16]⟩
abbrev S32768x768 : Shape := ⟨2, ![32768, 768]⟩
abbrev S768x32768 : Shape := ⟨2, ![768, 32768]⟩
abbrev S32768x192 : Shape := ⟨2, ![32768, 192]⟩
abbrev S192x32768 : Shape := ⟨2, ![192, 32768]⟩
abbrev S2x16384x3x80 : Shape := ⟨4, ![2, 16384, 3, 80]⟩
abbrev S32768x240 : Shape := ⟨2, ![32768, 240]⟩
abbrev S240x32768 : Shape := ⟨2, ![240, 32768]⟩
abbrev S32768x256 : Shape := ⟨2, ![32768, 256]⟩
abbrev S256x32768 : Shape := ⟨2, ![256, 32768]⟩

abbrev nBuf : Space → Nat
  | .hbm => 132
  | .vmem => 0
  | .smem => 0
  | _ => 0

abbrev hbmTy0_0 (i : Nat) : BufTy := match i % 128 with
  | 0 => ⟨S2x16384x1024, .f32⟩
  | 1 => ⟨S1024x1408, .f32⟩
  | 2 => ⟨S1024, .f32⟩
  | 3 => ⟨S32768x1024, .f32⟩
  | 4 => ⟨S1024x32768, .f32⟩
  | 5 => ⟨S16384, .i32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S16384, .f32⟩
  | 21 => ⟨S16384x1, .f32⟩
  | 22 => ⟨S1x8, .f32⟩
  | 23 => ⟨S16384x8, .f32⟩
  | 24 => ⟨S16384x8, .f32⟩
  | 25 => ⟨S16384x8, .f32⟩
  | 26 => ⟨S16384x8, .f32⟩
  | 27 => ⟨S16384x8, .f32⟩
  | 28 => ⟨S2x16384x1024, .f32⟩
  | 29 => ⟨S_, .f32⟩
  | 30 => ⟨S2x16384, .f32⟩
  | 31 => ⟨S2x16384x1, .f32⟩
  | 32 => ⟨S_, .f32⟩
  | 33 => ⟨S2x16384x1, .f32⟩
  | 34 => ⟨S2x16384x1, .f32⟩
  | 35 => ⟨S_, .f32⟩
  | 36 => ⟨S2x16384x1, .f32⟩
  | 37 => ⟨S2x16384x1, .f32⟩
  | 38 => ⟨S2x16384x1, .f32⟩
  | 39 => ⟨S2x16384x1024, .f32⟩
  | 40 => ⟨S2x16384x1024, .f32⟩
  | 41 => ⟨S1x1x1024, .f32⟩
  | 42 => ⟨S2x16384x1024, .f32⟩
  | 43 => ⟨S2x16384x1024, .f32⟩
  | 44 => ⟨S2x16384x1408, .f32⟩
  | 45 => ⟨S2x16384x768, .f32⟩
  | 46 => ⟨S2x16384x12x64, .f32⟩
  | 47 => ⟨S2x16384x192, .f32⟩
  | 48 => ⟨S2x16384x3x64, .f32⟩
  | 49 => ⟨S2x16384x192, .f32⟩
  | 50 => ⟨S2x16384x3x64, .f32⟩
  | 51 => ⟨S2x16384x256, .f32⟩
  | 52 => ⟨S2x16384x12x16, .f32⟩
  | 53 => ⟨S2x16384x12x8, .f32⟩
  | 54 => ⟨S2x16384x12x8, .f32⟩
  | 55 => ⟨S16384x1x8, .f32⟩
  | 56 => ⟨S16384x1x8, .f32⟩
  | 57 => ⟨S1x16384x1x8, .f32⟩
  | 58 => ⟨S2x16384x12x8, .f32⟩
  | 59 => ⟨S2x16384x12x8, .f32⟩
  | 60 => ⟨S1x16384x1x8, .f32⟩
  | 61 => ⟨S2x16384x12x8, .f32⟩
  | 62 => ⟨S2x16384x12x8, .f32⟩
  | 63 => ⟨S2x16384x12x8, .f32⟩
  | 64 => ⟨S1x16384x1x8, .f32⟩
  | 65 => ⟨S2x16384x12x8, .f32⟩
  | 66 => ⟨S2x16384x12x8, .f32⟩
  | 67 => ⟨S1x16384x1x8, .f32⟩
  | 68 => ⟨S2x16384x12x8, .f32⟩
  | 69 => ⟨S2x16384x12x8, .f32⟩
  | 70 => ⟨S2x16384x12x8, .f32⟩
  | 71 => ⟨S2x16384x12x16, .f32⟩
  | 72 => ⟨S2x16384x12x48, .f32⟩
  | 73 => ⟨S2x16384x12x64, .f32⟩
  | 74 => ⟨S2x16384x3x16, .f32⟩
  | 75 => ⟨S2x16384x3x8, .f32⟩
  | 76 => ⟨S2x16384x3x8, .f32⟩
  | 77 => ⟨S16384x1x8, .f32⟩
  | 78 => ⟨S16384x1x8, .f32⟩
  | 79 => ⟨S1x16384x1x8, .f32⟩
  | 80 => ⟨S2x16384x3x8, .f32⟩
  | 81 => ⟨S2x16384x3x8, .f32⟩
  | 82 => ⟨S1x16384x1x8, .f32⟩
  | 83 => ⟨S2x16384x3x8, .f32⟩
  | 84 => ⟨S2x16384x3x8, .f32⟩
  | 85 => ⟨S2x16384x3x8, .f32⟩
  | 86 => ⟨S1x16384x1x8, .f32⟩
  | 87 => ⟨S2x16384x3x8, .f32⟩
  | 88 => ⟨S2x16384x3x8, .f32⟩
  | 89 => ⟨S1x16384x1x8, .f32⟩
  | 90 => ⟨S2x16384x3x8, .f32⟩
  | 91 => ⟨S2x16384x3x8, .f32⟩
  | 92 => ⟨S2x16384x3x8, .f32⟩
  | 93 => ⟨S2x16384x3x16, .f32⟩
  | 94 => ⟨S2x16384x3x48, .f32⟩
  | 95 => ⟨S2x16384x3x64, .f32⟩
  | 96 => ⟨S_, .f32⟩
  | 97 => ⟨S_, .f32⟩
  | 98 => ⟨S16, .i32⟩
  | 99 => ⟨S_, .i32⟩
  | 100 => ⟨S16, .i32⟩
  | 101 => ⟨S16, .i1⟩
  | 102 => ⟨S_, .f32⟩
  | 103 => ⟨S_, .f32⟩
  | 104 => ⟨S16, .f32⟩
  | 105 => ⟨S16, .f32⟩
  | 106 => ⟨S16, .f32⟩
  | 107 => ⟨S2x16384x3x16, .f32⟩
  | 108 => ⟨S_, .f32⟩
  | 109 => ⟨S2x16384x12x64, .f32⟩
  | 110 => ⟨S2x16384x12x64, .f32⟩
  | 111 => ⟨S2x16384x12x64, .f32⟩
  | 112 => ⟨S2x16384x12x64, .f32⟩
  | 113 => ⟨S32768x768, .f32⟩
  | 114 => ⟨S768x32768, .f32⟩
  | 115 => ⟨S768x32768, .bf16⟩
  | 116 => ⟨S32768x192, .f32⟩
  | 117 => ⟨S192x32768, .f32⟩
  | 118 => ⟨S192x32768, .bf16⟩
  | 119 => ⟨S2x16384x3x16, .f32⟩
  | 120 => ⟨S2x16384x3x80, .f32⟩
  | 121 => ⟨S32768x240, .f32⟩
  | 122 => ⟨S240x32768, .f32⟩
  | 123 => ⟨S240x32768, .bf16⟩
  | 124 => ⟨S_, .f32⟩
  | 125 => ⟨S2x16384x256, .f32⟩
  | 126 => ⟨S2x16384x256, .f32⟩
  | 127 => ⟨S2x16384x256, .f32⟩
  | _ => ⟨S2x16384x1024, .f32⟩

abbrev hbmTy0_1 (i : Nat) : BufTy := match i % 128 with
  | 0 => ⟨S2x16384x256, .f32⟩
  | 1 => ⟨S32768x256, .f32⟩
  | 2 => ⟨S256x32768, .f32⟩
  | 3 => ⟨S256x32768, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_c : Ref sig .tc := ⟨.hbm, 99, rfl⟩
abbrev main_v88 : Ref sig .tc := ⟨.hbm, 100, rfl⟩
abbrev main_v89 : Ref sig .tc := ⟨.hbm, 101, rfl⟩
abbrev main_cst_7 : Ref sig .tc := ⟨.hbm, 102, rfl⟩
abbrev main_cst_8 : Ref sig .tc := ⟨.hbm, 103, rfl⟩
abbrev main_call0_v0 : Ref sig .tc := ⟨.hbm, 104, rfl⟩
abbrev main_call0_v1 : Ref sig .tc := ⟨.hbm, 105, rfl⟩
abbrev main_v90 : Ref sig .tc := ⟨.hbm, 106, rfl⟩
abbrev main_v91 : Ref sig .tc := ⟨.hbm, 107, rfl⟩
abbrev main_cst_9 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_10 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩

abbrev nD : Nat := 1
abbrev τ : Topo := Topo.v7x

variable {F : FTy → Type} [FloatOps F]
-- ==== Proof.Body.lean ====
/- The attention kernel's body, run once on any whole buffers. -/
module

public import proofs.«01_k».proof.Proof.Gen.KernelIdeal.Loops
public import proofs.«01_k».proof.Proof.Gen.KernelIdeal.Frame

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body transposes the keys at a point whose third coordinate is zero. -/
abbrev fills (i : grid0.Coords) : Prop := k0_cond1 i = 1#1

-- the body's run is one long term
set_option maxHeartbeats 1000000 in
/-- A point that transposes the keys first: the pieces written to the output and to the transposed keys, found by running the body. -/
noncomputable def runFill (c : Dev nD) (i : grid0.Coords) (arg3 : Memref sig .tc .vmem S256x512 .bf16) (harg3 : arg3.IsWhole) (arg4 : Memref sig .tc .vmem S64x16384 .bf16) (harg4 : arg4.IsWhole) (arg5 : Memref sig .tc .vmem S80x16384 .bf16) (harg5 : arg5.IsWhole)
    (arg6 : Memref sig .tc .vmem S256x512 .bf16) (harg6 : arg6.IsWhole) (arg7 : Memref sig .tc .vmem S16384x64 .bf16) (harg7 : arg7.IsWhole) (arg8 : Memref sig .tc .vmem S4x8x512 .f32) (harg8 : arg8.IsWhole)
    (arg9 : Memref sig .tc .vmem S4x8x512 .f32) (harg9 : arg9.IsWhole) (arg10 : Memref sig .tc .vmem S4x64x512 .f32) (harg10 : arg10.IsWhole)
    (hc0 : fills i) (x0 : Vec F S256x512 .bf16) (x1 : Vec F S64x16384 .bf16) (x2 : Vec F S80x16384 .bf16)
    (x7 : Vec F S16384x64 .bf16) (x8 : Vec F S4x8x512 .f32) (x9 : Vec F S4x8x512 .f32) (x10 : Vec F S4x64x512 .f32) :
    Σ' (L6 : List (View.Piece (Elt F) S256x512 .bf16)), { L7 : List (View.Piece (Elt F) S16384x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L6)
                ∗ (arg7.view.loc (c : Thread nD τ) ↦[arg7.view.set]{fullShare} arg7.view.writes (Elt F) (harg7.unread x7) L7)
                ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_full_attention i arg3 harg3 arg4 harg4 arg5 harg5 arg6 harg6 arg7 harg7 arg8 harg8 arg9 harg9 arg10 harg10) K } := by
  refine ⟨?_, ?_, fun E K => ?run⟩
  case run =>
    simp only [cc0_full_attention_eq_skeleton]; unfold cc0_full_attention_skel
    simp only [k0_part170_eq_skeleton, k0_part171_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, ⟨%fs2, %hs2, HS2⟩, ⟨%fs3, %hs3, HS3⟩, Hk⟩
    obtain rfl := harg3.eq_unread hf0; obtain rfl := harg4.eq_unread hf1; obtain rfl := harg5.eq_unread hf2
    obtain rfl := harg7.eq_unread hs0; obtain rfl := harg8.eq_unread hs1; obtain rfl := harg9.eq_unread hs2; obtain rfl := harg10.eq_unread hs3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

-- the body's run is one long term
set_option maxHeartbeats 1000000 in
/-- A point that finds the keys already transposed: only the output is written. -/
noncomputable def runKeep (c : Dev nD) (i : grid0.Coords) (arg3 : Memref sig .tc .vmem S256x512 .bf16) (harg3 : arg3.IsWhole) (arg4 : Memref sig .tc .vmem S64x16384 .bf16) (harg4 : arg4.IsWhole) (arg5 : Memref sig .tc .vmem S80x16384 .bf16) (harg5 : arg5.IsWhole)
    (arg6 : Memref sig .tc .vmem S256x512 .bf16) (harg6 : arg6.IsWhole) (arg7 : Memref sig .tc .vmem S16384x64 .bf16) (harg7 : arg7.IsWhole) (arg8 : Memref sig .tc .vmem S4x8x512 .f32) (harg8 : arg8.IsWhole)
    (arg9 : Memref sig .tc .vmem S4x8x512 .f32) (harg9 : arg9.IsWhole) (arg10 : Memref sig .tc .vmem S4x64x512 .f32) (harg10 : arg10.IsWhole)
    (hc0 : ¬fills i) (x0 : Vec F S256x512 .bf16) (x1 : Vec F S64x16384 .bf16) (x2 : Vec F S80x16384 .bf16)
    (x7 : Vec F S16384x64 .bf16) (x8 : Vec F S4x8x512 .f32) (x9 : Vec F S4x8x512 .f32) (x10 : Vec F S4x64x512 .f32) :
    { L6 : List (View.Piece (Elt F) S256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L6)
                ∗ owns (c : Thread nD τ) arg7 fullShare x7
                ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_full_attention i arg3 harg3 arg4 harg4 arg5 harg5 arg6 harg6 arg7 harg7 arg8 harg8 arg9 harg9 arg10 harg10) K } := by
  refine ⟨?_, fun E K => ?run⟩
  case run =>
    simp only [cc0_full_attention_eq_skeleton]; unfold cc0_full_attention_skel
    simp only [k0_part170_eq_skeleton, k0_part171_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, ⟨%fs2, %hs2, HS2⟩, ⟨%fs3, %hs3, HS3⟩, Hk⟩
    obtain rfl := harg3.eq_unread hf0; obtain rfl := harg4.eq_unread hf1; obtain rfl := harg5.eq_unread hf2
    obtain rfl := harg7.eq_unread hs0; obtain rfl := harg8.eq_unread hs1; obtain rfl := harg9.eq_unread hs2; obtain rfl := harg10.eq_unread hs3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Attn

end
-- ==== Proof.Fold.lean ====
/- One chunk of keys folded into a query block's running softmax, and the chunks in order: the vectors the attention kernel computes. -/
module

public import proofs.«01_k».proof.Proof.Gen.KernelIdeal.Skeleton

@[expose] public section

noncomputable section

namespace Cert.KernelIdeal.Attn

open Cert.KernelIdeal Cert.KernelIdeal.Gen
open Idealize.ShloMosaic

variable {F : FTy → Type} [FloatOps F] [Named F]

/-- A block of queries times the scores' scale. -/
def scaled (q : FVec F S64x256 .bf16) : FVec F S64x256 .bf16 :=
  truncf .bf16 (mulf (extf .f32 q bitsLt_bf16_f32) (broadcast S64x256 (Named.named κ "q_scale" 0x3E38AA3B#32 : F .f32))) bitsLt_bf16_f32

/-- A chunk of keys against a block of queries, the keys eight to a row. -/
def scores (kc : FVec F S256x64 .bf16) (q : FVec F S64x256 .bf16) : FVec F S32x8x256 .f32 :=
  shapeCast S32x8x256 (matmul dot_S256x64_S64x256_S256x256_1_0_0_1_n_n none kc q (constant S256x256 .f32 0x00000000#32)) shapeCasts_S256x256_S32x8x256

/-- The largest score in each residue of eight. -/
def top8 (s : FVec F S32x8x256 .f32) : FVec F S8x256 .f32 :=
  multiReduction .maximumf [0] S8x256 s 0xFF800000#32 reduces_S32x8x256_S8x256 (.inl rfl) rfl

/-- The largest of eight lanes, in every lane, one rotation at a time. -/
def max4 (x : FVec F S8x256 .f32) : FVec F S8x256 .f32 := maximumf x (dynamicRotate 0 4#32 none x rotates_S8x256_d0)
def max2 (x : FVec F S8x256 .f32) : FVec F S8x256 .f32 := maximumf x (dynamicRotate 0 2#32 none x rotates_S8x256_d0)
def max1 (x : FVec F S8x256 .f32) : FVec F S8x256 .f32 := maximumf x (dynamicRotate 0 1#32 none x rotates_S8x256_d0)

/-- The running maximum after a chunk. -/
def mNew (s : FVec F S32x8x256 .f32) (m : FVec F S8x256 .f32) : FVec F S8x256 .f32 := maximumf m (max1 (max2 (max4 (top8 s))))

/-- The factor that carries the sums to the new maximum. -/
def carry (m m' : FVec F S8x256 .f32) : FVec F S8x256 .f32 := exp2 (subf m m')

/-- The chunk's weights. -/
def weights (s : FVec F S32x8x256 .f32) (m' : FVec F S8x256 .f32) : FVec F S256x256 .bf16 :=
  exp2 (truncf .bf16 (shapeCast S256x256 (subf s (broadcastTo S32x8x256 (shapeCast S1x8x256 m' shapeCasts_S8x256_S1x8x256) broadcasts_S1x8x256_S32x8x256)) shapeCasts_S32x8x256_S256x256) bitsLt_bf16_f32)

/-- The chunk's values, and below them its ones, summed under the weights. -/
def products (vc : FVec F S80x256 .bf16) (p : FVec F S256x256 .bf16) : FVec F S80x256 .f32 :=
  matmul dot_S80x256_S256x256_S80x256_1_0_0_1_n_n none vc p (constant S80x256 .f32 0x00000000#32)

/-- The weights' running sum after a chunk. -/
def lNew (s : FVec F S32x8x256 .f32) (vc : FVec F S80x256 .bf16) (m l : FVec F S8x256 .f32) : FVec F S8x256 .f32 :=
  addf (mulf (carry m (mNew s m)) l) (extractStridedSlice S8x256 ![64, 0] (products vc (weights s (mNew s m))) slices_S80x256_o64_0_S8x256)

/-- The values' running sum after a chunk. -/
def aNew (s : FVec F S32x8x256 .f32) (vc : FVec F S80x256 .bf16) (m : FVec F S8x256 .f32) (a : FVec F S64x256 .f32) : FVec F S64x256 .f32 :=
  shapeCast S64x256 (addf
    (mulf (broadcastTo S8x8x256 (shapeCast S1x8x256 (carry m (mNew s m)) shapeCasts_S8x256_S1x8x256) broadcasts_S1x8x256_S8x8x256) (shapeCast S8x8x256 a shapeCasts_S64x256_S8x8x256))
    (shapeCast S8x8x256 (extractStridedSlice S64x256 ![0, 0] (products vc (weights s (mNew s m))) slices_S80x256_o0_0_S64x256) shapeCasts_S64x256_S8x8x256)) shapeCasts_S8x8x256_S64x256

/-- The running maximum after `n` chunks. -/
def mAt (kc : ℕ → FVec F S256x64 .bf16) (q : FVec F S64x256 .bf16) (m₀ : FVec F S8x256 .f32) (n : ℕ) : FVec F S8x256 .f32 :=
  Nat.rec m₀ (fun c m => mNew (scores (kc c) q) m) n

/-- The weights' sum after `n` chunks. -/
def lAt (kc : ℕ → FVec F S256x64 .bf16) (vc : ℕ → FVec F S80x256 .bf16) (q : FVec F S64x256 .bf16) (m₀ l₀ : FVec F S8x256 .f32) (n : ℕ) : FVec F S8x256 .f32 :=
  Nat.rec l₀ (fun c l => lNew (scores (kc c) q) (vc c) (mAt kc q m₀ c) l) n

/-- The values' sum after `n` chunks. -/
def aAt (kc : ℕ → FVec F S256x64 .bf16) (vc : ℕ → FVec F S80x256 .bf16) (q : FVec F S64x256 .bf16) (m₀ : FVec F S8x256 .f32) (a₀ : FVec F S64x256 .f32) (n : ℕ) : FVec F S64x256 .f32 :=
  Nat.rec a₀ (fun c a => aNew (scores (kc c) q) (vc c) (mAt kc q m₀ c) a) n

end Cert.KernelIdeal.Attn

end
-- ==== Proof.Trip.lean ====
/- One trip of the attention kernel's loop over the keys: thirty-two chunks folded into the state of each head's halves. -/
module

public import proofs.«01_k».proof.Proof.Fold
public import proofs.«01_k».proof.Proof.Gen.KernelIdeal.Loops

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F] [Named F]

/-- Chunk `c` of trip `k`'s keys, out of the transposed keys. -/
def keysOf (arg7 : Memref sig .tc .vmem S16384x64 .bf16) (X7 : BufTy.Contents (Elt F) arg7.view.ty) (k : Fin k0_t2_loop.trips) (c : ℕ) : FVec F S256x64 .bf16 :=
  View.readAt (Elt F) arg7.view (Rect.unit (s := S16384x64) (k0_off3 k (BitVec.ofNat 32 (c % 32))) S256x64.size (k0_off3_inb k ⟨c % 32, Nat.mod_lt _ (by decide)⟩)).toLoadRect X7

/-- Chunk `c` of trip `k`'s values and ones. -/
def valuesOf (arg5 : Memref sig .tc .vmem S80x16384 .bf16) (X5 : BufTy.Contents (Elt F) arg5.view.ty) (k : Fin k0_t2_loop.trips) (c : ℕ) : FVec F S80x256 .bf16 :=
  shapeCast S80x256 (View.readAt (Elt F) arg5.view (Rect.unit (s := S80x16384) (k0_off4 k (BitVec.ofNat 32 (c % 32))) S80x256.size (k0_off4_inb k ⟨c % 32, Nat.mod_lt _ (by decide)⟩)).toLoadRect X5) shapeCasts_S80x256_S80x256

/-- A head's half of the queries, at `o`, scaled. -/
def queriesOf (arg3 : Memref sig .tc .vmem S256x512 .bf16) (X3 : BufTy.Contents (Elt F) arg3.view.ty) (o : Fin 2 → ℕ) (h : ∀ a, o a + S64x256.size a ≤ S256x512.size a) : FVec F S64x256 .bf16 :=
  scaled (shapeCast S64x256 (View.readAt (Elt F) arg3.view (Rect.unit (s := S256x512) o S64x256.size h).toLoadRect X3) shapeCasts_S64x256_S64x256)

/-- A head's half of a buffer of maxima or of sums, at `o`. -/
def laneOf (arg8 : Memref sig .tc .vmem S4x8x512 .f32) (f8 : BufTy.Contents (Elt F) arg8.view.ty) (o : Fin 3 → ℕ) (h : ∀ a, o a + S1x8x256.size a ≤ S4x8x512.size a) : FVec F S8x256 .f32 :=
  shapeCast S8x256 (View.readAt (Elt F) arg8.view (Rect.unit (s := S4x8x512) o S1x8x256.size h).toLoadRect f8) shapeCasts_S1x8x256_S8x256

/-- A head's half of the values' sums, at `o`. -/
def accOf (arg10 : Memref sig .tc .vmem S4x64x512 .f32) (f10 : BufTy.Contents (Elt F) arg10.view.ty) (o : Fin 3 → ℕ) (h : ∀ a, o a + S1x64x256.size a ≤ S4x64x512.size a) : FVec F S64x256 .f32 :=
  shapeCast S64x256 (View.readAt (Elt F) arg10.view (Rect.unit (s := S4x64x512) o S1x64x256.size h).toLoadRect f10) shapeCasts_S1x64x256_S64x256

section
variable (𝒱 : Variants) (c : Dev nD) (bd : Option 𝒱.V) (i : grid0.Coords) (arg3 : Memref sig .tc .vmem S256x512 .bf16) (harg3 : arg3.IsWhole) (arg4 : Memref sig .tc .vmem S64x16384 .bf16) (harg4 : arg4.IsWhole)
  (arg5 : Memref sig .tc .vmem S80x16384 .bf16) (harg5 : arg5.IsWhole) (arg6 : Memref sig .tc .vmem S256x512 .bf16) (harg6 : arg6.IsWhole) (arg7 : Memref sig .tc .vmem S16384x64 .bf16) (harg7 : arg7.IsWhole)
  (arg8 : Memref sig .tc .vmem S4x8x512 .f32) (harg8 : arg8.IsWhole) (arg9 : Memref sig .tc .vmem S4x8x512 .f32) (harg9 : arg9.IsWhole) (arg10 : Memref sig .tc .vmem S4x64x512 .f32) (harg10 : arg10.IsWhole)
  (X3 : BufTy.Contents (Elt F) arg3.view.ty) (X5 : BufTy.Contents (Elt F) arg5.view.ty) (X7 : BufTy.Contents (Elt F) arg7.view.ty) (k : Fin k0_t2_loop.trips)
  (f8 : BufTy.Contents (Elt F) arg8.view.ty) (f9 : BufTy.Contents (Elt F) arg9.view.ty) (f10 : BufTy.Contents (Elt F) arg10.view.ty)

/-- The maxima a trip leaves in the half at `o`. -/
def mPiece (q : Fin 2 → ℕ) (hq : ∀ a, q a + S64x256.size a ≤ S256x512.size a) (o : Fin 3 → ℕ) (ho : ∀ a, o a + S1x8x256.size a ≤ S4x8x512.size a) : View.Piece (Elt F) S4x8x512 .f32 :=
  ⟨Rect.unit o S1x8x256.size ho, shapeCast S1x8x256 (mAt (keysOf arg7 X7 k) (queriesOf arg3 X3 q hq) (laneOf arg8 f8 o ho) 32) shapeCasts_S8x256_S1x8x256⟩

/-- The weights' sums a trip leaves in the half at `o`. -/
def lPiece (q : Fin 2 → ℕ) (hq : ∀ a, q a + S64x256.size a ≤ S256x512.size a) (o : Fin 3 → ℕ) (ho : ∀ a, o a + S1x8x256.size a ≤ S4x8x512.size a) : View.Piece (Elt F) S4x8x512 .f32 :=
  ⟨Rect.unit o S1x8x256.size ho, shapeCast S1x8x256 (lAt (keysOf arg7 X7 k) (valuesOf arg5 X5 k) (queriesOf arg3 X3 q hq) (laneOf arg8 f8 o ho) (laneOf arg9 f9 o ho) 32) shapeCasts_S8x256_S1x8x256⟩

/-- The values' sums a trip leaves in the half at `o`. -/
def aPiece (q : Fin 2 → ℕ) (hq : ∀ a, q a + S64x256.size a ≤ S256x512.size a) (o : Fin 3 → ℕ) (ho : ∀ a, o a + S1x8x256.size a ≤ S4x8x512.size a) (ho' : ∀ a, o a + S1x64x256.size a ≤ S4x64x512.size a) : View.Piece (Elt F) S4x64x512 .f32 :=
  ⟨Rect.unit o S1x64x256.size ho', shapeCast S1x64x256 (aAt (keysOf arg7 X7 k) (valuesOf arg5 X5 k) (queriesOf arg3 X3 q hq) (laneOf arg8 f8 o ho) (accOf arg10 f10 o ho') 32) shapeCasts_S64x256_S1x64x256⟩

/-- The maxima a trip stores, half by half. -/
theorem trip_m : (trip_k0_t2 (F := F) 𝒱 c bd i arg3 harg3 arg4 harg4 arg5 harg5 arg6 harg6 arg7 harg7 arg8 harg8 arg9 harg9 arg10 harg10 X3 X5 X7 k).1 f8 f9 f10 =
    [mPiece arg3 arg7 arg8 X3 X7 k f8 ![192, 256] inb_S256x512_S64x256_192_256 ![3, 0, 256] inb_S4x8x512_S1x8x256_3_0_256,
      mPiece arg3 arg7 arg8 X3 X7 k f8 ![192, 0] inb_S256x512_S64x256_192_0 ![3, 0, 0] inb_S4x8x512_S1x8x256_3_0_0,
      mPiece arg3 arg7 arg8 X3 X7 k f8 ![128, 256] inb_S256x512_S64x256_128_256 ![2, 0, 256] inb_S4x8x512_S1x8x256_2_0_256,
      mPiece arg3 arg7 arg8 X3 X7 k f8 ![128, 0] inb_S256x512_S64x256_128_0 ![2, 0, 0] inb_S4x8x512_S1x8x256_2_0_0,
      mPiece arg3 arg7 arg8 X3 X7 k f8 ![64, 256] inb_S256x512_S64x256_64_256 ![1, 0, 256] inb_S4x8x512_S1x8x256_1_0_256,
      mPiece arg3 arg7 arg8 X3 X7 k f8 ![64, 0] inb_S256x512_S64x256_64_0 ![1, 0, 0] inb_S4x8x512_S1x8x256_1_0_0,
      mPiece arg3 arg7 arg8 X3 X7 k f8 ![0, 256] inb_S256x512_S64x256_0_256 ![0, 0, 256] inb_S4x8x512_S1x8x256_0_0_256,
      mPiece arg3 arg7 arg8 X3 X7 k f8 ![0, 0] inb_S256x512_S64x256_0_0 ![0, 0, 0] inb_S4x8x512_S1x8x256_0_0_0] := by
  unfold trip_k0_t2
  sl_kernel_rfl

/-- The weights' sums a trip stores, half by half. -/
theorem trip_l : (trip_k0_t2 (F := F) 𝒱 c bd i arg3 harg3 arg4 harg4 arg5 harg5 arg6 harg6 arg7 harg7 arg8 harg8 arg9 harg9 arg10 harg10 X3 X5 X7 k).2.1 f8 f9 f10 =
    [lPiece arg3 arg5 arg7 arg8 arg9 X3 X5 X7 k f8 f9 ![192, 256] inb_S256x512_S64x256_192_256 ![3, 0, 256] inb_S4x8x512_S1x8x256_3_0_256,
      lPiece arg3 arg5 arg7 arg8 arg9 X3 X5 X7 k f8 f9 ![192, 0] inb_S256x512_S64x256_192_0 ![3, 0, 0] inb_S4x8x512_S1x8x256_3_0_0,
      lPiece arg3 arg5 arg7 arg8 arg9 X3 X5 X7 k f8 f9 ![128, 256] inb_S256x512_S64x256_128_256 ![2, 0, 256] inb_S4x8x512_S1x8x256_2_0_256,
      lPiece arg3 arg5 arg7 arg8 arg9 X3 X5 X7 k f8 f9 ![128, 0] inb_S256x512_S64x256_128_0 ![2, 0, 0] inb_S4x8x512_S1x8x256_2_0_0,
      lPiece arg3 arg5 arg7 arg8 arg9 X3 X5 X7 k f8 f9 ![64, 256] inb_S256x512_S64x256_64_256 ![1, 0, 256] inb_S4x8x512_S1x8x256_1_0_256,
      lPiece arg3 arg5 arg7 arg8 arg9 X3 X5 X7 k f8 f9 ![64, 0] inb_S256x512_S64x256_64_0 ![1, 0, 0] inb_S4x8x512_S1x8x256_1_0_0,
      lPiece arg3 arg5 arg7 arg8 arg9 X3 X5 X7 k f8 f9 ![0, 256] inb_S256x512_S64x256_0_256 ![0, 0, 256] inb_S4x8x512_S1x8x256_0_0_256,
      lPiece arg3 arg5 arg7 arg8 arg9 X3 X5 X7 k f8 f9 ![0, 0] inb_S256x512_S64x256_0_0 ![0, 0, 0] inb_S4x8x512_S1x8x256_0_0_0] := by
  unfold trip_k0_t2
  sl_kernel_rfl

/-- The values' sums a trip stores, half by half. -/
theorem trip_a : (trip_k0_t2 (F := F) 𝒱 c bd i arg3 harg3 arg4 harg4 arg5 harg5 arg6 harg6 arg7 harg7 arg8 harg8 arg9 harg9 arg10 harg10 X3 X5 X7 k).2.2.1 f8 f9 f10 =
    [aPiece arg3 arg5 arg7 arg8 arg10 X3 X5 X7 k f8 f10 ![192, 256] inb_S256x512_S64x256_192_256 ![3, 0, 256] inb_S4x8x512_S1x8x256_3_0_256 inb_S4x64x512_S1x64x256_3_0_256,
      aPiece arg3 arg5 arg7 arg8 arg10 X3 X5 X7 k f8 f10 ![192, 0] inb_S256x512_S64x256_192_0 ![3, 0, 0] inb_S4x8x512_S1x8x256_3_0_0 inb_S4x64x512_S1x64x256_3_0_0,
      aPiece arg3 arg5 arg7 arg8 arg10 X3 X5 X7 k f8 f10 ![128, 256] inb_S256x512_S64x256_128_256 ![2, 0, 256] inb_S4x8x512_S1x8x256_2_0_256 inb_S4x64x512_S1x64x256_2_0_256,
      aPiece arg3 arg5 arg7 arg8 arg10 X3 X5 X7 k f8 f10 ![128, 0] inb_S256x512_S64x256_128_0 ![2, 0, 0] inb_S4x8x512_S1x8x256_2_0_0 inb_S4x64x512_S1x64x256_2_0_0,
      aPiece arg3 arg5 arg7 arg8 arg10 X3 X5 X7 k f8 f10 ![64, 256] inb_S256x512_S64x256_64_256 ![1, 0, 256] inb_S4x8x512_S1x8x256_1_0_256 inb_S4x64x512_S1x64x256_1_0_256,
      aPiece arg3 arg5 arg7 arg8 arg10 X3 X5 X7 k f8 f10 ![64, 0] inb_S256x512_S64x256_64_0 ![1, 0, 0] inb_S4x8x512_S1x8x256_1_0_0 inb_S4x64x512_S1x64x256_1_0_0,
      aPiece arg3 arg5 arg7 arg8 arg10 X3 X5 X7 k f8 f10 ![0, 256] inb_S256x512_S64x256_0_256 ![0, 0, 256] inb_S4x8x512_S1x8x256_0_0_256 inb_S4x64x512_S1x64x256_0_0_256,
      aPiece arg3 arg5 arg7 arg8 arg10 X3 X5 X7 k f8 f10 ![0, 0] inb_S256x512_S64x256_0_0 ![0, 0, 0] inb_S4x8x512_S1x8x256_0_0_0 inb_S4x64x512_S1x64x256_0_0_0] := by
  unfold trip_k0_t2
  sl_kernel_rfl

end

end Cert.KernelIdeal.Attn

end
-- ==== Proof.Halves.lean ====
/- The four heads' two halves: a buffer told half by half, and what reads it. -/
module

public import proofs.«01_k».proof.Proof.Fold
public import Idealize.ShloMosaic.Lib.Pointwise
public import Idealize.ShloMosaic.Lib.Writes
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F] [Named F]

/-- Half `h` of the queries: head `h / 2`, columns from `256 * (h % 2)`. -/
def hq (h : Fin 8) : Fin 2 → ℕ := ![64 * (h.val / 2), 256 * (h.val % 2)]
/-- Half `h` of a scratch buffer. -/
def ho (h : Fin 8) : Fin 3 → ℕ := ![h.val / 2, 0, 256 * (h.val % 2)]

theorem hq_inb : ∀ (h : Fin 8) (a : Fin 2), hq h a + S64x256.size a ≤ S256x512.size a := by decide
theorem ho8_inb : ∀ (h : Fin 8) (a : Fin 3), ho h a + S1x8x256.size a ≤ S4x8x512.size a := by decide
theorem ho64_inb : ∀ (h : Fin 8) (a : Fin 3), ho h a + S1x64x256.size a ≤ S4x64x512.size a := by decide

/-- The rectangle of half `h`. -/
abbrev rect8 (h : Fin 8) : Rect S4x8x512 := Rect.unit (ho h) S1x8x256.size (ho8_inb h)
abbrev rect64 (h : Fin 8) : Rect S4x64x512 := Rect.unit (ho h) S1x64x256.size (ho64_inb h)
abbrev rectQ (h : Fin 8) : Rect S256x512 := Rect.unit (hq h) S64x256.size (hq_inb h)

/-- Half `h` of a buffer of maxima or of sums. -/
def laneAt (x : Vec F S4x8x512 .f32) (h : Fin 8) : FVec F S8x256 .f32 :=
  shapeCast S8x256 (fun y : S1x8x256.Idx => x ((rect8 h).toLoadRect.idx y)) shapeCasts_S1x8x256_S8x256

/-- Half `h` of the values' sums. -/
def accAt (x : Vec F S4x64x512 .f32) (h : Fin 8) : FVec F S64x256 .f32 :=
  shapeCast S64x256 (fun y : S1x64x256.Idx => x ((rect64 h).toLoadRect.idx y)) shapeCasts_S1x64x256_S64x256

/-- Half `h` of the queries, scaled. -/
def queriesAt (x : Vec F S256x512 .bf16) (h : Fin 8) : FVec F S64x256 .bf16 :=
  scaled (shapeCast S64x256 (fun y : S64x256.Idx => x ((rectQ h).toLoadRect.idx y)) shapeCasts_S64x256_S64x256)

theorem keys_inb (n : ℕ) : ∀ a, (![256 * (n % 64), 0] : Fin 2 → ℕ) a + S256x64.size a ≤ S16384x64.size a := by
  have := Nat.mod_lt n (by decide : 0 < 64)
  intro a; fin_cases a <;> simp [S256x64, S16384x64] <;> omega
theorem values_inb (n : ℕ) : ∀ a, (![0, 256 * (n % 64)] : Fin 2 → ℕ) a + S80x256.size a ≤ S80x16384.size a := by
  have := Nat.mod_lt n (by decide : 0 < 64)
  intro a; fin_cases a <;> simp [S80x256, S80x16384] <;> omega

/-- Chunk `n` of the keys. -/
def keysAt (x : Vec F S16384x64 .bf16) (n : ℕ) : FVec F S256x64 .bf16 :=
  fun y => x ((Rect.unit (s := S16384x64) ![256 * (n % 64), 0] S256x64.size (keys_inb n)).toLoadRect.idx y)
/-- Chunk `n` of the values and ones. -/
def valuesAt (x : Vec F S80x16384 .bf16) (n : ℕ) : FVec F S80x256 .bf16 :=
  shapeCast S80x256 (fun y => x ((Rect.unit (s := S80x16384) ![0, 256 * (n % 64)] S80x256.size (values_inb n)).toLoadRect.idx y)) shapeCasts_S80x256_S80x256

theorem halfOf_lt (a : Fin 4) (b : Fin 512) : 2 * a.val + b.val / 256 < 8 := by omega

/-- The half a place lies in. -/
def halfOf (a : Fin 4) (b : Fin 512) : Fin 8 := ⟨2 * a.val + b.val / 256, halfOf_lt a b⟩

/-- A buffer of maxima or of sums, told half by half. -/
def whole8 (P : Fin 8 → FVec F S8x256 .f32) : Vec F S4x8x512 .f32 :=
  fun y => P (halfOf (y 0) (y 2)) (ix2 (y 1) ⟨(y 2).val % 256, Nat.mod_lt _ (by decide)⟩)
/-- The values' sums, told half by half. -/
def whole64 (P : Fin 8 → FVec F S64x256 .f32) : Vec F S4x64x512 .f32 :=
  fun y => P (halfOf (y 0) (y 2)) (ix2 (y 1) ⟨(y 2).val % 256, Nat.mod_lt _ (by decide)⟩)

/-- The halves, the last one first. -/
def halves : List (Fin 8) := [7, 6, 5, 4, 3, 2, 1, 0]

theorem mem_halves : ∀ h : Fin 8, h ∈ halves := by decide

theorem whole8_idx (P : Fin 8 → FVec F S8x256 .f32) (h : Fin 8) (x : S1x8x256.Idx) :
    whole8 P ((rect8 h).emb x) = P h (ix2 (x 1) (x 2)) := by
  have h0 : ((rect8 h).emb x 0 : ℕ) = h.val / 2 + (x 0).val := by simp [ho]
  have h1 : ((rect8 h).emb x 1 : ℕ) = (x 1).val := by simp [ho]
  have h2 : ((rect8 h).emb x 2 : ℕ) = 256 * (h.val % 2) + (x 2).val := by simp [ho]
  have b0 : (x 0).val < 1 := (x 0).isLt
  have b2 : (x 2).val < 256 := (x 2).isLt
  have e : halfOf ((rect8 h).emb x 0) ((rect8 h).emb x 2) = h := Fin.ext (by
    show 2 * ((rect8 h).emb x 0 : ℕ) + ((rect8 h).emb x 2 : ℕ) / 256 = h.val
    rw [h0, h2]; omega)
  unfold whole8
  rw [e]
  congr 1
  funext a
  match a with
  | 0 => exact Fin.ext h1
  | 1 => exact Fin.ext (by show ((rect8 h).emb x 2 : ℕ) % 256 = _; rw [h2]; show _ = (x 2).val; omega)

theorem whole64_idx (P : Fin 8 → FVec F S64x256 .f32) (h : Fin 8) (x : S1x64x256.Idx) :
    whole64 P ((rect64 h).emb x) = P h (ix2 (x 1) (x 2)) := by
  have h0 : ((rect64 h).emb x 0 : ℕ) = h.val / 2 + (x 0).val := by simp [ho]
  have h1 : ((rect64 h).emb x 1 : ℕ) = (x 1).val := by simp [ho]
  have h2 : ((rect64 h).emb x 2 : ℕ) = 256 * (h.val % 2) + (x 2).val := by simp [ho]
  have b0 : (x 0).val < 1 := (x 0).isLt
  have b2 : (x 2).val < 256 := (x 2).isLt
  have e : halfOf ((rect64 h).emb x 0) ((rect64 h).emb x 2) = h := Fin.ext (by
    show 2 * ((rect64 h).emb x 0 : ℕ) + ((rect64 h).emb x 2 : ℕ) / 256 = h.val
    rw [h0, h2]; omega)
  unfold whole64
  rw [e]
  congr 1
  funext a
  match a with
  | 0 => exact Fin.ext h1
  | 1 => exact Fin.ext (by show ((rect64 h).emb x 2 : ℕ) % 256 = _; rw [h2]; show _ = (x 2).val; omega)

theorem cover8 (y : S4x8x512.Idx) : y ∈ (rect8 (halfOf (y 0) (y 2))).set := by
  have b0 : (y 0).val < 4 := (y 0).isLt
  have b1 : (y 1).val < 8 := (y 1).isLt
  have b2 : (y 2).val < 512 := (y 2).isLt
  rw [Rect.mem_set_unit]
  intro a
  match a with
  | 0 => show (2 * (y 0).val + (y 2).val / 256) / 2 ≤ (y 0).val ∧ (y 0).val < (2 * (y 0).val + (y 2).val / 256) / 2 + 1; omega
  | 1 => show 0 ≤ (y 1).val ∧ (y 1).val < 0 + 8; omega
  | 2 => show 256 * ((2 * (y 0).val + (y 2).val / 256) % 2) ≤ (y 2).val ∧ (y 2).val < 256 * ((2 * (y 0).val + (y 2).val / 256) % 2) + 256; omega

theorem cover64 (y : S4x64x512.Idx) : y ∈ (rect64 (halfOf (y 0) (y 2))).set := by
  have b0 : (y 0).val < 4 := (y 0).isLt
  have b1 : (y 1).val < 64 := (y 1).isLt
  have b2 : (y 2).val < 512 := (y 2).isLt
  rw [Rect.mem_set_unit]
  intro a
  match a with
  | 0 => show (2 * (y 0).val + (y 2).val / 256) / 2 ≤ (y 0).val ∧ (y 0).val < (2 * (y 0).val + (y 2).val / 256) / 2 + 1; omega
  | 1 => show 0 ≤ (y 1).val ∧ (y 1).val < 0 + 64; omega
  | 2 => show 256 * ((2 * (y 0).val + (y 2).val / 256) % 2) ≤ (y 2).val ∧ (y 2).val < 256 * ((2 * (y 0).val + (y 2).val / 256) % 2) + 256; omega

/-- A buffer written half by half reads as the halves told. -/
theorem read_halves8 (arg : Memref sig .tc .vmem S4x8x512 .f32) (f : BufTy.Contents (Elt F) arg.view.ty) (P : Fin 8 → FVec F S8x256 .f32) :
    arg.view.read (Elt F) (arg.view.writes (Elt F) f (halves.map fun h => ⟨rect8 h, shapeCast S1x8x256 (P h) shapeCasts_S8x256_S1x8x256⟩)) = whole8 P := by
  funext y
  refine View.read_writes_apply_of_pieces _ _ _ _ ?_ y ⟨_, List.mem_map.mpr ⟨halfOf (y 0) (y 2), mem_halves _, rfl⟩, cover8 y⟩
  intro p hp x
  obtain ⟨h, -, rfl⟩ := List.mem_map.mp hp
  refine Eq.trans ?_ (whole8_idx P h x).symm
  show shapeCast S1x8x256 (P h) shapeCasts_S8x256_S1x8x256 (x : S1x8x256.Idx) = _
  pointwise

theorem read_halves64 (arg : Memref sig .tc .vmem S4x64x512 .f32) (f : BufTy.Contents (Elt F) arg.view.ty) (P : Fin 8 → FVec F S64x256 .f32) :
    arg.view.read (Elt F) (arg.view.writes (Elt F) f (halves.map fun h => ⟨rect64 h, shapeCast S1x64x256 (P h) shapeCasts_S64x256_S1x64x256⟩)) = whole64 P := by
  funext y
  refine View.read_writes_apply_of_pieces _ _ _ _ ?_ y ⟨_, List.mem_map.mpr ⟨halfOf (y 0) (y 2), mem_halves _, rfl⟩, cover64 y⟩
  intro p hp x
  obtain ⟨h, -, rfl⟩ := List.mem_map.mp hp
  refine Eq.trans ?_ (whole64_idx P h x).symm
  show shapeCast S1x64x256 (P h) shapeCasts_S64x256_S1x64x256 (x : S1x64x256.Idx) = _
  pointwise

theorem laneAt_whole8 (P : Fin 8 → FVec F S8x256 .f32) (h : Fin 8) : laneAt (whole8 P) h = P h := by
  have e : (fun y : S1x8x256.Idx => whole8 P ((rect8 h).toLoadRect.idx y)) = shapeCast S1x8x256 (P h) shapeCasts_S8x256_S1x8x256 := by
    funext x
    refine (whole8_idx P h x).trans ?_
    pointwise
  unfold laneAt
  rw [e]
  exact shapeCast_shapeCast _ _ _

theorem accAt_whole64 (P : Fin 8 → FVec F S64x256 .f32) (h : Fin 8) : accAt (whole64 P) h = P h := by
  have e : (fun y : S1x64x256.Idx => whole64 P ((rect64 h).toLoadRect.idx y)) = shapeCast S1x64x256 (P h) shapeCasts_S64x256_S1x64x256 := by
    funext x
    refine (whole64_idx P h x).trans ?_
    pointwise
  unfold accAt
  rw [e]
  exact shapeCast_shapeCast _ _ _

/-! ### Chunks in two runs -/

theorem mAt_add (kc : ℕ → FVec F S256x64 .bf16) (q : FVec F S64x256 .bf16) (m₀ : FVec F S8x256 .f32) (a b : ℕ) :
    mAt kc q m₀ (a + b) = mAt (fun c => kc (a + c)) q (mAt kc q m₀ a) b := by
  induction b with
  | zero => rfl
  | succ b ih => show mNew _ (mAt kc q m₀ (a + b)) = mNew _ (mAt _ _ _ b); rw [ih]; rfl

theorem lAt_add (kc : ℕ → FVec F S256x64 .bf16) (vc : ℕ → FVec F S80x256 .bf16) (q : FVec F S64x256 .bf16) (m₀ l₀ : FVec F S8x256 .f32) (a b : ℕ) :
    lAt kc vc q m₀ l₀ (a + b) = lAt (fun c => kc (a + c)) (fun c => vc (a + c)) q (mAt kc q m₀ a) (lAt kc vc q m₀ l₀ a) b := by
  induction b with
  | zero => rfl
  | succ b ih => show lNew _ _ (mAt kc q m₀ (a + b)) (lAt kc vc q m₀ l₀ (a + b)) = lNew _ _ (mAt _ _ _ b) (lAt _ _ _ _ _ b); rw [ih, mAt_add]; rfl

theorem aAt_add (kc : ℕ → FVec F S256x64 .bf16) (vc : ℕ → FVec F S80x256 .bf16) (q : FVec F S64x256 .bf16) (m₀ : FVec F S8x256 .f32) (a₀ : FVec F S64x256 .f32) (a b : ℕ) :
    aAt kc vc q m₀ a₀ (a + b) = aAt (fun c => kc (a + c)) (fun c => vc (a + c)) q (mAt kc q m₀ a) (aAt kc vc q m₀ a₀ a) b := by
  induction b with
  | zero => rfl
  | succ b ih => show aNew _ _ (mAt kc q m₀ (a + b)) (aAt kc vc q m₀ a₀ (a + b)) = aNew _ _ (mAt _ _ _ b) (aAt _ _ _ _ _ b); rw [ih, mAt_add]; rfl

theorem mAt_congr (kc kc' : ℕ → FVec F S256x64 .bf16) (q : FVec F S64x256 .bf16) (m₀ : FVec F S8x256 .f32) (n : ℕ) (hk : ∀ c < n, kc c = kc' c) :
    mAt kc q m₀ n = mAt kc' q m₀ n := by
  induction n with
  | zero => rfl
  | succ n ih =>
    show mNew (scores (kc n) q) (mAt kc q m₀ n) = mNew (scores (kc' n) q) (mAt kc' q m₀ n)
    rw [hk n (by omega), ih fun c hc => hk c (by omega)]

theorem lAt_congr (kc kc' : ℕ → FVec F S256x64 .bf16) (vc vc' : ℕ → FVec F S80x256 .bf16) (q : FVec F S64x256 .bf16) (m₀ l₀ : FVec F S8x256 .f32) (n : ℕ)
    (hk : ∀ c < n, kc c = kc' c) (hv : ∀ c < n, vc c = vc' c) : lAt kc vc q m₀ l₀ n = lAt kc' vc' q m₀ l₀ n := by
  induction n with
  | zero => rfl
  | succ n ih =>
    show lNew (scores (kc n) q) (vc n) (mAt kc q m₀ n) (lAt kc vc q m₀ l₀ n) = lNew (scores (kc' n) q) (vc' n) (mAt kc' q m₀ n) (lAt kc' vc' q m₀ l₀ n)
    rw [hk n (by omega), hv n (by omega), mAt_congr kc kc' q m₀ n fun c hc => hk c (by omega), ih (fun c hc => hk c (by omega)) fun c hc => hv c (by omega)]

theorem aAt_congr (kc kc' : ℕ → FVec F S256x64 .bf16) (vc vc' : ℕ → FVec F S80x256 .bf16) (q : FVec F S64x256 .bf16) (m₀ : FVec F S8x256 .f32) (a₀ : FVec F S64x256 .f32) (n : ℕ)
    (hk : ∀ c < n, kc c = kc' c) (hv : ∀ c < n, vc c = vc' c) : aAt kc vc q m₀ a₀ n = aAt kc' vc' q m₀ a₀ n := by
  induction n with
  | zero => rfl
  | succ n ih =>
    show aNew (scores (kc n) q) (vc n) (mAt kc q m₀ n) (aAt kc vc q m₀ a₀ n) = aNew (scores (kc' n) q) (vc' n) (mAt kc' q m₀ n) (aAt kc' vc' q m₀ a₀ n)
    rw [hk n (by omega), hv n (by omega), mAt_congr kc kc' q m₀ n fun c hc => hk c (by omega), ih (fun c hc => hk c (by omega)) fun c hc => hv c (by omega)]

end Cert.KernelIdeal.Attn

end
-- ==== Proof.Loop.lean ====
/- The whole loop over the keys: what the scratch buffers hold after its two trips. -/
module

public import proofs.«01_k».proof.Proof.Trip
public import proofs.«01_k».proof.Proof.Halves

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F] [Named F]

theorem readAt_congr {sp : Space} {s t : Shape} {e : EltTy} (v : View sig .tc sp s e) (X : BufTy.Contents (Elt F) v.ty) (sz : Fin s.rank → ℕ) (o o' : Fin s.rank → ℕ)
    (h : ∀ a, o a + sz a ≤ s.size a) (h' : ∀ a, o' a + sz a ≤ s.size a) (e : o = o') :
    View.readAt (Elt F) v (Rect.unit o sz h).toLoadRect X = View.readAt (Elt F) v (Rect.unit o' sz h').toLoadRect X := by
  subst e; rfl

theorem keysOf_eq (arg7 : Memref sig .tc .vmem S16384x64 .bf16) (X7 : BufTy.Contents (Elt F) arg7.view.ty) (k : Fin k0_t2_loop.trips) (c : ℕ) (hc : c < 32) :
    keysOf arg7 X7 k c = keysAt (arg7.view.read (Elt F) X7) (32 * k.val + c) := by
  have hk : k.val < 2 := Nat.lt_of_lt_of_le k.isLt k0_t2_abs.2.1
  refine readAt_congr (t := S256x64) arg7.view X7 S256x64.size _ ![256 * ((32 * k.val + c) % 64), 0] _ (keys_inb _) ?_
  rw [k0_off3_eq k ⟨c % 32, Nat.mod_lt _ (by decide)⟩]
  have : 8192 * k.val + 256 * (c % 32) = 256 * ((32 * k.val + c) % 64) := by omega
  simp only [this]

theorem valuesOf_eq (arg5 : Memref sig .tc .vmem S80x16384 .bf16) (X5 : BufTy.Contents (Elt F) arg5.view.ty) (k : Fin k0_t2_loop.trips) (c : ℕ) (hc : c < 32) :
    valuesOf arg5 X5 k c = valuesAt (arg5.view.read (Elt F) X5) (32 * k.val + c) := by
  have hk : k.val < 2 := Nat.lt_of_lt_of_le k.isLt k0_t2_abs.2.1
  refine congrArg (fun x => shapeCast S80x256 x shapeCasts_S80x256_S80x256) ?_
  refine readAt_congr (t := S80x256) arg5.view X5 S80x256.size _ ![0, 256 * ((32 * k.val + c) % 64)] _ (values_inb _) ?_
  rw [k0_off4_eq k ⟨c % 32, Nat.mod_lt _ (by decide)⟩]
  have : 8192 * k.val + 256 * (c % 32) = 256 * ((32 * k.val + c) % 64) := by omega
  simp only [this]

section
variable (𝒱 : Variants) (c : Dev nD) (bd : Option 𝒱.V) (i : grid0.Coords) (arg3 : Memref sig .tc .vmem S256x512 .bf16) (harg3 : arg3.IsWhole) (arg4 : Memref sig .tc .vmem S64x16384 .bf16) (harg4 : arg4.IsWhole)
  (arg5 : Memref sig .tc .vmem S80x16384 .bf16) (harg5 : arg5.IsWhole) (arg6 : Memref sig .tc .vmem S256x512 .bf16) (harg6 : arg6.IsWhole) (arg7 : Memref sig .tc .vmem S16384x64 .bf16) (harg7 : arg7.IsWhole)
  (arg8 : Memref sig .tc .vmem S4x8x512 .f32) (harg8 : arg8.IsWhole) (arg9 : Memref sig .tc .vmem S4x8x512 .f32) (harg9 : arg9.IsWhole) (arg10 : Memref sig .tc .vmem S4x64x512 .f32) (harg10 : arg10.IsWhole)
  (X3 : BufTy.Contents (Elt F) arg3.view.ty) (X5 : BufTy.Contents (Elt F) arg5.view.ty) (X7 : BufTy.Contents (Elt F) arg7.view.ty) (k : Fin k0_t2_loop.trips)
  (f8 : BufTy.Contents (Elt F) arg8.view.ty) (f9 : BufTy.Contents (Elt F) arg9.view.ty) (f10 : BufTy.Contents (Elt F) arg10.view.ty)

/-- A trip's pieces, told over the halves. -/
theorem trip_m_halves : (trip_k0_t2 (F := F) 𝒱 c bd i arg3 harg3 arg4 harg4 arg5 harg5 arg6 harg6 arg7 harg7 arg8 harg8 arg9 harg9 arg10 harg10 X3 X5 X7 k).1 f8 f9 f10 =
    halves.map fun h => ⟨rect8 h, shapeCast S1x8x256 (mAt (keysOf arg7 X7 k) (queriesAt (arg3.view.read (Elt F) X3) h) (laneAt (arg8.view.read (Elt F) f8) h) 32) shapeCasts_S8x256_S1x8x256⟩ :=
  (trip_m 𝒱 c bd i arg3 harg3 arg4 harg4 arg5 harg5 arg6 harg6 arg7 harg7 arg8 harg8 arg9 harg9 arg10 harg10 X3 X5 X7 k f8 f9 f10).trans (by sl_kernel_rfl)

theorem trip_l_halves : (trip_k0_t2 (F := F) 𝒱 c bd i arg3 harg3 arg4 harg4 arg5 harg5 arg6 harg6 arg7 harg7 arg8 harg8 arg9 harg9 arg10 harg10 X3 X5 X7 k).2.1 f8 f9 f10 =
    halves.map fun h => ⟨rect8 h, shapeCast S1x8x256 (lAt (keysOf arg7 X7 k) (valuesOf arg5 X5 k) (queriesAt (arg3.view.read (Elt F) X3) h) (laneAt (arg8.view.read (Elt F) f8) h)
      (laneAt (arg9.view.read (Elt F) f9) h) 32) shapeCasts_S8x256_S1x8x256⟩ :=
  (trip_l 𝒱 c bd i arg3 harg3 arg4 harg4 arg5 harg5 arg6 harg6 arg7 harg7 arg8 harg8 arg9 harg9 arg10 harg10 X3 X5 X7 k f8 f9 f10).trans (by sl_kernel_rfl)

theorem trip_a_halves : (trip_k0_t2 (F := F) 𝒱 c bd i arg3 harg3 arg4 harg4 arg5 harg5 arg6 harg6 arg7 harg7 arg8 harg8 arg9 harg9 arg10 harg10 X3 X5 X7 k).2.2.1 f8 f9 f10 =
    halves.map fun h => ⟨rect64 h, shapeCast S1x64x256 (aAt (keysOf arg7 X7 k) (valuesOf arg5 X5 k) (queriesAt (arg3.view.read (Elt F) X3) h) (laneAt (arg8.view.read (Elt F) f8) h)
      (accAt (arg10.view.read (Elt F) f10) h) 32) shapeCasts_S64x256_S1x64x256⟩ :=
  (trip_a 𝒱 c bd i arg3 harg3 arg4 harg4 arg5 harg5 arg6 harg6 arg7 harg7 arg8 harg8 arg9 harg9 arg10 harg10 X3 X5 X7 k f8 f9 f10).trans (by sl_kernel_rfl)

/-- What a trip leaves in the maxima, the weights' sums and the values' sums. -/
theorem trip_m_read : arg8.view.read (Elt F) (arg8.view.writes (Elt F) f8 ((trip_k0_t2 (F := F) 𝒱 c bd i arg3 harg3 arg4 harg4 arg5 harg5 arg6 harg6 arg7 harg7 arg8 harg8 arg9 harg9 arg10 harg10 X3 X5 X7 k).1 f8 f9 f10)) =
    whole8 fun h => mAt (fun c => keysAt (arg7.view.read (Elt F) X7) (32 * k.val + c)) (queriesAt (arg3.view.read (Elt F) X3) h) (laneAt (arg8.view.read (Elt F) f8) h) 32 := by
  rw [trip_m_halves, read_halves8]
  exact congrArg whole8 (funext fun h => mAt_congr _ _ _ _ _ fun c hc => keysOf_eq arg7 X7 k c hc)

theorem trip_l_read : arg9.view.read (Elt F) (arg9.view.writes (Elt F) f9 ((trip_k0_t2 (F := F) 𝒱 c bd i arg3 harg3 arg4 harg4 arg5 harg5 arg6 harg6 arg7 harg7 arg8 harg8 arg9 harg9 arg10 harg10 X3 X5 X7 k).2.1 f8 f9 f10)) =
    whole8 fun h => lAt (fun c => keysAt (arg7.view.read (Elt F) X7) (32 * k.val + c)) (fun c => valuesAt (arg5.view.read (Elt F) X5) (32 * k.val + c)) (queriesAt (arg3.view.read (Elt F) X3) h)
      (laneAt (arg8.view.read (Elt F) f8) h) (laneAt (arg9.view.read (Elt F) f9) h) 32 := by
  rw [trip_l_halves, read_halves8]
  exact congrArg whole8 (funext fun h => lAt_congr _ _ _ _ _ _ _ _ (fun c hc => keysOf_eq arg7 X7 k c hc) fun c hc => valuesOf_eq arg5 X5 k c hc)

theorem trip_a_read : arg10.view.read (Elt F) (arg10.view.writes (Elt F) f10 ((trip_k0_t2 (F := F) 𝒱 c bd i arg3 harg3 arg4 harg4 arg5 harg5 arg6 harg6 arg7 harg7 arg8 harg8 arg9 harg9 arg10 harg10 X3 X5 X7 k).2.2.1 f8 f9 f10)) =
    whole64 fun h => aAt (fun c => keysAt (arg7.view.read (Elt F) X7) (32 * k.val + c)) (fun c => valuesAt (arg5.view.read (Elt F) X5) (32 * k.val + c)) (queriesAt (arg3.view.read (Elt F) X3) h)
      (laneAt (arg8.view.read (Elt F) f8) h) (accAt (arg10.view.read (Elt F) f10) h) 32 := by
  rw [trip_a_halves, read_halves64]
  exact congrArg whole64 (funext fun h => aAt_congr _ _ _ _ _ _ _ _ (fun c hc => keysOf_eq arg7 X7 k c hc) fun c hc => valuesOf_eq arg5 X5 k c hc)

end

section
variable (𝒱 : Variants) (c : Dev nD) (bd : Option 𝒱.V) (i : grid0.Coords) (arg3 : Memref sig .tc .vmem S256x512 .bf16) (harg3 : arg3.IsWhole) (arg4 : Memref sig .tc .vmem S64x16384 .bf16) (harg4 : arg4.IsWhole)
  (arg5 : Memref sig .tc .vmem S80x16384 .bf16) (harg5 : arg5.IsWhole) (arg6 : Memref sig .tc .vmem S256x512 .bf16) (harg6 : arg6.IsWhole) (arg7 : Memref sig .tc .vmem S16384x64 .bf16) (harg7 : arg7.IsWhole)
  (arg8 : Memref sig .tc .vmem S4x8x512 .f32) (harg8 : arg8.IsWhole) (arg9 : Memref sig .tc .vmem S4x8x512 .f32) (harg9 : arg9.IsWhole) (arg10 : Memref sig .tc .vmem S4x64x512 .f32) (harg10 : arg10.IsWhole)
  (X3 : BufTy.Contents (Elt F) arg3.view.ty) (X5 : BufTy.Contents (Elt F) arg5.view.ty) (X7 : BufTy.Contents (Elt F) arg7.view.ty)
  (f8 : BufTy.Contents (Elt F) arg8.view.ty) (f9 : BufTy.Contents (Elt F) arg9.view.ty) (f10 : BufTy.Contents (Elt F) arg10.view.ty)

/-- One trip on: thirty-two more chunks folded into what the buffers held. -/
theorem loop_step (k : Fin k0_t2_loop.trips) :
    arg8.view.read (Elt F) (arg8.view.writes (Elt F) f8 (pb_k0_t2 (F := F) 𝒱 c bd i arg3 harg3 arg4 harg4 arg5 harg5 arg6 harg6 arg7 harg7 arg8 harg8 arg9 harg9 arg10 harg10 X3 X5 X7 f8 f9 f10 (k.val + 1)).1) =
      (whole8 fun h => mAt (fun c => keysAt (arg7.view.read (Elt F) X7) (32 * k.val + c)) (queriesAt (arg3.view.read (Elt F) X3) h) (laneAt (arg8.view.read (Elt F) (arg8.view.writes (Elt F) f8 (pb_k0_t2 (F := F) 𝒱 c bd i arg3 harg3 arg4 harg4 arg5 harg5 arg6 harg6 arg7 harg7 arg8 harg8 arg9 harg9 arg10 harg10 X3 X5 X7 f8 f9 f10 k.val).1)) h) 32) ∧
    arg9.view.read (Elt F) (arg9.view.writes (Elt F) f9 (pb_k0_t2 (F := F) 𝒱 c bd i arg3 harg3 arg4 harg4 arg5 harg5 arg6 harg6 arg7 harg7 arg8 harg8 arg9 harg9 arg10 harg10 X3 X5 X7 f8 f9 f10 (k.val + 1)).2.1) =
      (whole8 fun h => lAt (fun c => keysAt (arg7.view.read (Elt F) X7) (32 * k.val + c)) (fun c => valuesAt (arg5.view.read (Elt F) X5) (32 * k.val + c)) (queriesAt (arg3.view.read (Elt F) X3) h) (laneAt (arg8.view.read (Elt F) (arg8.view.writes (Elt F) f8 (pb_k0_t2 (F := F) 𝒱 c bd i arg3 harg3 arg4 harg4 arg5 harg5 arg6 harg6 arg7 harg7 arg8 harg8 arg9 harg9 arg10 harg10 X3 X5 X7 f8 f9 f10 k.val).1)) h) (laneAt (arg9.view.read (Elt F) (arg9.view.writes (Elt F) f9 (pb_k0_t2 (F := F) 𝒱 c bd i arg3 harg3 arg4 harg4 arg5 harg5 arg6 harg6 arg7 harg7 arg8 harg8 arg9 harg9 arg10 harg10 X3 X5 X7 f8 f9 f10 k.val).2.1)) h) 32) ∧
    arg10.view.read (Elt F) (arg10.view.writes (Elt F) f10 (pb_k0_t2 (F := F) 𝒱 c bd i arg3 harg3 arg4 harg4 arg5 harg5 arg6 harg6 arg7 harg7 arg8 harg8 arg9 harg9 arg10 harg10 X3 X5 X7 f8 f9 f10 (k.val + 1)).2.2) =
      (whole64 fun h => aAt (fun c => keysAt (arg7.view.read (Elt F) X7) (32 * k.val + c)) (fun c => valuesAt (arg5.view.read (Elt F) X5) (32 * k.val + c)) (queriesAt (arg3.view.read (Elt F) X3) h) (laneAt (arg8.view.read (Elt F) (arg8.view.writes (Elt F) f8 (pb_k0_t2 (F := F) 𝒱 c bd i arg3 harg3 arg4 harg4 arg5 harg5 arg6 harg6 arg7 harg7 arg8 harg8 arg9 harg9 arg10 harg10 X3 X5 X7 f8 f9 f10 k.val).1)) h) (accAt (arg10.view.read (Elt F) (arg10.view.writes (Elt F) f10 (pb_k0_t2 (F := F) 𝒱 c bd i arg3 harg3 arg4 harg4 arg5 harg5 arg6 harg6 arg7 harg7 arg8 harg8 arg9 harg9 arg10 harg10 X3 X5 X7 f8 f9 f10 k.val).2.2)) h) 32) := by
  have e := pb_k0_t2_succ (F := F) 𝒱 c bd i arg3 harg3 arg4 harg4 arg5 harg5 arg6 harg6 arg7 harg7 arg8 harg8 arg9 harg9 arg10 harg10 X3 X5 X7 f8 f9 f10 k
  refine ⟨?_, ?_, ?_⟩
  · exact (congrArg (fun p => arg8.view.read (Elt F) (arg8.view.writes (Elt F) f8 p.1)) e).trans ((congrArg (arg8.view.read (Elt F)) (View.writes_append _ _ _ _)).trans (trip_m_read 𝒱 c bd i arg3 harg3 arg4 harg4 arg5 harg5 arg6 harg6 arg7 harg7 arg8 harg8 arg9 harg9 arg10 harg10 X3 X5 X7 k _ _ _))
  · exact (congrArg (fun p => arg9.view.read (Elt F) (arg9.view.writes (Elt F) f9 p.2.1)) e).trans ((congrArg (arg9.view.read (Elt F)) (View.writes_append _ _ _ _)).trans (trip_l_read 𝒱 c bd i arg3 harg3 arg4 harg4 arg5 harg5 arg6 harg6 arg7 harg7 arg8 harg8 arg9 harg9 arg10 harg10 X3 X5 X7 k _ _ _))
  · exact (congrArg (fun p => arg10.view.read (Elt F) (arg10.view.writes (Elt F) f10 p.2.2)) e).trans ((congrArg (arg10.view.read (Elt F)) (View.writes_append _ _ _ _)).trans (trip_a_read 𝒱 c bd i arg3 harg3 arg4 harg4 arg5 harg5 arg6 harg6 arg7 harg7 arg8 harg8 arg9 harg9 arg10 harg10 X3 X5 X7 k _ _ _))

/-- What the loop leaves in the three buffers: sixty-four chunks folded into what they held. -/
theorem loop_read :
    arg8.view.read (Elt F) (arg8.view.writes (Elt F) f8 (pb_k0_t2 (F := F) 𝒱 c bd i arg3 harg3 arg4 harg4 arg5 harg5 arg6 harg6 arg7 harg7 arg8 harg8 arg9 harg9 arg10 harg10 X3 X5 X7 f8 f9 f10 2).1) =
      (whole8 fun h => mAt (keysAt (arg7.view.read (Elt F) X7)) (queriesAt (arg3.view.read (Elt F) X3) h) (laneAt (arg8.view.read (Elt F) f8) h) 64) ∧
    arg9.view.read (Elt F) (arg9.view.writes (Elt F) f9 (pb_k0_t2 (F := F) 𝒱 c bd i arg3 harg3 arg4 harg4 arg5 harg5 arg6 harg6 arg7 harg7 arg8 harg8 arg9 harg9 arg10 harg10 X3 X5 X7 f8 f9 f10 2).2.1) =
      (whole8 fun h => lAt (keysAt (arg7.view.read (Elt F) X7)) (valuesAt (arg5.view.read (Elt F) X5)) (queriesAt (arg3.view.read (Elt F) X3) h) (laneAt (arg8.view.read (Elt F) f8) h) (laneAt (arg9.view.read (Elt F) f9) h) 64) ∧
    arg10.view.read (Elt F) (arg10.view.writes (Elt F) f10 (pb_k0_t2 (F := F) 𝒱 c bd i arg3 harg3 arg4 harg4 arg5 harg5 arg6 harg6 arg7 harg7 arg8 harg8 arg9 harg9 arg10 harg10 X3 X5 X7 f8 f9 f10 2).2.2) =
      (whole64 fun h => aAt (keysAt (arg7.view.read (Elt F) X7)) (valuesAt (arg5.view.read (Elt F) X5)) (queriesAt (arg3.view.read (Elt F) X3) h) (laneAt (arg8.view.read (Elt F) f8) h) (accAt (arg10.view.read (Elt F) f10) h) 64) := by
  obtain ⟨a8, a9, a10⟩ := loop_step 𝒱 c bd i arg3 harg3 arg4 harg4 arg5 harg5 arg6 harg6 arg7 harg7 arg8 harg8 arg9 harg9 arg10 harg10 X3 X5 X7 f8 f9 f10 ⟨0, by decide⟩
  obtain ⟨b8, b9, b10⟩ := loop_step 𝒱 c bd i arg3 harg3 arg4 harg4 arg5 harg5 arg6 harg6 arg7 harg7 arg8 harg8 arg9 harg9 arg10 harg10 X3 X5 X7 f8 f9 f10 ⟨1, by decide⟩
  refine ⟨b8.trans (congrArg whole8 (funext fun h => ?_)), b9.trans (congrArg whole8 (funext fun h => ?_)), b10.trans (congrArg whole64 (funext fun h => ?_))⟩
  · refine (congrArg (fun x => mAt _ _ (laneAt x h) 32) a8).trans ?_
    rw [laneAt_whole8]
    exact (mAt_add _ _ _ 32 32).symm
  · refine (congrArg₂ (fun x y => lAt _ _ _ (laneAt x h) (laneAt y h) 32) a8 a9).trans ?_
    rw [laneAt_whole8, laneAt_whole8]
    exact (lAt_add _ _ _ _ _ 32 32).symm
  · refine (congrArg₂ (fun x y => aAt _ _ _ (laneAt x h) (accAt y h) 32) a8 a10).trans ?_
    rw [laneAt_whole8, accAt_whole64]
    exact (aAt_add _ _ _ _ _ 32 32).symm

end

end Cert.KernelIdeal.Attn

end
-- ==== Proof.Block.lean ====
/- One visit of the attention kernel's body: what it leaves in the transposed keys and in the output block. -/
module

public import proofs.«01_k».proof.Proof.Body
public import proofs.«01_k».proof.Proof.Loop

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F] [Named F]

/-- Keys held a row each, from keys held a column each. -/
def transposed (x : Vec F S64x16384 .bf16) : Vec F S16384x64 .bf16 := fun y => x (ix2 (y 1) (y 0))

/-- The sums of eight lanes, in every lane, one rotation at a time. -/
def sum4 (x : FVec F S8x512 .f32) : FVec F S8x512 .f32 := addf x (dynamicRotate 0 4#32 none x rotates_S8x512_d0)
def sum2 (x : FVec F S8x512 .f32) : FVec F S8x512 .f32 := addf x (dynamicRotate 0 2#32 none x rotates_S8x512_d0)
def sum1 (x : FVec F S8x512 .f32) : FVec F S8x512 .f32 := addf x (dynamicRotate 0 1#32 none x rotates_S8x512_d0)

/-- A head's values' sums over its weights' sum. -/
def headOut (a : FVec F S1x64x512 .f32) (l : FVec F S1x8x512 .f32) : FVec F S64x512 .bf16 :=
  truncf .bf16 (shapeCast S64x512 (mulf (shapeCast S8x8x512 (shapeCast S64x512 a shapeCasts_S1x64x512_S64x512) shapeCasts_S64x512_S8x8x512)
    (broadcastTo S8x8x512 (shapeCast S1x8x512 (divf (broadcast S8x512 (Scalar.ofBits .f32 0x3F800000#32 : F .f32))
      (sum1 (sum2 (sum4 (shapeCast S8x512 l shapeCasts_S1x8x512_S8x512))))) shapeCasts_S8x512_S1x8x512) broadcasts_S1x8x512_S8x8x512)) shapeCasts_S8x8x512_S64x512) bitsLt_bf16_f32

theorem head8_inb : ∀ (j : Fin 4) (a : Fin 3), (![j.val, 0, 0] : Fin 3 → ℕ) a + S1x8x512.size a ≤ S4x8x512.size a := by decide
theorem head64_inb : ∀ (j : Fin 4) (a : Fin 3), (![j.val, 0, 0] : Fin 3 → ℕ) a + S1x64x512.size a ≤ S4x64x512.size a := by decide
theorem headO_inb : ∀ (j : Fin 4) (a : Fin 2), (![64 * j.val, 0] : Fin 2 → ℕ) a + S64x512.size a ≤ S256x512.size a := by decide

/-- Head `j`'s rows of the buffers and of the output. -/
abbrev head8 (j : Fin 4) : Rect S4x8x512 := Rect.unit ![j.val, 0, 0] S1x8x512.size (head8_inb j)
abbrev head64 (j : Fin 4) : Rect S4x64x512 := Rect.unit ![j.val, 0, 0] S1x64x512.size (head64_inb j)
abbrev headO (j : Fin 4) : Rect S256x512 := Rect.unit ![64 * j.val, 0] S64x512.size (headO_inb j)

/-- The heads, the last one first. -/
def heads : List (Fin 4) := [3, 2, 1, 0]

theorem mem_heads : ∀ j : Fin 4, j ∈ heads := by decide

/-- Head `j`'s output from the sums' buffers. -/
def headAt (a : Vec F S4x64x512 .f32) (l : Vec F S4x8x512 .f32) (j : Fin 4) : FVec F S64x512 .bf16 :=
  headOut (fun y : S1x64x512.Idx => a ((head64 j).toLoadRect.idx y)) (fun y : S1x8x512.Idx => l ((head8 j).toLoadRect.idx y))

theorem headOf_lt (a : Fin 256) : a.val / 64 < 4 := by omega

/-- The output block, told head by head. -/
def wholeO (P : Fin 4 → FVec F S64x512 .bf16) : Vec F S256x512 .bf16 :=
  fun y => P ⟨(y 0).val / 64, headOf_lt (y 0)⟩ (ix2 ⟨(y 0).val % 64, Nat.mod_lt _ (by decide)⟩ (y 1))

/-- The sums after every chunk, half by half. -/
def sumsL (x0 : Vec F S256x512 .bf16) (kT : Vec F S16384x64 .bf16) (x2 : Vec F S80x16384 .bf16) (h : Fin 8) : FVec F S8x256 .f32 :=
  lAt (keysAt kT) (valuesAt x2) (queriesAt x0 h) (laneAt k0_pay1681 h) (laneAt k0_pay1682 h) 64
def sumsA (x0 : Vec F S256x512 .bf16) (kT : Vec F S16384x64 .bf16) (x2 : Vec F S80x16384 .bf16) (h : Fin 8) : FVec F S64x256 .f32 :=
  aAt (keysAt kT) (valuesAt x2) (queriesAt x0 h) (laneAt k0_pay1681 h) (accAt k0_pay1683 h) 64

/-- The output block of a visit, from the queries, the transposed keys and the values. -/
def outBlock (x0 : Vec F S256x512 .bf16) (kT : Vec F S16384x64 .bf16) (x2 : Vec F S80x16384 .bf16) : Vec F S256x512 .bf16 :=
  wholeO (headAt (whole64 (sumsA x0 kT x2)) (whole8 (sumsL x0 kT x2)))

theorem wholeO_idx (P : Fin 4 → FVec F S64x512 .bf16) (j : Fin 4) (x : S64x512.Idx) : wholeO P ((headO j).emb x) = P j x := by
  have h0 : ((headO j).emb x 0 : ℕ) = 64 * j.val + (x 0).val := by simp
  have h1 : ((headO j).emb x 1 : ℕ) = (x 1).val := by simp
  have b0 : (x 0).val < 64 := (x 0).isLt
  have e : (⟨((headO j).emb x 0 : ℕ) / 64, headOf_lt ((headO j).emb x 0)⟩ : Fin 4) = j := Fin.ext (by
    show ((headO j).emb x 0 : ℕ) / 64 = j.val
    rw [h0]; omega)
  unfold wholeO
  rw [e]
  congr 1
  funext a
  match a with
  | 0 => exact Fin.ext (by show ((headO j).emb x 0 : ℕ) % 64 = (x 0).val; rw [h0]; omega)
  | 1 => exact Fin.ext h1

theorem coverO (y : S256x512.Idx) : y ∈ (headO ⟨(y 0).val / 64, headOf_lt (y 0)⟩).set := by
  have b0 : (y 0).val < 256 := (y 0).isLt
  have b1 : (y 1).val < 512 := (y 1).isLt
  rw [Rect.mem_set_unit]
  intro a
  match a with
  | 0 => show 64 * ((y 0).val / 64) ≤ (y 0).val ∧ (y 0).val < 64 * ((y 0).val / 64) + 64; omega
  | 1 => show 0 ≤ (y 1).val ∧ (y 1).val < 0 + 512; omega

/-- An output block written head by head reads as the heads told. -/
theorem read_heads (arg : Memref sig .tc .vmem S256x512 .bf16) (f : BufTy.Contents (Elt F) arg.view.ty) (P : Fin 4 → FVec F S64x512 .bf16) :
    arg.view.read (Elt F) (arg.view.writes (Elt F) f (heads.map fun j => ⟨headO j, P j⟩)) = wholeO P := by
  funext y
  refine View.read_writes_apply_of_pieces _ _ _ _ ?_ y ⟨_, List.mem_map.mpr ⟨⟨(y 0).val / 64, headOf_lt (y 0)⟩, mem_heads _, rfl⟩, coverO y⟩
  intro p hp x
  obtain ⟨j, -, rfl⟩ := List.mem_map.mp hp
  exact (wholeO_idx P j x).symm

/-- A buffer filled whole reads as what filled it. -/
theorem read_filled {s : Shape} {e : EltTy} (arg : Memref sig .tc .vmem s e) (f : BufTy.Contents (Elt F) arg.view.ty) (o : Fin s.rank → ℕ) (ho : o = fun _ => 0)
    (h : ∀ a, o a + s.size a ≤ s.size a) (P : Vec F s e) : arg.view.read (Elt F) (arg.view.writes (Elt F) f [⟨Rect.unit o s.size h, P⟩]) = P := by
  subst ho
  funext y
  refine View.read_writes_apply_of_pieces _ _ P _ ?_ y ⟨_, List.mem_singleton_self _, ?_⟩
  · intro p hp x
    obtain rfl := List.mem_singleton.mp hp
    refine congrArg P (funext fun a => Fin.ext ?_)
    simp
  · rw [Rect.mem_set_unit]
    intro a
    exact ⟨Nat.zero_le _, by rw [Nat.zero_add]; exact (y a).isLt⟩

section
variable (c : Dev nD) (i : grid0.Coords) (arg3 : Memref sig .tc .vmem S256x512 .bf16) (harg3 : arg3.IsWhole) (arg4 : Memref sig .tc .vmem S64x16384 .bf16) (harg4 : arg4.IsWhole)
  (arg5 : Memref sig .tc .vmem S80x16384 .bf16) (harg5 : arg5.IsWhole) (arg6 : Memref sig .tc .vmem S256x512 .bf16) (harg6 : arg6.IsWhole) (arg7 : Memref sig .tc .vmem S16384x64 .bf16) (harg7 : arg7.IsWhole)
  (arg8 : Memref sig .tc .vmem S4x8x512 .f32) (harg8 : arg8.IsWhole) (arg9 : Memref sig .tc .vmem S4x8x512 .f32) (harg9 : arg9.IsWhole) (arg10 : Memref sig .tc .vmem S4x64x512 .f32) (harg10 : arg10.IsWhole)

/-- One trip of the transposition stores 512 keys a row each. -/
theorem fill_piece (hc0 : fills i) (X4 : BufTy.Contents (Elt F) arg4.view.ty) (k : Fin k0_t1_loop.trips) :
    (trip_k0_t1 (F := F) Variants.none c none i arg3 harg3 arg4 harg4 arg5 harg5 arg6 harg6 arg7 harg7 arg8 harg8 arg9 harg9 arg10 harg10 hc0 X4 k).1 =
      [⟨Rect.unit (k0_off2 k) S512x64.size (k0_off2_inb i k hc0), k0_pay1680 (View.readAt (Elt F) arg4.view (Rect.unit (s := S64x16384) (k0_off1 k) S64x512.size (k0_off1_inb i k hc0)).toLoadRect X4)⟩] := by
  unfold trip_k0_t1
  sl_kernel_rfl

/-- Every piece of the transposition is the transposed keys' at its place. -/
theorem fill_agree (hc0 : fills i) (X4 : BufTy.Contents (Elt F) arg4.view.ty) (k : Fin k0_t1_loop.trips) (x : S512x64.Idx) :
    k0_pay1680 (View.readAt (Elt F) arg4.view (Rect.unit (s := S64x16384) (k0_off1 k) S64x512.size (k0_off1_inb i k hc0)).toLoadRect X4) x =
      transposed (arg4.view.read (Elt F) X4) ((Rect.unit (s := S16384x64) (k0_off2 k) S512x64.size (k0_off2_inb i k hc0)).emb x) := by
  pointwise [k0_pay1680, transposed]
  rw [View.readAt_apply]
  refine congrArg _ (funext fun a => Fin.ext ?_)
  match a with
  | 0 => simp [k0_off1_eq, k0_off2_eq, LoadRect.idx]
  | 1 => simp [k0_off1_eq, k0_off2_eq, LoadRect.idx]

theorem fill_mem (hc0 : fills i) (X4 : BufTy.Contents (Elt F) arg4.view.ty) (n : ℕ) (hn : n ≤ k0_t1_loop.trips) :
    (∀ p ∈ pb_k0_t1 (F := F) Variants.none c none i arg3 harg3 arg4 harg4 arg5 harg5 arg6 harg6 arg7 harg7 arg8 harg8 arg9 harg9 arg10 harg10 hc0 X4 n,
      ∀ x : p.1.shape.Idx, p.2 x = transposed (arg4.view.read (Elt F) X4) (p.1.emb x)) ∧
    ∀ k : Fin k0_t1_loop.trips, k.val < n → ∃ p ∈ pb_k0_t1 (F := F) Variants.none c none i arg3 harg3 arg4 harg4 arg5 harg5 arg6 harg6 arg7 harg7 arg8 harg8 arg9 harg9 arg10 harg10 hc0 X4 n,
      p.1.set = (Rect.unit (s := S16384x64) (k0_off2 k) S512x64.size (k0_off2_inb i k hc0)).set := by
  induction n with
  | zero => exact ⟨fun p hp => absurd hp List.not_mem_nil, fun k hk => absurd hk (Nat.not_lt_zero _)⟩
  | succ n ih =>
    obtain ⟨ih1, ih2⟩ := ih (by omega)
    have e := (pb_k0_t1_succ (F := F) Variants.none c none i arg3 harg3 arg4 harg4 arg5 harg5 arg6 harg6 arg7 harg7 arg8 harg8 arg9 harg9 arg10 harg10 hc0 X4 ⟨n, hn⟩).trans
      (congrArg (· ++ _) (fill_piece c i arg3 harg3 arg4 harg4 arg5 harg5 arg6 harg6 arg7 harg7 arg8 harg8 arg9 harg9 arg10 harg10 hc0 X4 ⟨n, hn⟩))
    refine ⟨fun p hp x => ?_, fun k hk => ?_⟩
    · rcases List.mem_append.mp ((congrArg (fun l => p ∈ l) e).mp hp) with hp | hp
      · obtain rfl := List.mem_singleton.mp hp
        exact fill_agree i arg4 hc0 X4 ⟨n, hn⟩ x
      · exact ih1 p hp x
    · rcases Nat.lt_succ_iff_lt_or_eq.mp hk with hk | hk
      · obtain ⟨p, hp, h⟩ := ih2 k hk
        exact ⟨p, (congrArg (fun l => p ∈ l) e).mpr (List.mem_append_right _ hp), h⟩
      · obtain rfl : k = ⟨n, hn⟩ := Fin.ext hk
        exact ⟨_, (congrArg (fun l => _ ∈ l) e).mpr (List.mem_append_left _ (List.mem_singleton_self _)), rfl⟩

/-- The transposition fills the keys' buffer. -/
theorem fill_read (hc0 : fills i) (X4 : BufTy.Contents (Elt F) arg4.view.ty) (f : BufTy.Contents (Elt F) arg7.view.ty) :
    arg7.view.read (Elt F) (arg7.view.writes (Elt F) f (pb_k0_t1 (F := F) Variants.none c none i arg3 harg3 arg4 harg4 arg5 harg5 arg6 harg6 arg7 harg7 arg8 harg8 arg9 harg9 arg10 harg10 hc0 X4
      (Scf.trips k0_t1_loop.lb k0_t1_loop.ub k0_t1_loop.st))) = transposed (arg4.view.read (Elt F) X4) := by
  have e : Scf.trips k0_t1_loop.lb k0_t1_loop.ub k0_t1_loop.st = 32 := by decide
  have e' : k0_t1_loop.trips = 32 := by decide
  rw [e]
  obtain ⟨h1, h2⟩ := fill_mem c i arg3 harg3 arg4 harg4 arg5 harg5 arg6 harg6 arg7 harg7 arg8 harg8 arg9 harg9 arg10 harg10 hc0 X4 32 e'.ge
  funext y
  have b0 : (y 0).val < 16384 := (y 0).isLt
  have b1 : (y 1).val < 64 := (y 1).isLt
  obtain ⟨p, hp, hs⟩ := h2 ⟨(y 0).val / 512, by rw [e']; omega⟩ (by show (y 0).val / 512 < 32; omega)
  refine View.read_writes_apply_of_pieces _ _ _ _ h1 y ⟨p, hp, ?_⟩
  rw [hs, Rect.mem_set_unit]
  intro a
  rw [k0_off2_eq]
  match a with
  | 0 => show 512 * ((y 0).val / 512) ≤ (y 0).val ∧ (y 0).val < 512 * ((y 0).val / 512) + 512; omega
  | 1 => show 0 ≤ (y 1).val ∧ (y 1).val < 0 + 64; omega

/-- The buffers' contents after the loop over the keys. -/
def endL (X3 : BufTy.Contents (Elt F) arg3.view.ty) (X5 : BufTy.Contents (Elt F) arg5.view.ty) (X7 : BufTy.Contents (Elt F) arg7.view.ty) : BufTy.Contents (Elt F) arg9.view.ty :=
  arg9.view.writes (Elt F) arg9.view.junk ((pb_k0_t2 (F := F) Variants.none c none i arg3 harg3 arg4 harg4 arg5 harg5 arg6 harg6 arg7 harg7 arg8 harg8 arg9 harg9 arg10 harg10 X3 X5 X7
    (arg8.view.writes (Elt F) arg8.view.junk [⟨Rect.unit ![0, 0, 0] S4x8x512.size inb_S4x8x512_S4x8x512_0_0_0, k0_pay1681⟩])
    (arg9.view.writes (Elt F) arg9.view.junk [⟨Rect.unit ![0, 0, 0] S4x8x512.size inb_S4x8x512_S4x8x512_0_0_0, k0_pay1682⟩])
    (arg10.view.writes (Elt F) arg10.view.junk [⟨Rect.unit ![0, 0, 0] S4x64x512.size inb_S4x64x512_S4x64x512_0_0_0, k0_pay1683⟩]) 2).2.1
    ++ [⟨Rect.unit ![0, 0, 0] S4x8x512.size inb_S4x8x512_S4x8x512_0_0_0, k0_pay1682⟩])
def endA (X3 : BufTy.Contents (Elt F) arg3.view.ty) (X5 : BufTy.Contents (Elt F) arg5.view.ty) (X7 : BufTy.Contents (Elt F) arg7.view.ty) : BufTy.Contents (Elt F) arg10.view.ty :=
  arg10.view.writes (Elt F) arg10.view.junk ((pb_k0_t2 (F := F) Variants.none c none i arg3 harg3 arg4 harg4 arg5 harg5 arg6 harg6 arg7 harg7 arg8 harg8 arg9 harg9 arg10 harg10 X3 X5 X7
    (arg8.view.writes (Elt F) arg8.view.junk [⟨Rect.unit ![0, 0, 0] S4x8x512.size inb_S4x8x512_S4x8x512_0_0_0, k0_pay1681⟩])
    (arg9.view.writes (Elt F) arg9.view.junk [⟨Rect.unit ![0, 0, 0] S4x8x512.size inb_S4x8x512_S4x8x512_0_0_0, k0_pay1682⟩])
    (arg10.view.writes (Elt F) arg10.view.junk [⟨Rect.unit ![0, 0, 0] S4x64x512.size inb_S4x64x512_S4x64x512_0_0_0, k0_pay1683⟩]) 2).2.2
    ++ [⟨Rect.unit ![0, 0, 0] S4x64x512.size inb_S4x64x512_S4x64x512_0_0_0, k0_pay1683⟩])

theorem zero3 : (![0, 0, 0] : Fin 3 → ℕ) = fun _ => 0 := by funext a; fin_cases a <;> rfl

/-- What they read. -/
theorem end_read (X3 : BufTy.Contents (Elt F) arg3.view.ty) (X5 : BufTy.Contents (Elt F) arg5.view.ty) (X7 : BufTy.Contents (Elt F) arg7.view.ty) :
    arg9.view.read (Elt F) (endL c i arg3 harg3 arg4 harg4 arg5 harg5 arg6 harg6 arg7 harg7 arg8 harg8 arg9 harg9 arg10 harg10 X3 X5 X7) =
      whole8 (sumsL (arg3.view.read (Elt F) X3) (arg7.view.read (Elt F) X7) (arg5.view.read (Elt F) X5)) ∧
    arg10.view.read (Elt F) (endA c i arg3 harg3 arg4 harg4 arg5 harg5 arg6 harg6 arg7 harg7 arg8 harg8 arg9 harg9 arg10 harg10 X3 X5 X7) =
      whole64 (sumsA (arg3.view.read (Elt F) X3) (arg7.view.read (Elt F) X7) (arg5.view.read (Elt F) X5)) := by
  obtain ⟨-, h9, h10⟩ := loop_read (F := F) Variants.none c none i arg3 harg3 arg4 harg4 arg5 harg5 arg6 harg6 arg7 harg7 arg8 harg8 arg9 harg9 arg10 harg10 X3 X5 X7
    (arg8.view.writes (Elt F) arg8.view.junk [⟨Rect.unit ![0, 0, 0] S4x8x512.size inb_S4x8x512_S4x8x512_0_0_0, k0_pay1681⟩])
    (arg9.view.writes (Elt F) arg9.view.junk [⟨Rect.unit ![0, 0, 0] S4x8x512.size inb_S4x8x512_S4x8x512_0_0_0, k0_pay1682⟩])
    (arg10.view.writes (Elt F) arg10.view.junk [⟨Rect.unit ![0, 0, 0] S4x64x512.size inb_S4x64x512_S4x64x512_0_0_0, k0_pay1683⟩])
  have r8 := read_filled (F := F) arg8 arg8.view.junk ![0, 0, 0] zero3 inb_S4x8x512_S4x8x512_0_0_0 k0_pay1681
  have r9 := read_filled (F := F) arg9 arg9.view.junk ![0, 0, 0] zero3 inb_S4x8x512_S4x8x512_0_0_0 k0_pay1682
  have r10 := read_filled (F := F) arg10 arg10.view.junk ![0, 0, 0] zero3 inb_S4x64x512_S4x64x512_0_0_0 k0_pay1683
  refine ⟨?_, ?_⟩
  · refine (congrArg (arg9.view.read (Elt F)) (View.writes_append _ _ _ _)).trans (h9.trans ?_)
    refine congrArg whole8 (funext fun h => ?_)
    exact congrArg₂ (fun x y => lAt _ _ _ (laneAt x h) (laneAt y h) 64) r8 r9
  · refine (congrArg (arg10.view.read (Elt F)) (View.writes_append _ _ _ _)).trans (h10.trans ?_)
    refine congrArg whole64 (funext fun h => ?_)
    exact congrArg₂ (fun x y => aAt _ _ _ (laneAt x h) (accAt y h) 64) r8 r10

/-- The output's pieces, head by head, of a visit that finds the keys transposed. -/
theorem keep_pieces (hc0 : ¬fills i) (x0 : Vec F S256x512 .bf16) (x1 : Vec F S64x16384 .bf16) (x2 : Vec F S80x16384 .bf16) (x7 : Vec F S16384x64 .bf16)
    (x8 : Vec F S4x8x512 .f32) (x9 : Vec F S4x8x512 .f32) (x10 : Vec F S4x64x512 .f32) :
    (runKeep c i arg3 harg3 arg4 harg4 arg5 harg5 arg6 harg6 arg7 harg7 arg8 harg8 arg9 harg9 arg10 harg10 hc0 x0 x1 x2 x7 x8 x9 x10).1 =
      heads.map fun j => ⟨headO j, headAt
        (arg10.view.read (Elt F) (endA c i arg3 harg3 arg4 harg4 arg5 harg5 arg6 harg6 arg7 harg7 arg8 harg8 arg9 harg9 arg10 harg10 (harg3.unread x0) (harg5.unread x2) (harg7.unread x7)))
        (arg9.view.read (Elt F) (endL c i arg3 harg3 arg4 harg4 arg5 harg5 arg6 harg6 arg7 harg7 arg8 harg8 arg9 harg9 arg10 harg10 (harg3.unread x0) (harg5.unread x2) (harg7.unread x7))) j⟩ := by
  unfold runKeep
  sl_kernel_rfl

/-- The same of a visit that transposes them first. -/
theorem fill_pieces (hc0 : fills i) (x0 : Vec F S256x512 .bf16) (x1 : Vec F S64x16384 .bf16) (x2 : Vec F S80x16384 .bf16) (x7 : Vec F S16384x64 .bf16)
    (x8 : Vec F S4x8x512 .f32) (x9 : Vec F S4x8x512 .f32) (x10 : Vec F S4x64x512 .f32) :
    (runFill c i arg3 harg3 arg4 harg4 arg5 harg5 arg6 harg6 arg7 harg7 arg8 harg8 arg9 harg9 arg10 harg10 hc0 x0 x1 x2 x7 x8 x9 x10).1 =
      heads.map fun j => ⟨headO j, headAt
        (arg10.view.read (Elt F) (endA c i arg3 harg3 arg4 harg4 arg5 harg5 arg6 harg6 arg7 harg7 arg8 harg8 arg9 harg9 arg10 harg10 (harg3.unread x0) (harg5.unread x2)
          (arg7.view.writes (Elt F) (harg7.unread x7) (pb_k0_t1 (F := F) Variants.none c none i arg3 harg3 arg4 harg4 arg5 harg5 arg6 harg6 arg7 harg7 arg8 harg8 arg9 harg9 arg10 harg10 hc0
            (harg4.unread x1) (Scf.trips k0_t1_loop.lb k0_t1_loop.ub k0_t1_loop.st)))))
        (arg9.view.read (Elt F) (endL c i arg3 harg3 arg4 harg4 arg5 harg5 arg6 harg6 arg7 harg7 arg8 harg8 arg9 harg9 arg10 harg10 (harg3.unread x0) (harg5.unread x2)
          (arg7.view.writes (Elt F) (harg7.unread x7) (pb_k0_t1 (F := F) Variants.none c none i arg3 harg3 arg4 harg4 arg5 harg5 arg6 harg6 arg7 harg7 arg8 harg8 arg9 harg9 arg10 harg10 hc0
            (harg4.unread x1) (Scf.trips k0_t1_loop.lb k0_t1_loop.ub k0_t1_loop.st))))) j⟩ := by
  unfold runFill
  sl_kernel_rfl

theorem fill_pieces_keys (hc0 : fills i) (x0 : Vec F S256x512 .bf16) (x1 : Vec F S64x16384 .bf16) (x2 : Vec F S80x16384 .bf16) (x7 : Vec F S16384x64 .bf16)
    (x8 : Vec F S4x8x512 .f32) (x9 : Vec F S4x8x512 .f32) (x10 : Vec F S4x64x512 .f32) :
    (runFill c i arg3 harg3 arg4 harg4 arg5 harg5 arg6 harg6 arg7 harg7 arg8 harg8 arg9 harg9 arg10 harg10 hc0 x0 x1 x2 x7 x8 x9 x10).2.1 =
      pb_k0_t1 (F := F) Variants.none c none i arg3 harg3 arg4 harg4 arg5 harg5 arg6 harg6 arg7 harg7 arg8 harg8 arg9 harg9 arg10 harg10 hc0
            (harg4.unread x1) (Scf.trips k0_t1_loop.lb k0_t1_loop.ub k0_t1_loop.st) := by
  unfold runFill
  sl_kernel_rfl

/-- The output block a visit leaves that finds the keys transposed. -/
theorem keep_read (hc0 : ¬fills i) (x0 : Vec F S256x512 .bf16) (x1 : Vec F S64x16384 .bf16) (x2 : Vec F S80x16384 .bf16) (x7 : Vec F S16384x64 .bf16)
    (x8 : Vec F S4x8x512 .f32) (x9 : Vec F S4x8x512 .f32) (x10 : Vec F S4x64x512 .f32) (f : BufTy.Contents (Elt F) arg6.view.ty) :
    arg6.view.read (Elt F) (arg6.view.writes (Elt F) f (runKeep c i arg3 harg3 arg4 harg4 arg5 harg5 arg6 harg6 arg7 harg7 arg8 harg8 arg9 harg9 arg10 harg10 hc0 x0 x1 x2 x7 x8 x9 x10).1) =
      outBlock x0 x7 x2 := by
  rw [keep_pieces, read_heads]
  obtain ⟨hl, ha⟩ := end_read (F := F) c i arg3 harg3 arg4 harg4 arg5 harg5 arg6 harg6 arg7 harg7 arg8 harg8 arg9 harg9 arg10 harg10 (harg3.unread x0) (harg5.unread x2) (harg7.unread x7)
  rw [hl, ha, harg3.read_unread, harg5.read_unread, harg7.read_unread]
  rfl

/-- The output block a visit leaves that transposes the keys first. -/
theorem fill_out (hc0 : fills i) (x0 : Vec F S256x512 .bf16) (x1 : Vec F S64x16384 .bf16) (x2 : Vec F S80x16384 .bf16) (x7 : Vec F S16384x64 .bf16)
    (x8 : Vec F S4x8x512 .f32) (x9 : Vec F S4x8x512 .f32) (x10 : Vec F S4x64x512 .f32) (f : BufTy.Contents (Elt F) arg6.view.ty) :
    arg6.view.read (Elt F) (arg6.view.writes (Elt F) f (runFill c i arg3 harg3 arg4 harg4 arg5 harg5 arg6 harg6 arg7 harg7 arg8 harg8 arg9 harg9 arg10 harg10 hc0 x0 x1 x2 x7 x8 x9 x10).1) =
      outBlock x0 (transposed x1) x2 := by
  rw [fill_pieces, read_heads]
  obtain ⟨hl, ha⟩ := end_read (F := F) c i arg3 harg3 arg4 harg4 arg5 harg5 arg6 harg6 arg7 harg7 arg8 harg8 arg9 harg9 arg10 harg10 (harg3.unread x0) (harg5.unread x2)
    (arg7.view.writes (Elt F) (harg7.unread x7) (pb_k0_t1 (F := F) Variants.none c none i arg3 harg3 arg4 harg4 arg5 harg5 arg6 harg6 arg7 harg7 arg8 harg8 arg9 harg9 arg10 harg10 hc0
            (harg4.unread x1) (Scf.trips k0_t1_loop.lb k0_t1_loop.ub k0_t1_loop.st)))
  rw [hl, ha, fill_read, harg3.read_unread, harg5.read_unread, harg4.read_unread]
  rfl

/-- The keys' buffer after a visit that transposes them. -/
theorem fill_keys (hc0 : fills i) (x0 : Vec F S256x512 .bf16) (x1 : Vec F S64x16384 .bf16) (x2 : Vec F S80x16384 .bf16) (x7 : Vec F S16384x64 .bf16)
    (x8 : Vec F S4x8x512 .f32) (x9 : Vec F S4x8x512 .f32) (x10 : Vec F S4x64x512 .f32) (f : BufTy.Contents (Elt F) arg7.view.ty) :
    arg7.view.read (Elt F) (arg7.view.writes (Elt F) f (runFill c i arg3 harg3 arg4 harg4 arg5 harg5 arg6 harg6 arg7 harg7 arg8 harg8 arg9 harg9 arg10 harg10 hc0 x0 x1 x2 x7 x8 x9 x10).2.1) =
      transposed x1 := by
  rw [fill_pieces_keys, fill_read, harg4.read_unread]

end

end Cert.KernelIdeal.Attn

end
-- ==== Proof.Run.lean ====
/- The attention kernel's run over its grid: what every visit finds and leaves, and the frame. -/
module

public import proofs.«01_k».proof.Proof.Block
public import Idealize.ShloMosaic.Lib.Pipeline.FrameBody
public import Idealize.ShloMosaic.Lib.WordCmp
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body transposes the keys at the first of every thirty-two points. -/
theorem fills_iff : ∀ t : Fin cfg0.N, fills (grid0.coords t) ↔ t.val % 32 = 0 :=
  (fun t => by
    have ht : t.val < 192 := Nat.lt_of_lt_of_eq t.isLt N_0
    have e0 : (grid0.coords t 0).val = t.val / 96 % 2 := Pipeline.Grid.coords_val t 0 (by decide) rfl
    have e1 : (grid0.coords t 1).val = t.val / 32 % 3 := Pipeline.Grid.coords_val t 1 (by decide) rfl
    have e2 : (grid0.coords t 2).val = t.val / 1 % 32 := Pipeline.Grid.coords_val t 2 (by decide) rfl
    simp only [fills, k0_cond1, e0, e1, e2]
    word_cmp
   : ∀ t : Fin grid0.N, fills (grid0.coords t) ↔ t.val % 32 = 0)

/-- The staging buffers of a point. -/
abbrev st0 (t : Fin cfg0.N) : Memref sig .tc .vmem S256x512 .bf16 := win0_0.stage (cfg0.slots t 0)
abbrev st1 (t : Fin cfg0.N) : Memref sig .tc .vmem S64x16384 .bf16 := win0_1.stage (cfg0.slots t 1)
abbrev st2 (t : Fin cfg0.N) : Memref sig .tc .vmem S80x16384 .bf16 := win0_2.stage (cfg0.slots t 2)
abbrev st3 (t : Fin cfg0.N) : Memref sig .tc .vmem S256x512 .bf16 := win0_3.stage (cfg0.slots t 3)
/-- The scratch buffers. -/
abbrev scK : Memref sig .tc .vmem S16384x64 .bf16 := Memref.whole cc0_scratch0
abbrev scM : Memref sig .tc .vmem S4x8x512 .f32 := Memref.whole cc0_scratch1
abbrev scL : Memref sig .tc .vmem S4x8x512 .f32 := Memref.whole cc0_scratch2
abbrev scA : Memref sig .tc .vmem S4x64x512 .f32 := Memref.whole cc0_scratch3

/-- The region's own buffers, each owned at some contents. -/
theorem scoped_eq (c : Dev nD) :
    (Pipeline.ΦA spec0 c : sProp 𝕄)
      = iprop(iprop((∃ d, owns (c : Thread nD τ) scK fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scK, scM, scL, scA, owns_whole]; try rfl

theorem first_lt (n : ℕ) (hn : n < cfg0.N) : n - n % 32 < cfg0.N := by omega

/-- The keys a point works with: the block of the first point of its thirty-two, transposed. -/
def keys (c : Dev nD) (n : ℕ) (hn : n < cfg0.N) : Vec F S16384x64 .bf16 := transposed (iblk m c 1 ⟨n - n % 32, first_lt n hn⟩)

/-- The output block of a point. -/
def outAt (c : Dev nD) (t : Fin cfg0.N) : Vec F S256x512 .bf16 := outBlock (iblk m c 0 t) (keys m c t.val t.isLt) (iblk m c 2 t)

/-- What the region's own buffers hold between points: after a point, the keys it worked with. -/
def between (c : Dev nD) : (n : ℕ) → n ≤ cfg0.N → sProp 𝕄
  | 0, _ => Pipeline.ΦA spec0 c
  | n + 1, hn => iprop(iprop(owns (c : Thread nD τ) scK fullShare (keys m c n hn) ∗ (∃ d, owns (c : Thread nD τ) scM fullShare d) ∗ (∃ d, owns (c : Thread nD τ) scL fullShare d) ∗ (∃ d, owns (c : Thread nD τ) scA fullShare d)) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn = iprop(iprop(owns (c : Thread nD τ) scK fullShare (keys m c n hn) ∗ (∃ d, owns (c : Thread nD τ) scM fullShare d) ∗ (∃ d, owns (c : Thread nD τ) scL fullShare d) ∗ (∃ d, owns (c : Thread nD τ) scA fullShare d)) ∗ (∃ r, prngReg c r)) := rfl

theorem between_pos (c : Dev nD) (n : ℕ) (h : n ≤ cfg0.N) (hz : n ≠ 0) :
    between m c n h = iprop(iprop(owns (c : Thread nD τ) scK fullShare (keys m c (n - 1) (by omega)) ∗ (∃ d, owns (c : Thread nD τ) scM fullShare d) ∗ (∃ d, owns (c : Thread nD τ) scL fullShare d) ∗ (∃ d, owns (c : Thread nD τ) scA fullShare d)) ∗ (∃ r, prngReg c r)) := by
  cases n with
  | zero => exact absurd rfl hz
  | succ n => rfl

/-- A point that is not the first of its thirty-two works with the keys of the point before. -/
theorem keys_pred (c : Dev nD) (n : ℕ) (hn : n < cfg0.N) (h : n % 32 ≠ 0) : keys m c (n - 1) (by omega) = keys m c n hn := by
  unfold keys
  have e : n - 1 - (n - 1) % 32 = n - n % 32 := by omega
  exact congrArg (fun u : Fin cfg0.N => transposed (iblk m c 1 u)) (Fin.ext e)

/-- The first one works with its own. -/
theorem keys_first (c : Dev nD) (t : Fin cfg0.N) (h : t.val % 32 = 0) : keys m c t.val t.isLt = transposed (iblk m c 1 t) := by
  unfold keys
  have e : t.val - t.val % 32 = t.val := by omega
  exact congrArg (fun u : Fin cfg0.N => transposed (iblk m c 1 u)) (Fin.ext e)

/-- What every point finds in the arrays and leaves in its blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

set_option maxHeartbeats 6400000 in
/-- The body at a point: it finds its blocks and, past the first of thirty-two, the keys transposed, and leaves the point's output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3]
  rw [show (dats m 0 c).Φ t.succ = between m c (t.val + 1) t.isLt from rfl, between_succ]
  by_cases h0 : t.val % 32 = 0
  · have hΦ : (dats m 0 c).Φ t.castSucc ⊢ (Pipeline.ΦA spec0 c : sProp 𝕄) := by
      rw [between_castSucc m c t]
      by_cases hz : t.val = 0
      · rw [between_zero m c _ _ hz]
      · rw [between_pos m c _ _ hz, scoped_eq]
        iintro ⟨⟨HS0, HS1, HS2, HS3⟩, Hg⟩
        isplitl [HS0 HS1 HS2 HS3]
        · isplitl [HS0]
          · iexists _; iexact HS0
          isplitl [HS1]
          · iexact HS1
          isplitl [HS2]
          · iexact HS2
          iexact HS3
        iexact Hg
    have hk := keys_first m c t h0
    refine (BIClass.sep_mono hΦ (Idealize.SL.BI.Entails.refl _)).trans ?_
    rw [scoped_eq]
    iintro ⟨⟨⟨⟨%x7, HS0⟩, ⟨%x8, HS1⟩, ⟨%x9, HS2⟩, ⟨%x10, HS3⟩⟩, Hg⟩, Ho, ⟨%d0, H0⟩, ⟨%d1, H1⟩, ⟨%d2, H2⟩, ⟨%d3, H3⟩⟩
    iapply ((runFill c (grid0.coords t) _ _ _ _ _ _ _ _ _ _ _ _ _ _ _ _ ((fills_iff t).mpr h0) (iblk m c 0 t) (iblk m c 1 t) (iblk m c 2 t) x7 x8 x9 x10).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, ⟨%f3, H3⟩, HS0, HS1, HS2, HS3⟩
    isplitl [HS0 HS1 HS2 HS3 Hg]
    · isplitl [HS0 HS1 HS2 HS3]
      · isplitl [HS0]
        · unfold owns; iexists _; isplitr
          swap; · iexact HS0
          ipureintro; exact (fill_keys c _ _ _ _ _ _ _ _ _ _ _ _ _ _ _ _ _ _ _ _ _ _ _ _ _ _).trans hk.symm
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    unfold owns; iexists _; isplitr
    swap; · iexact H3
    ipureintro
    refine (fill_out c _ _ _ _ _ _ _ _ _ _ _ _ _ _ _ _ _ _ _ _ _ _ _ _ _ _).trans ?_
    unfold outAt; rw [hk]
  · have hz : t.val ≠ 0 := fun h => h0 (by rw [h])
    have hk := keys_pred m c t.val t.isLt h0
    rw [between_castSucc m c t, between_pos m c _ _ hz, hk]
    iintro ⟨⟨⟨HS0, ⟨%x8, HS1⟩, ⟨%x9, HS2⟩, ⟨%x10, HS3⟩⟩, Hg⟩, Ho, ⟨%d0, H0⟩, ⟨%d1, H1⟩, ⟨%d2, H2⟩, ⟨%d3, H3⟩⟩
    iapply ((runKeep c (grid0.coords t) _ _ _ _ _ _ _ _ _ _ _ _ _ _ _ _ (fun h => h0 ((fills_iff t).mp h)) (iblk m c 0 t) (iblk m c 1 t) (iblk m c 2 t) (keys m c t.val t.isLt) x8 x9 x10).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, ⟨%f3, H3⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    unfold owns; iexists _; isplitr
    swap; · iexact H3
    ipureintro
    exact keep_read c _ _ _ _ _ _ _ _ _ _ _ _ _ _ _ _ _ _ _ _ _ _ _ _ _ _

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c cfg0.N (le_refl _) from rfl, between_pos m c _ _ (by have : cfg0.N = 192 := N_0; omega), scoped_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

-- the launch theorem's implicit arguments are found by unifying its conclusion with this one
set_option backward.isDefEq.respectTransparency.types false in
/-- Every run ends, with every block written as `dats` says and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

/-- The result array ends as the grid's visits leave it, and the arguments as they began. -/
theorem result : θ_run defs (onTc (τ := τ) (main (F := F))) ⟨m, fun _ => 0, ρ⟩ (fun r => ∀ c : Dev nD,
      r.2.mem ((c.tc : Thread nD τ).loc main_v16) = (dats m 0 c).arrAt 3 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, h.2.1 c⟩) (θ_run_and (run m ρ) (frame m ρ))

end Cert.KernelIdeal.Attn

end
-- ==== Proof.Entry.lean ====
/- What the attention kernel finds: the host's layouts of the queries, the keys and the values, element by element. -/
module

public import proofs.«01_k».proof.Proof.Run
public import Idealize.ShloMosaic.Lib.StableHlo.ReadAt

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable (m : (ℓ : Loc nD τ sig) → Buf (Elt Ideal) ℓ)

theorem q_entry (c : Dev nD) (r : Fin 768) (n : Fin 32768) : V m c main_v2 (ix2 r n) =
    m ((c.tc : Thread nD τ).loc main_arg0) (ix4 ⟨n.val / 16384, by omega⟩ ⟨n.val % 16384, by omega⟩ ⟨r.val / 64, by omega⟩ ⟨r.val % 64, by omega⟩) := by
  unfold V
  after_reads_at

theorem k_entry (c : Dev nD) (r : Fin 192) (n : Fin 32768) : V m c main_v5 (ix2 r n) =
    m ((c.tc : Thread nD τ).loc main_arg1) (ix4 ⟨n.val / 16384, by omega⟩ ⟨n.val % 16384, by omega⟩ ⟨r.val / 64, by omega⟩ ⟨r.val % 64, by omega⟩) := by
  unfold V
  after_reads_at

theorem v_entry (c : Dev nD) (r : Fin 240) (n : Fin 32768) (h : r.val % 80 < 64) : V m c main_v15 (ix2 r n) =
    m ((c.tc : Thread nD τ).loc main_arg2) (ix4 ⟨n.val / 16384, by omega⟩ ⟨n.val % 16384, by omega⟩ ⟨r.val / 80, by omega⟩ ⟨r.val % 80, h⟩) := by
  unfold V
  after_reads_at
  rw [dif_pos h]
  after_reads_at

theorem ones_entry (c : Dev nD) (r : Fin 240) (n : Fin 32768) (h : ¬ r.val % 80 < 64) :
    V m c main_v15 (ix2 r n) = (if r.val % 80 = 64 then (1 : EReal) else (0 : EReal) : EReal) := by
  unfold V
  after_reads_at
  rw [dif_neg h]
  after_reads_at
  by_cases e : r.val % 80 = 64
  · rw [if_pos e, show r.val % 80 - 64 = 0 by omega]; rfl
  · rw [if_neg e]
    have hne : (BitVec.ofNat 32 (r.val % 80 - 64) == 0#32) = false := by
      rw [beq_eq_false_iff_ne]
      intro hc
      have := congrArg BitVec.toNat hc
      simp at this
      omega
    simp only [Scalar.select, IntOp.cmpi, hne]
    rfl

end Cert.KernelIdeal.Attn

end
-- ==== Proof.Average.lean ====
/- The arithmetic of attention for one query: a softmax-weighted average of extended-real values under real scores, taken once over
   all keys or chunk by chunk with a running maximum. -/
module

public import Idealize.ShloMosaic.PureOps.Ideal
public import Mathlib.Algebra.BigOperators.Intervals
public import Mathlib.Algebra.BigOperators.Fin
public import Mathlib.Analysis.SpecialFunctions.Pow.Real

@[expose] public section

noncomputable section

namespace Cert.Average

open Idealize.ShloMosaic

/-! ## Folding eight lanes by rotation -/

/-- Folding eight values by rotations of four, two and one gives every lane the fold of all eight. -/
theorem rotations {α : Type} (op : α → α → α) [Std.Commutative op] [Std.Associative op] (g : Fin 8 → α) (b c d : Fin 8 → α)
    (hb : ∀ i, b i = op (g i) (g (i + 4))) (hc : ∀ i, c i = op (b i) (b (i + 6))) (hd : ∀ i, d i = op (c i) (c (i + 7))) (i : Fin 8) :
    d i = op (g 0) (op (g 1) (op (g 2) (op (g 3) (op (g 4) (op (g 5) (op (g 6) (g 7))))))) := by
  have h : ∀ i, d i = op (op (op (g i) (g (i + 4))) (op (g (i + 6)) (g (i + 6 + 4)))) (op (op (g (i + 7)) (g (i + 7 + 4))) (op (g (i + 7 + 6)) (g (i + 7 + 6 + 4)))) :=
    fun i => by rw [hd, hc, hc, hb, hb, hb, hb]
  rw [h]
  match i with
  | 0 | 1 | 2 | 3 | 4 | 5 | 6 | 7 => simp only [Fin.reduceAdd, zero_add]; ac_rfl

/-- The largest of finitely many real numbers, at least one, is real. -/
theorem fold_max_real {ι : Type} [DecidableEq ι] (s : Finset ι) (hs : s.Nonempty) (f : ι → EReal) (hf : ∀ i, ∃ x : ℝ, f i = x) :
    ∃ x : ℝ, s.fold max (⊥ : EReal) f = x := by
  classical
  induction hs using Finset.Nonempty.cons_induction with
  | singleton a => obtain ⟨x, hx⟩ := hf a; exact ⟨x, by simp [hx]⟩
  | cons a s ha hs ih =>
    obtain ⟨x, hx⟩ := hf a; obtain ⟨y, hy⟩ := ih
    exact ⟨max x y, by rw [Finset.fold_cons, hx, hy, EReal.coe_strictMono.monotone.map_max]⟩

theorem max_real {a b : EReal} (ha : ∃ x : ℝ, a = x) (hb : ∃ x : ℝ, b = x) : ∃ x : ℝ, max a b = x := by
  obtain ⟨x, rfl⟩ := ha; obtain ⟨y, rfl⟩ := hb
  exact ⟨max x y, (EReal.coe_strictMono.monotone.map_max).symm⟩

/-! ## Sums with real nonnegative coefficients -/

theorem mul_sum_real {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two to a real power. -/
def pow2 (x : ℝ) : ℝ := (2 : ℝ) ^ x

theorem pow2_pos (x : ℝ) : 0 < pow2 x := Real.rpow_pos_of_pos (by norm_num) x

theorem pow2_mul (x y : ℝ) : pow2 x * pow2 y = pow2 (x + y) := (Real.rpow_add (by norm_num) x y).symm

theorem exp2_sub (x y : ℝ) : Ideal.exp2 ((x : EReal) - (y : EReal)) = (pow2 (x - y) : EReal) := by
  rw [← EReal.coe_sub, Ideal.exp2_coe]; rfl

/-! ## The running average -/

/-- The first `n` keys' weighted sum of `v`, the weights `2 ^ (s k - M)`. -/
def weighted (s : ℕ → ℝ) (v : ℕ → EReal) (M : ℝ) (n : ℕ) : EReal := ∑ k ∈ Finset.range n, (pow2 (s k - M) : EReal) * v k

/-- A weighted sum moved from one maximum to another. -/
theorem weighted_rescale (s : ℕ → ℝ) (v : ℕ → EReal) (M M' : ℝ) (n : ℕ) :
    (pow2 (M - M') : EReal) * weighted s v M n = weighted s v M' n := by
  unfold weighted
  rw [mul_sum_real _ _ (pow2_pos _).le]
  refine Finset.sum_congr rfl fun k _ => ?_
  rw [← mul_assoc, ← EReal.coe_mul, pow2_mul]
  congr 3; ring

/-- What the state holds after `n` keys, seen as one row of eight maxima and one row of sums: nothing yet, or the sums under some real maximum. -/
def Holds (s : ℕ → ℝ) (V : ℕ → ℕ → EReal) (n : ℕ) (m : Fin 8 → EReal) (A : ℕ → EReal) (R : ℕ) : Prop :=
  (n = 0 ∧ (∀ i, m i = ⊥) ∧ ∀ r < R, A r = 0) ∨ ∃ M : ℝ, (∀ i, m i = M) ∧ ∀ r < R, A r = weighted s (V r) M n

/-- One chunk of `w` keys more. -/
theorem Holds.step {s : ℕ → ℝ} {V : ℕ → ℕ → EReal} {n R : ℕ} {m : Fin 8 → EReal} {A : ℕ → EReal} (h : Holds s V n m A R) (w : ℕ)
    (m' : Fin 8 → EReal) (A' : ℕ → EReal) (x : ℝ) (hm : ∀ i, m' i = max (m i) (x : EReal))
    (hA : ∀ r < R, ∃ i : Fin 8, A' r = Ideal.exp2 (m i - m' i) * A r + ∑ k : Fin w, V r (n + k.val) * Ideal.exp2 ((s (n + k.val) : EReal) - m' 0)) :
    Holds s V (n + w) m' A' R := by
  have key : ∀ M' : ℝ, (∀ i, m' i = M') → (∀ r < R, ∀ i, Ideal.exp2 (m i - m' i) * A r = weighted s (V r) M' n) →
      ∀ r < R, A' r = weighted s (V r) M' (n + w) := by
    intro M' hM' hw r hr
    obtain ⟨i, hi⟩ := hA r hr
    rw [hi, hw r hr i, hM' 0]
    unfold weighted
    rw [Finset.sum_range_add, Finset.sum_range (n := w)]
    refine congrArg _ (Finset.sum_congr rfl fun k _ => ?_)
    rw [exp2_sub, mul_comm]
  right
  rcases h with ⟨rfl, hb, hz⟩ | ⟨M, hM, hA0⟩
  · refine ⟨x, fun i => by rw [hm, hb]; exact max_eq_right bot_le, key x (fun i => by rw [hm, hb]; exact max_eq_right bot_le) fun r hr i => ?_⟩
    rw [hz r hr, mul_zero]; simp [weighted]
  · have hx : ∀ i, m' i = ((max M x : ℝ) : EReal) := fun i => by
      rw [hm, hM]; exact (EReal.coe_strictMono.monotone.map_max).symm
    refine ⟨max M x, hx, key _ hx fun r hr i => ?_⟩
    rw [hM, hx, exp2_sub, hA0 r hr, weighted_rescale]

/-! ## The average itself -/

/-- The average of `v` under the scores `x`: the exponentials' weighted sum over their sum. -/
def average (n : ℕ) (x : ℕ → ℝ) (v : ℕ → EReal) : EReal :=
  (∑ k ∈ Finset.range n, (Real.exp (x k) : EReal) * v k) * (((∑ k ∈ Finset.range n, Real.exp (x k))⁻¹ : ℝ) : EReal)

/-- The sums the chunks leave, one divided by the other, are the average: the scores in the base two's logarithm. -/
theorem weighted_div (n : ℕ) (hn : 0 < n) (x s : ℕ → ℝ) (hs : ∀ k, s k = x k * (Real.log 2)⁻¹) (v o : ℕ → EReal) (M : ℝ) (ho : ∀ k, o k = 1) :
    weighted s v M n * Ideal.div 1 (weighted s o M n) = average n x v := by
  have hl : Real.log 2 ≠ 0 := (Real.log_pos (by norm_num)).ne'
  have hw : ∀ k, pow2 (s k - M) = Real.exp (-(M * Real.log 2)) * Real.exp (x k) := fun k => by
    unfold pow2
    rw [Real.rpow_def_of_pos (by norm_num), ← Real.exp_add, hs]
    congr 1; field_simp; ring
  have hd : 0 < ∑ k ∈ Finset.range n, Real.exp (x k) :=
    Finset.sum_pos (fun k _ => Real.exp_pos _) ⟨0, Finset.mem_range.mpr hn⟩
  have hc : 0 < Real.exp (-(M * Real.log 2)) := Real.exp_pos _
  have hv : weighted s v M n = (Real.exp (-(M * Real.log 2)) : EReal) * ∑ k ∈ Finset.range n, (Real.exp (x k) : EReal) * v k := by
    unfold weighted
    rw [mul_sum_real _ _ hc.le]
    refine Finset.sum_congr rfl fun k _ => ?_
    rw [hw, EReal.coe_mul, mul_assoc]
  have hone : weighted s o M n = ((Real.exp (-(M * Real.log 2)) * ∑ k ∈ Finset.range n, Real.exp (x k) : ℝ) : EReal) := by
    unfold weighted
    rw [Finset.mul_sum, coe_sum]
    refine Finset.sum_congr rfl fun k _ => ?_
    rw [hw, ho, mul_one]
  rw [hv, hone, Ideal.div_coe (mul_pos hc hd).ne', one_mul]
  unfold average
  rw [mul_comm (Real.exp _ : EReal), mul_assoc, ← EReal.coe_mul]
  congr 2
  field_simp

/-- The softmax weights' sum is the average, whichever real number the scores are taken off. -/
theorem softmax_sum (n : ℕ) (hn : 0 < n) (x : ℕ → ℝ) (v : ℕ → EReal) (M : ℝ) :
    ∑ k ∈ Finset.range n, Ideal.div (Ideal.exp ((x k : EReal) - (M : EReal))) (∑ j ∈ Finset.range n, Ideal.exp ((x j : EReal) - (M : EReal))) * v k
      = average n x v := by
  have hd : 0 < ∑ k ∈ Finset.range n, Real.exp (x k) :=
    Finset.sum_pos (fun k _ => Real.exp_pos _) ⟨0, Finset.mem_range.mpr hn⟩
  have he : ∀ k, Ideal.exp ((x k : EReal) - (M : EReal)) = ((Real.exp (-M) * Real.exp (x k) : ℝ) : EReal) := fun k => by
    rw [← EReal.coe_sub, Ideal.exp_coe, ← Real.exp_add]; congr 2; ring
  have hz : ∑ j ∈ Finset.range n, Ideal.exp ((x j : EReal) - (M : EReal)) = ((Real.exp (-M) * ∑ k ∈ Finset.range n, Real.exp (x k) : ℝ) : EReal) := by
    rw [Finset.mul_sum, coe_sum]; exact Finset.sum_congr rfl fun k _ => he k
  rw [hz]
  unfold average
  conv_rhs => rw [mul_comm]
  rw [mul_sum_real _ _ (inv_nonneg.mpr hd.le)]
  refine Finset.sum_congr rfl fun k _ => ?_
  rw [Ideal.div_coe (mul_pos (Real.exp_pos _) hd).ne', he, ← EReal.coe_mul, ← mul_assoc, ← EReal.coe_mul]
  congr 2
  have := (Real.exp_pos (-M)).ne'
  field_simp

end Cert.Average

end
-- ==== Proof.Attention.lean ====
/- Attention as a function of its queries, keys and values: one element of its result. -/
module

public import proofs.«01_k».proof.Proof.Average
public import Idealize.ShloMosaic.Lib.Pointwise

@[expose] public section

noncomputable section

namespace Cert.Average

open Idealize.ShloMosaic Idealize.ShloMosaic.Tactic

/-- The scores of one query against the keys. -/
def score (Q : Fin 64 → ℝ) (K : ℕ → Fin 64 → ℝ) (n : ℕ) : ℝ := (∑ d, Q d * K n d) * (1 / 8)

/-- Row `r` (head `r / 64`, of which four share a head of keys and values) and token `n` of attention's result: the average of the
    values' column under the token's scores against all keys of its batch entry. -/
def attention (q : (⟨4, ![2, 16384, 12, 64]⟩ : Shape).Idx → EReal) (k v : (⟨4, ![2, 16384, 3, 64]⟩ : Shape).Idx → EReal) (r : Fin 768) (n : Fin 32768) : EReal :=
  average 16384
    (score (fun d => (q (ix4 ⟨n.val / 16384, by omega⟩ ⟨n.val % 16384, by omega⟩ ⟨r.val / 64, by omega⟩ d)).toReal)
      (fun j d => (k (ix4 ⟨n.val / 16384, by omega⟩ ⟨j % 16384, Nat.mod_lt _ (by decide)⟩ ⟨r.val / 256, by omega⟩ d)).toReal))
    (fun j => v (ix4 ⟨n.val / 16384, by omega⟩ ⟨j % 16384, Nat.mod_lt _ (by decide)⟩ ⟨r.val / 256, by omega⟩ ⟨r.val % 64, by omega⟩))

end Cert.Average

end
-- ==== Proof.Lane.lean ====
/- One query against the chunks of keys, in the extended reals: what the kernel's maximum and sums hold at one column of a block. -/
module

public import proofs.«01_k».proof.Proof.Average
public import proofs.«01_k».proof.Proof.Fold
public import Idealize.ShloMosaic.Lib.Pointwise

@[expose] public section

set_option maxRecDepth 16384

noncomputable section

namespace Cert.KernelIdeal.Attn

open Cert.KernelIdeal.Gen
open Idealize.ShloMosaic Idealize.ShloMosaic.Tactic

/-- A score at its place: key `8a + b` against the query of column `u`. -/
theorem scores_at (kc : FVec Ideal S256x64 .bf16) (q : FVec Ideal S64x256 .bf16) (a : Fin 32) (b : Fin 8) (u : Fin 256) :
    scores kc q (ix3 a b u) = ∑ d : Fin 64, kc (ix2 ⟨a.val * 8 + b.val, by omega⟩ d) * q (ix2 d u) := by
  pointwise [scores]

theorem minus_infinity : Ideal.ofBits .f32 0xFF800000#32 = ⊥ := by simp [Ideal.ofBits, Ideal.ieee]

theorem top8_at (s : FVec Ideal S32x8x256 .f32) (i : Fin 8) (u : Fin 256) :
    top8 s (ix2 i u) = Finset.univ.fold max ⊥ (fun a : Fin 32 => s (ix3 a i u)) := by
  pointwise [top8]
  rw [← minus_infinity]

theorem rotated (i : Fin 8) (n j : Fin 8) (h : ∀ i : Fin 8, (i.val + 8 - n.val) % 8 = (i + j).val) (hlt : (i.val + 8 - n.val) % 8 < 8) :
    (⟨(i.val + 8 - n.val) % 8, hlt⟩ : Fin 8) = i + j := Fin.ext (h i)

theorem max4_at (x : FVec Ideal S8x256 .f32) (i : Fin 8) (u : Fin 256) : max4 x (ix2 i u) = max (x (ix2 i u)) (x (ix2 (i + 4) u)) := by
  pointwise [max4]
  rw [← rotated i 4 4 (by decide) (Nat.mod_lt _ (by decide))]; rfl
theorem max2_at (x : FVec Ideal S8x256 .f32) (i : Fin 8) (u : Fin 256) : max2 x (ix2 i u) = max (x (ix2 i u)) (x (ix2 (i + 6) u)) := by
  pointwise [max2]
  rw [← rotated i 2 6 (by decide) (Nat.mod_lt _ (by decide))]; rfl
theorem max1_at (x : FVec Ideal S8x256 .f32) (i : Fin 8) (u : Fin 256) : max1 x (ix2 i u) = max (x (ix2 i u)) (x (ix2 (i + 7) u)) := by
  pointwise [max1]
  rw [← rotated i 1 7 (by decide) (Nat.mod_lt _ (by decide))]; rfl

/-- The running maximum takes the same real number in every lane, where the scores are real. -/
theorem mNew_at (s : FVec Ideal S32x8x256 .f32) (u : Fin 256) (hs : ∀ a b, ∃ x : ℝ, s (ix3 a b u) = x) :
    ∃ x : ℝ, ∀ (m : FVec Ideal S8x256 .f32) (i : Fin 8), mNew s m (ix2 i u) = max (m (ix2 i u)) (x : EReal) := by
  have ht : ∀ i : Fin 8, ∃ x : ℝ, top8 s (ix2 i u) = x := fun i => by
    rw [top8_at]
    exact Average.fold_max_real _ ⟨0, Finset.mem_univ _⟩ _ fun a => hs a i
  have hr := Average.rotations (max : EReal → EReal → EReal) (fun i => top8 s (ix2 i u)) (fun i => max4 (top8 s) (ix2 i u)) (fun i => max2 (max4 (top8 s)) (ix2 i u))
    (fun i => max1 (max2 (max4 (top8 s))) (ix2 i u)) (fun i => max4_at _ i u) (fun i => max2_at _ i u) (fun i => max1_at _ i u)
  have hx : ∃ x : ℝ, (max (top8 s (ix2 0 u)) (max (top8 s (ix2 1 u)) (max (top8 s (ix2 2 u)) (max (top8 s (ix2 3 u)) (max (top8 s (ix2 4 u))
      (max (top8 s (ix2 5 u)) (max (top8 s (ix2 6 u)) (top8 s (ix2 7 u))))))))) = (x : EReal) := by
    refine Average.max_real (ht 0) (Average.max_real (ht 1) (Average.max_real (ht 2) (Average.max_real (ht 3) (Average.max_real (ht 4) (Average.max_real (ht 5) (Average.max_real (ht 6) (ht 7)))))))
  obtain ⟨x, hx⟩ := hx
  refine ⟨x, fun m i => ?_⟩
  rw [← hx, ← hr i]
  rfl

theorem weights_at (s : FVec Ideal S32x8x256 .f32) (m' : FVec Ideal S8x256 .f32) (k : Fin 256) (u : Fin 256) :
    weights s m' (ix2 k u) = Ideal.exp2 (s (ix3 ⟨k.val / 8, by omega⟩ ⟨k.val % 8, by omega⟩ u) - m' (ix2 ⟨k.val % 8, by omega⟩ u)) := by
  pointwise [weights]
  rfl

theorem products_at (vc : FVec Ideal S80x256 .bf16) (p : FVec Ideal S256x256 .bf16) (r : Fin 80) (u : Fin 256) :
    products vc p (ix2 r u) = ∑ k : Fin 256, vc (ix2 r k) * p (ix2 k u) := by
  pointwise [products]

theorem lNew_at (s : FVec Ideal S32x8x256 .f32) (vc : FVec Ideal S80x256 .bf16) (m l : FVec Ideal S8x256 .f32) (i : Fin 8) (u : Fin 256) :
    lNew s vc m l (ix2 i u) = Ideal.exp2 (m (ix2 i u) - mNew s m (ix2 i u)) * l (ix2 i u) + products vc (weights s (mNew s m)) (ix2 ⟨64 + i.val, by omega⟩ u) := by
  unfold lNew
  generalize hM : mNew s m = M
  generalize products vc (weights s M) = p
  pointwise [carry]
  rfl

theorem aNew_at (s : FVec Ideal S32x8x256 .f32) (vc : FVec Ideal S80x256 .bf16) (m : FVec Ideal S8x256 .f32) (a : FVec Ideal S64x256 .f32) (d : Fin 64) (u : Fin 256) :
    aNew s vc m a (ix2 d u) = Ideal.exp2 (m (ix2 ⟨d.val % 8, by omega⟩ u) - mNew s m (ix2 ⟨d.val % 8, by omega⟩ u)) * a (ix2 d u) + products vc (weights s (mNew s m)) (ix2 ⟨d.val, by omega⟩ u) := by
  unfold aNew
  generalize hM : mNew s m = M
  generalize products vc (weights s M) = p
  pointwise [carry]
  rfl

/-- Row `r` of the sums at a column: the values' rows, and below them the weights'. -/
def rowOf (a : FVec Ideal S64x256 .f32) (l : FVec Ideal S8x256 .f32) (u : Fin 256) (r : ℕ) : EReal :=
  if h : r < 64 then a (ix2 ⟨r, h⟩ u) else if h' : r - 64 < 8 then l (ix2 ⟨r - 64, h'⟩ u) else 0

/-- After `n` chunks the maximum and the sums at a column are those of the keys seen. -/
theorem lane (kc : ℕ → FVec Ideal S256x64 .bf16) (vc : ℕ → FVec Ideal S80x256 .bf16) (q : FVec Ideal S64x256 .bf16) (m₀ l₀ : FVec Ideal S8x256 .f32) (a₀ : FVec Ideal S64x256 .f32)
    (u : Fin 256) (s : ℕ → ℝ) (V : ℕ → ℕ → EReal)
    (hs : ∀ c < 64, ∀ k : Fin 256, ∑ d : Fin 64, kc c (ix2 k d) * q (ix2 d u) = ((s (256 * c + k.val) : ℝ) : EReal))
    (hV : ∀ c < 64, ∀ (r : Fin 80) (k : Fin 256), vc c (ix2 r k) = V r.val (256 * c + k.val))
    (hm : ∀ i, m₀ (ix2 i u) = (⊥ : EReal)) (hl : ∀ i, l₀ (ix2 i u) = (0 : EReal)) (ha : ∀ d, a₀ (ix2 d u) = (0 : EReal)) (n : ℕ) (hn : n ≤ 64) :
    Average.Holds s V (256 * n) (fun i => mAt kc q m₀ n (ix2 i u)) (rowOf (aAt kc vc q m₀ a₀ n) (lAt kc vc q m₀ l₀ n) u) 72 := by
  induction n with
  | zero =>
    refine Or.inl ⟨rfl, hm, fun r hr => ?_⟩
    unfold rowOf
    split
    · exact ha _
    · split
      · exact hl _
      · rfl
  | succ n ih =>
    have hn' : n < 64 := hn
    have hS : ∀ k : Fin 256, scores (kc n) q (ix3 ⟨k.val / 8, by omega⟩ ⟨k.val % 8, by omega⟩ u) = ((s (256 * n + k.val) : ℝ) : EReal) := fun k => by
      rw [scores_at, ← hs n hn' k]
      have e : (⟨k.val / 8 * 8 + k.val % 8, by omega⟩ : Fin 256) = k := Fin.ext (by show k.val / 8 * 8 + k.val % 8 = k.val; omega)
      rw [e]
    have hS' : ∀ (a : Fin 32) (b : Fin 8), ∃ x : ℝ, scores (kc n) q (ix3 a b u) = x := fun a b => by
      rw [scores_at]; exact ⟨_, hs n hn' _⟩
    obtain ⟨x, hx⟩ := mNew_at (scores (kc n) q) u hS'
    have ih := ih (le_of_lt hn')
    have hall : ∀ i : Fin 8, mAt kc q m₀ n (ix2 i u) = mAt kc q m₀ n (ix2 0 u) := fun i => by
      rcases ih with ⟨-, h, -⟩ | ⟨M, h, -⟩
      · exact (h i).trans (h 0).symm
      · exact (h i).trans (h 0).symm
    have hall' : ∀ i : Fin 8, mNew (scores (kc n) q) (mAt kc q m₀ n) (ix2 i u) = mNew (scores (kc n) q) (mAt kc q m₀ n) (ix2 0 u) := fun i => by
      rw [hx, hx, hall]
    have hP : ∀ r : Fin 80, products (vc n) (weights (scores (kc n) q) (mNew (scores (kc n) q) (mAt kc q m₀ n))) (ix2 r u) =
        ∑ k : Fin 256, V r.val (256 * n + k.val) * Ideal.exp2 ((s (256 * n + k.val) : EReal) - mNew (scores (kc n) q) (mAt kc q m₀ n) (ix2 0 u)) := fun r => by
      rw [products_at]
      refine Finset.sum_congr rfl fun k _ => ?_
      rw [weights_at, hS, hall', hV n hn']
    rw [Nat.mul_succ]
    refine ih.step 256 _ _ x (fun i => hx _ i) fun r hr => ?_
    by_cases h : r < 64
    · refine ⟨⟨r % 8, by omega⟩, ?_⟩
      have e1 : rowOf (aAt kc vc q m₀ a₀ (n + 1)) (lAt kc vc q m₀ l₀ (n + 1)) u r = aNew (scores (kc n) q) (vc n) (mAt kc q m₀ n) (aAt kc vc q m₀ a₀ n) (ix2 ⟨r, h⟩ u) := by
        unfold rowOf; rw [dif_pos h]; rfl
      have e2 : rowOf (aAt kc vc q m₀ a₀ n) (lAt kc vc q m₀ l₀ n) u r = aAt kc vc q m₀ a₀ n (ix2 ⟨r, h⟩ u) := by
        unfold rowOf; rw [dif_pos h]
      rw [e1, e2, aNew_at, hP]
      rfl
    · have h' : r - 64 < 8 := by omega
      refine ⟨⟨r - 64, h'⟩, ?_⟩
      have e1 : rowOf (aAt kc vc q m₀ a₀ (n + 1)) (lAt kc vc q m₀ l₀ (n + 1)) u r = lNew (scores (kc n) q) (vc n) (mAt kc q m₀ n) (lAt kc vc q m₀ l₀ n) (ix2 ⟨r - 64, h'⟩ u) := by
        unfold rowOf; rw [dif_neg h, dif_pos h']; rfl
      have e2 : rowOf (aAt kc vc q m₀ a₀ n) (lAt kc vc q m₀ l₀ n) u r = lAt kc vc q m₀ l₀ n (ix2 ⟨r - 64, h'⟩ u) := by
        unfold rowOf; rw [dif_neg h, dif_pos h']
      have e3 : (64 + (r - 64)) = r := by omega
      rw [e1, e2, lNew_at, hP]
      simp only [e3]
      rfl

end Cert.KernelIdeal.Attn

end
-- ==== Proof.Value.lean ====
/- The attention kernel's output block in the extended reals: each element is the softmax-weighted average of its values' row. -/
module

public import proofs.«01_k».proof.Proof.Attention
public import proofs.«01_k».proof.Proof.Lane
public import proofs.«01_k».proof.Proof.Block

@[expose] public section

set_option maxRecDepth 16384

noncomputable section

namespace Cert.KernelIdeal.Attn

open Cert.KernelIdeal.Gen
open Idealize.ShloMosaic Idealize.ShloMosaic.Tactic
open Cert.Average (score)

theorem q_scale : (Named.named κ "q_scale" 0x3E38AA3B#32 : Ideal .f32) = (((1 / 8) * (Real.log 2)⁻¹ : ℝ) : EReal) :=
  IdealRules.named_const.ideal_named_scalar _ _ _ _ rfl
theorem neg_init : (Named.named κ "neg_init" 0xF149F2CA#32 : Ideal .f32) = (⊥ : EReal) :=
  IdealRules.named_const.ideal_named_scalar _ _ _ _ rfl
theorem one_bits : Ideal.ofBits .f32 0x3F800000#32 = 1 := by
  simp [Ideal.ofBits, Ideal.ieee, -EReal.coe_mul]
  norm_num

theorem scaled_at (q : FVec Ideal S64x256 .bf16) (d : Fin 64) (u : Fin 256) :
    scaled q (ix2 d u) = q (ix2 d u) * (((1 / 8) * (Real.log 2)⁻¹ : ℝ) : EReal) := by
  rw [← q_scale]
  pointwise [scaled]

theorem queriesAt_at (x : Vec Ideal S256x512 .bf16) (h : Fin 8) (d : Fin 64) (u : Fin 256) :
    queriesAt x h (ix2 d u) = x (ix2 ⟨64 * (h.val / 2) + d.val, by omega⟩ ⟨256 * (h.val % 2) + u.val, by omega⟩) * (((1 / 8) * (Real.log 2)⁻¹ : ℝ) : EReal) := by
  unfold queriesAt
  rw [scaled_at]
  congr 1
  pointwise
  refine congrArg x (funext fun a => Fin.ext ?_)
  match a with
  | 0 => simp [LoadRect.idx, hq]
  | 1 => simp [LoadRect.idx, hq]

theorem keysAt_at (x : Vec Ideal S16384x64 .bf16) (n : ℕ) (hn : n < 64) (k : Fin 256) (d : Fin 64) :
    keysAt x n (ix2 k d) = x (ix2 ⟨256 * n + k.val, by omega⟩ d) := by
  unfold keysAt
  refine congrArg x (funext fun a => Fin.ext ?_)
  match a with
  | 0 => simp [LoadRect.idx, Nat.mod_eq_of_lt hn]
  | 1 => simp [LoadRect.idx]

theorem valuesAt_at (x : Vec Ideal S80x16384 .bf16) (n : ℕ) (hn : n < 64) (r : Fin 80) (k : Fin 256) :
    valuesAt x n (ix2 r k) = x (ix2 r ⟨256 * n + k.val, by omega⟩) := by
  unfold valuesAt
  pointwise
  refine congrArg x (funext fun a => Fin.ext ?_)
  match a with
  | 0 => simp [LoadRect.idx]
  | 1 => simp [LoadRect.idx, Nat.mod_eq_of_lt hn]

theorem start_m (h : Fin 8) (i : Fin 8) (u : Fin 256) : laneAt (F := Ideal) (k0_pay1681 (F := Ideal)) h (ix2 i u) = (⊥ : EReal) := by
  rw [← neg_init]
  pointwise [laneAt, k0_pay1681]
theorem start_l (h : Fin 8) (i : Fin 8) (u : Fin 256) : laneAt (F := Ideal) (k0_pay1682 (F := Ideal)) h (ix2 i u) = (0 : EReal) := by
  pointwise [laneAt, k0_pay1682]
theorem start_a (h : Fin 8) (d : Fin 64) (u : Fin 256) : accAt (F := Ideal) (k0_pay1683 (F := Ideal)) h (ix2 d u) = (0 : EReal) := by
  pointwise [accAt, k0_pay1683]

theorem rotated_add4 (x : FVec Ideal S8x512 .f32) (i : Fin 8) (b : Fin 512) : sum4 x (ix2 i b) = x (ix2 i b) + x (ix2 (i + 4) b) := by
  pointwise [sum4]
  rw [← rotated i 4 4 (by decide) (Nat.mod_lt _ (by decide))]; rfl
theorem rotated_add2 (x : FVec Ideal S8x512 .f32) (i : Fin 8) (b : Fin 512) : sum2 x (ix2 i b) = x (ix2 i b) + x (ix2 (i + 6) b) := by
  pointwise [sum2]
  rw [← rotated i 2 6 (by decide) (Nat.mod_lt _ (by decide))]; rfl
theorem rotated_add1 (x : FVec Ideal S8x512 .f32) (i : Fin 8) (b : Fin 512) : sum1 x (ix2 i b) = x (ix2 i b) + x (ix2 (i + 7) b) := by
  pointwise [sum1]
  rw [← rotated i 1 7 (by decide) (Nat.mod_lt _ (by decide))]; rfl

/-- The eight lanes' sum, in every lane. -/
theorem lanes_sum (x : FVec Ideal S8x512 .f32) (i : Fin 8) (b : Fin 512) :
    sum1 (sum2 (sum4 x)) (ix2 i b) = (x (ix2 0 b) : EReal) + (x (ix2 1 b) + (x (ix2 2 b) + (x (ix2 3 b) + (x (ix2 4 b) + (x (ix2 5 b) + (x (ix2 6 b) + x (ix2 7 b))))))) :=
  Average.rotations (fun a b : EReal => a + b) (fun i => x (ix2 i b)) (fun i => sum4 x (ix2 i b)) (fun i => sum2 (sum4 x) (ix2 i b)) (fun i => sum1 (sum2 (sum4 x)) (ix2 i b))
    (fun i => rotated_add4 _ i b) (fun i => rotated_add2 _ i b) (fun i => rotated_add1 _ i b) i

/-- A head's output at its place. -/
theorem headOut_at (a : FVec Ideal S1x64x512 .f32) (l : FVec Ideal S1x8x512 .f32) (d : Fin 64) (b : Fin 512) :
    headOut a l (ix2 d b) = a (ix3 0 d b) * Ideal.div 1 (sum1 (sum2 (sum4 (shapeCast S8x512 l shapeCasts_S1x8x512_S8x512))) (ix2 ⟨d.val % 8, by omega⟩ b)) := by
  unfold headOut
  generalize sum1 (sum2 (sum4 (shapeCast S8x512 l shapeCasts_S1x8x512_S8x512))) = z
  rw [← one_bits]
  pointwise

/-- The score the kernel computes is the score in the base two's logarithm. -/
theorem score_scaled (Q : Fin 64 → ℝ) (K : ℕ → Fin 64 → ℝ) (n : ℕ) :
    ∑ d : Fin 64, (K n d : EReal) * ((Q d : EReal) * (((1 / 8) * (Real.log 2)⁻¹ : ℝ) : EReal)) = ((score Q K n * (Real.log 2)⁻¹ : ℝ) : EReal) := by
  have : score Q K n * (Real.log 2)⁻¹ = ∑ d, K n d * (Q d * ((1 / 8) * (Real.log 2)⁻¹)) := by
    unfold score
    rw [mul_assoc, Finset.sum_mul]
    exact Finset.sum_congr rfl fun d _ => by ring
  rw [this, Average.coe_sum]
  exact Finset.sum_congr rfl fun d _ => by rw [← EReal.coe_mul, ← EReal.coe_mul]

/-- The rows the sums run over: the values, a row of ones, and zeros below. -/
def rows (V : ℕ → ℕ → EReal) (r n : ℕ) : EReal := if r < 64 then V r n else if r = 64 then 1 else 0

/-- An element of the output block: the average of its row of values under its query's scores. -/
theorem outBlock_at (x0 : Vec Ideal S256x512 .bf16) (kT : Vec Ideal S16384x64 .bf16) (x2 : Vec Ideal S80x16384 .bf16) (a : Fin 256) (b : Fin 512)
    (Q : Fin 64 → ℝ) (K : ℕ → Fin 64 → ℝ) (V : ℕ → ℕ → EReal)
    (hQ : ∀ d : Fin 64, x0 (ix2 ⟨64 * (a.val / 64) + d.val, by omega⟩ b) = (Q d : EReal))
    (hK : ∀ (n : Fin 16384) (d : Fin 64), kT (ix2 n d) = (K n.val d : EReal))
    (hV : ∀ (r : Fin 80) (n : Fin 16384), x2 (ix2 r n) = rows V r.val n.val) :
    outBlock x0 kT x2 (ix2 a b) = Average.average 16384 (score Q K) (V (a.val % 64)) := by
  have hj : a.val / 64 < 4 := by omega
  set h : Fin 8 := halfOf ⟨a.val / 64, hj⟩ b with hh
  have h2 : h.val / 2 = a.val / 64 := by show (2 * (a.val / 64) + b.val / 256) / 2 = a.val / 64; omega
  have h3 : h.val % 2 = b.val / 256 := by show (2 * (a.val / 64) + b.val / 256) % 2 = b.val / 256; omega
  have hq : ∀ d : Fin 64, queriesAt x0 h (ix2 d ⟨b.val % 256, by omega⟩) = (Q d : EReal) * (((1 / 8) * (Real.log 2)⁻¹ : ℝ) : EReal) := fun d => by
    rw [queriesAt_at, ← hQ d]
    have e1 : (⟨64 * (h.val / 2) + d.val, by omega⟩ : Fin 256) = ⟨64 * (a.val / 64) + d.val, by omega⟩ := Fin.ext (by show 64 * (h.val / 2) + d.val = _; rw [h2])
    have e2 : (⟨256 * (h.val % 2) + b.val % 256, by omega⟩ : Fin 512) = b := Fin.ext (by show 256 * (h.val % 2) + b.val % 256 = b.val; rw [h3]; omega)
    rw [e1]
    exact congrArg (fun z => x0 (ix2 _ z) * _) e2
  have L := lane (keysAt kT) (valuesAt x2) (queriesAt x0 h) (laneAt (F := Ideal) (k0_pay1681 (F := Ideal)) h) (laneAt (F := Ideal) (k0_pay1682 (F := Ideal)) h) (accAt (F := Ideal) (k0_pay1683 (F := Ideal)) h) ⟨b.val % 256, by omega⟩
    (fun n => score Q K n * (Real.log 2)⁻¹) (rows V)
    (fun c hc k => by
      rw [← score_scaled]
      refine Finset.sum_congr rfl fun d _ => ?_
      rw [keysAt_at _ _ hc, hK, hq])
    (fun c hc r k => by rw [valuesAt_at _ _ hc, hV]) (fun i => start_m h i _) (fun i => start_l h i _) (fun d => start_a h d ⟨b.val % 256, by omega⟩) 64 le_rfl
  rcases L with ⟨h0, -⟩ | ⟨M, -, hr⟩
  · exact absurd h0 (by norm_num)
  have hA : ∀ d : Fin 64, whole64 (sumsA x0 kT x2) (ix3 ⟨a.val / 64, hj⟩ d b) = Average.weighted (fun n => score Q K n * (Real.log 2)⁻¹) (V d.val) M 16384 := fun d => by
    have := hr d.val (by omega)
    unfold rowOf at this
    rw [dif_pos d.isLt] at this
    refine this.trans ?_
    have e : rows V d.val = V d.val := funext fun n => if_pos d.isLt
    rw [e]
  have hL : ∀ i : Fin 8, whole8 (sumsL x0 kT x2) (ix3 ⟨a.val / 64, hj⟩ i b) = Average.weighted (fun n => score Q K n * (Real.log 2)⁻¹) (rows V (64 + i.val)) M 16384 := fun i => by
    have := hr (64 + i.val) (by omega)
    unfold rowOf at this
    rw [dif_neg (by omega), dif_pos (by omega)] at this
    have e : (⟨64 + i.val - 64, by omega⟩ : Fin 8) = i := Fin.ext (by show 64 + i.val - 64 = i.val; omega)
    rw [e] at this
    exact this
  have hzero : ∀ i : Fin 8, i ≠ 0 → whole8 (sumsL x0 kT x2) (ix3 ⟨a.val / 64, hj⟩ i b) = (0 : EReal) := fun i hi => by
    rw [hL]
    have hi' : i.val ≠ 0 := fun e => hi (Fin.ext e)
    unfold Average.weighted
    refine Finset.sum_eq_zero fun n _ => ?_
    have e : rows V (64 + i.val) n = 0 := by
      unfold rows; rw [if_neg (by omega), if_neg (by omega)]
    rw [e, mul_zero]
  have hlane : ∀ i : Fin 8, shapeCast S8x512 (fun y : S1x8x512.Idx => whole8 (sumsL x0 kT x2) ((head8 ⟨a.val / 64, hj⟩).toLoadRect.idx y)) shapeCasts_S1x8x512_S8x512 (ix2 i b) =
      whole8 (sumsL x0 kT x2) (ix3 ⟨a.val / 64, hj⟩ i b) := fun i => by
    pointwise
  have ha : whole64 (sumsA x0 kT x2) ((head64 ⟨a.val / 64, hj⟩).toLoadRect.idx (ix3 0 ⟨a.val % 64, by omega⟩ b)) =
      whole64 (sumsA x0 kT x2) (ix3 ⟨a.val / 64, hj⟩ ⟨a.val % 64, by omega⟩ b) := by
    refine congrArg (whole64 (sumsA x0 kT x2)) (funext fun t => Fin.ext ?_)
    match t with
    | 0 => simp [LoadRect.idx]
    | 1 => simp [LoadRect.idx]
    | 2 => simp [LoadRect.idx]
  show headAt (whole64 (sumsA x0 kT x2)) (whole8 (sumsL x0 kT x2)) ⟨a.val / 64, hj⟩ (ix2 ⟨a.val % 64, by omega⟩ b) = _
  unfold headAt
  rw [headOut_at, lanes_sum, ha, hA]
  simp only [hlane]
  rw [hzero 1 (by decide), hzero 2 (by decide), hzero 3 (by decide), hzero 4 (by decide), hzero 5 (by decide), hzero 6 (by decide), hzero 7 (by decide), hL 0]
  simp only [add_zero]
  refine Average.weighted_div 16384 (by norm_num) (score Q K) _ (fun _ => rfl) _ _ M fun n => ?_
  unfold rows
  rw [if_neg (by simp), if_pos (by simp)]

end Cert.KernelIdeal.Attn

end
-- ==== Proof.Result.lean ====
/- The attention kernel's result array, element by element. -/
module

public import proofs.«01_k».proof.Proof.Entry
public import proofs.«01_k».proof.Proof.Value
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- Where a point's blocks lie: head group `t / 32 % 3`, batch entry `t / 96`, queries' block `t % 32`. -/
theorem places : ∀ t : Fin cfg0.N, (cc0_transform_0 (grid0.coords t) 0 = t.val / 32 % 3 ∧ cc0_transform_0 (grid0.coords t) 1 = 32 * (t.val / 96) + t.val % 32)
    ∧ (cc0_transform_1 (grid0.coords t) 0 = t.val / 32 % 3 ∧ cc0_transform_1 (grid0.coords t) 1 = t.val / 96)
    ∧ (cc0_transform_2 (grid0.coords t) 0 = t.val / 32 % 3 ∧ cc0_transform_2 (grid0.coords t) 1 = t.val / 96)
    ∧ (cc0_transform_3 (grid0.coords t) 0 = t.val / 32 % 3 ∧ cc0_transform_3 (grid0.coords t) 1 = 32 * (t.val / 96) + t.val % 32) := by
  decide +kernel

theorem q_block (c : Dev nD) (t : Fin cfg0.N) (ht : t.val < 192) (a : Fin 256) (b : Fin 512) : iblk m c 0 t (ix2 a b) =
    V m c main_v2 (ix2 ⟨256 * (t.val / 32 % 3) + a.val, by omega⟩ ⟨512 * (32 * (t.val / 96) + t.val % 32) + b.val, by omega⟩) := by
  show V m c main_v2 (((cfg0.win 0).blk t).view.emb (ix2 a b)) = _
  refine congrArg _ (funext fun x => Fin.ext ?_)
  match x with
  | 0 =>
    blk_simp
    show cc0_transform_0 (grid0.coords t) 0 * 256 + a.val = 256 * (t.val / 32 % 3) + a.val
    rw [(places t).1.1]; omega
  | 1 =>
    blk_simp
    show cc0_transform_0 (grid0.coords t) 1 * 512 + b.val = 512 * (32 * (t.val / 96) + t.val % 32) + b.val
    rw [(places t).1.2]; omega

theorem k_block (c : Dev nD) (t : Fin cfg0.N) (ht : t.val < 192) (a : Fin 64) (b : Fin 16384) : iblk m c 1 t (ix2 a b) =
    V m c main_v5 (ix2 ⟨64 * (t.val / 32 % 3) + a.val, by omega⟩ ⟨16384 * (t.val / 96) + b.val, by omega⟩) := by
  show V m c main_v5 (((cfg0.win 1).blk t).view.emb (ix2 a b)) = _
  refine congrArg _ (funext fun x => Fin.ext ?_)
  match x with
  | 0 =>
    blk_simp
    show cc0_transform_1 (grid0.coords t) 0 * 64 + a.val = 64 * (t.val / 32 % 3) + a.val
    rw [(places t).2.1.1]; omega
  | 1 =>
    blk_simp
    show cc0_transform_1 (grid0.coords t) 1 * 16384 + b.val = 16384 * (t.val / 96) + b.val
    rw [(places t).2.1.2]; omega

theorem v_block (c : Dev nD) (t : Fin cfg0.N) (ht : t.val < 192) (a : Fin 80) (b : Fin 16384) : iblk m c 2 t (ix2 a b) =
    V m c main_v15 (ix2 ⟨80 * (t.val / 32 % 3) + a.val, by omega⟩ ⟨16384 * (t.val / 96) + b.val, by omega⟩) := by
  show V m c main_v15 (((cfg0.win 2).blk t).view.emb (ix2 a b)) = _
  refine congrArg _ (funext fun x => Fin.ext ?_)
  match x with
  | 0 =>
    blk_simp
    show cc0_transform_2 (grid0.coords t) 0 * 80 + a.val = 80 * (t.val / 32 % 3) + a.val
    rw [(places t).2.2.1.1]; omega
  | 1 =>
    blk_simp
    show cc0_transform_2 (grid0.coords t) 1 * 16384 + b.val = 16384 * (t.val / 96) + b.val
    rw [(places t).2.2.1.2]; omega

/-- Four coordinates that agree as numbers are one index. -/
theorem ix4_eq {a b c d : ℕ} {i i' : Fin a} {j j' : Fin b} {k k' : Fin c} {l l' : Fin d} (hi : i.val = i'.val) (hj : j.val = j'.val) (hk : k.val = k'.val) (hl : l.val = l'.val) :
    ix4 i j k l = ix4 i' j' k' l' := by
  rw [Fin.ext hi, Fin.ext hj, Fin.ext hk, Fin.ext hl]

/-- An element of a point's output block is attention's at its place. -/
theorem out_at (c : Dev nD) (hq : ∀ i, ∃ x : ℝ, m ((c.tc : Thread nD τ).loc main_arg0) i = (x : EReal)) (hk : ∀ i, ∃ x : ℝ, m ((c.tc : Thread nD τ).loc main_arg1) i = (x : EReal))
    (t : Fin cfg0.N) (ht : t.val < 192) (a : Fin 256) (b : Fin 512) (r : Fin 768) (n : Fin 32768)
    (hr : r.val = 256 * (t.val / 32 % 3) + a.val) (hn : n.val = 512 * (32 * (t.val / 96) + t.val % 32) + b.val) :
    outAt m c t (ix2 a b) = Average.attention (m ((c.tc : Thread nD τ).loc main_arg0)) (m ((c.tc : Thread nD τ).loc main_arg1)) (m ((c.tc : Thread nD τ).loc main_arg2)) r n := by
  have real : ∀ z : EReal, (∃ x : ℝ, z = x) → z = (z.toReal : EReal) := fun z ⟨x, h⟩ => by rw [h]; rfl
  unfold outAt
  refine (outBlock_at _ _ _ a b
    (fun d => EReal.toReal (m ((c.tc : Thread nD τ).loc main_arg0) (ix4 ⟨n.val / 16384, by omega⟩ ⟨n.val % 16384, by omega⟩ ⟨r.val / 64, by omega⟩ d)))
    (fun j d => EReal.toReal (m ((c.tc : Thread nD τ).loc main_arg1) (ix4 ⟨n.val / 16384, by omega⟩ ⟨j % 16384, Nat.mod_lt _ (by decide)⟩ ⟨r.val / 256, by omega⟩ d)))
    (fun e j => m ((c.tc : Thread nD τ).loc main_arg2) (ix4 ⟨n.val / 16384, by omega⟩ ⟨j % 16384, Nat.mod_lt _ (by decide)⟩ ⟨r.val / 256, by omega⟩ ⟨e % 64, Nat.mod_lt _ (by decide)⟩))
    (fun d => ?_) (fun j d => ?_) (fun e j => ?_)).trans ?_
  · rw [q_block m c t ht, q_entry]
    refine Eq.trans (congrArg _ (ix4_eq ?_ ?_ ?_ ?_)) (real _ (hq _))
    all_goals dsimp only
    all_goals omega
  · unfold keys transposed
    refine (k_block m c ⟨t.val - t.val % 32, first_lt t.val t.isLt⟩ (by dsimp only; omega) d j).trans ?_
    rw [k_entry]
    refine Eq.trans (congrArg _ (ix4_eq ?_ ?_ ?_ ?_)) (real _ (hk _))
    all_goals dsimp only
    all_goals omega
  · rw [v_block m c t ht]
    unfold rows
    by_cases he : e.val < 64
    · rw [if_pos he, v_entry _ _ _ _ (by dsimp only; omega)]
      refine congrArg _ (ix4_eq ?_ ?_ ?_ ?_)
      all_goals dsimp only
      all_goals omega
    · rw [if_neg he, ones_entry _ _ _ _ (by dsimp only; omega)]
      dsimp only
      by_cases he' : e.val = 64
      · rw [if_pos he', if_pos (by omega)]
      · rw [if_neg he', if_neg (by omega)]
  · unfold Average.attention
    refine congrArg (Average.average 16384 _) (funext fun j => congrArg _ (ix4_eq rfl rfl rfl ?_))
    dsimp only
    omega

/-- The kernel's result array is attention's. -/
theorem result_eq (c : Dev nD) (hq : ∀ i, ∃ x : ℝ, m ((c.tc : Thread nD τ).loc main_arg0) i = (x : EReal)) (hk : ∀ i, ∃ x : ℝ, m ((c.tc : Thread nD τ).loc main_arg1) i = (x : EReal)) :
    (dats m 0 c).arrAt 3 (cfgs 0).N = fun i => Average.attention (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  have ht : t.val < 192 := Nat.lt_of_lt_of_eq t.isLt N_0
  blk_simp
  rw [after_3]
  idx_vars y
  refine out_at m c hq hk t ht _ _ _ _ ?_ ?_
  · blk_simp
    show cc0_transform_3 (grid0.coords t) 0 * 256 + y0.val = 256 * (t.val / 32 % 3) + y0.val
    rw [(places t).2.2.2.1]; omega
  · blk_simp
    show cc0_transform_3 (grid0.coords t) 1 * 512 + y1.val = 512 * (32 * (t.val / 96) + t.val % 32) + y1.val
    rw [(places t).2.2.2.2]; omega

end Cert.KernelIdeal.Attn

end
-- ==== Proof.Softmax.lean ====
/- The reference's result in the extended reals: attention, element by element. -/
module

public import proofs.«01_k».proof.Proof.Attention
public import proofs.«01_k».proof.Proof.Gen.ReferenceIdeal.Read

@[expose] public section

set_option maxRecDepth 16384

noncomputable section

namespace Cert.ReferenceIdeal.Softmax

open Cert.ReferenceIdeal Cert.ReferenceIdeal.Gen Cert.ReferenceIdeal.Read
open Idealize.ShloMosaic Idealize.ShloMosaic.Tactic
open Cert.Average (score average attention)

theorem scale_bits : Ideal.ofBits .f32 0x3E000000#32 = ((1 / 8 : ℝ) : EReal) := by
  simp [Ideal.ofBits, Ideal.ieee, -EReal.coe_mul]
  norm_num

theorem minus_infinity : Ideal.ofBits .f32 0xFF800000#32 = ⊥ := by simp [Ideal.ofBits, Ideal.ieee]

variable (q : FVec Ideal S2x16384x12x64 .f32) (k v : FVec Ideal S2x16384x3x64 .f32)

/-- A score, scaled. -/
theorem scores_at (b : Fin 2) (h : Fin 3) (g : Fin 4) (i j : Fin 16384) :
    val_main_v4 (F := Ideal) q k (ix5 b h g i j) = (∑ d : Fin 64, k (ix4 b j h d) * q (ix4 b i ⟨h.val * 4 + g.val, by omega⟩ d)) * ((1 / 8 : ℝ) : EReal) := by
  rw [← scale_bits]
  pointwise [val_main_v4, val_main_v3, val_main_v2, val_main_v1, val_main_v0, val_main_cst]

/-- A reduction by maximum, over one axis that is not empty, of real numbers from minus infinity is real. -/
theorem reduce_max_real {s t u : Shape} {a : Fin s.rank} (f : EReal → EReal → EReal) (hf : ∀ x y, f x y = max x y) (x : s.Idx → EReal) (init : u.Idx → EReal) (h : s.ReducesTo [a] t)
    (h' : s.Reduces [a] t) (hu : 0 < u.numel) (j : t.Idx) (ha : 0 < s.size a) (hx : ∀ i, ∃ r : ℝ, x i = r) (hi : ∀ i, init i = ⊥) : ∃ r : ℝ, Host.reduce f x init h hu j = r := by
  obtain rfl : f = max := funext fun x => funext fun y => hf x y
  rw [Host.reduce_eq_fold_single max x init h h' hu j, hi]
  exact Average.fold_max_real _ ⟨⟨0, ha⟩, Finset.mem_univ _⟩ _ fun n => hx _

/-- What is subtracted from a row of scores: their maximum, or minus infinity. -/
theorem top_at (b : Fin 2) (h : Fin 3) (g : Fin 4) (i j : Fin 16384) :
    val_main_v9 (F := Ideal) q k (ix5 b h g i j) = max ⊥ (val_main_v5 (F := Ideal) q k (ix4 b h g i)) := by
  have e : idx_main_v8 (idx_main_v9 (ix5 b h g i j)) = ix4 b h g i := funext fun a => match a with
    | ⟨0, _⟩ => rfl
    | ⟨1, _⟩ => rfl
    | ⟨2, _⟩ => rfl
    | ⟨3, _⟩ => rfl
  rw [val_main_v9_apply, val_main_v8_apply, val_main_v7_apply, val_main_v6_apply, val_main_cst_1_apply, e]
  generalize val_main_v5 (F := Ideal) q k (ix4 b h g i) = s
  exact congrArg (fun u : EReal => max u s) minus_infinity

/-- The maximum of a row of real scores is real. -/
theorem top_real (hs : ∀ i, ∃ x : ℝ, val_main_v4 (F := Ideal) q k i = (x : EReal)) (j : S2x3x4x16384.Idx) : ∃ M : ℝ, val_main_v5 (F := Ideal) q k j = (M : EReal) := by
  unfold val_main_v5
  revert hs
  generalize val_main_v4 (F := Ideal) q k = s
  intro hs
  exact reduce_max_real _ (fun _ _ => rfl) s _ _ (by decide) _ j (by decide) hs fun _ => minus_infinity

theorem weights_at (b : Fin 2) (h : Fin 3) (g : Fin 4) (i j : Fin 16384) :
    val_main_v15 (F := Ideal) q k (ix5 b h g i j) = Ideal.div (Ideal.exp (val_main_v4 (F := Ideal) q k (ix5 b h g i j) - val_main_v9 (F := Ideal) q k (ix5 b h g i j)))
      (∑ j' : Fin 16384, Ideal.exp (val_main_v4 (F := Ideal) q k (ix5 b h g i j') - val_main_v9 (F := Ideal) q k (ix5 b h g i j'))) := by
  unfold val_main_v15 val_main_v14 val_main_v13 val_main_v12 val_main_cst_2 val_main_v11 val_main_v10
  generalize val_main_v4 (F := Ideal) q k = s
  generalize val_main_v9 (F := Ideal) q k = t
  pointwise

theorem result_at (r : Fin 768) (n : Fin 32768) :
    val_main_v20 (F := Ideal) q k v (ix2 r n) = ∑ j : Fin 16384, v (ix4 ⟨n.val / 16384, by omega⟩ j ⟨r.val / 256, by omega⟩ ⟨r.val % 64, by omega⟩)
      * val_main_v15 (F := Ideal) q k (ix5 ⟨n.val / 16384, by omega⟩ ⟨r.val / 256, by omega⟩ ⟨r.val / 64 % 4, by omega⟩ ⟨n.val % 16384, by omega⟩ j) := by
  unfold val_main_v20 val_main_v19 val_main_v18 val_main_v17 val_main_v16
  generalize val_main_v15 (F := Ideal) q k = p
  pointwise

/-- The reference's result is attention's, where the queries and the keys are real. -/
theorem result_eq (hq : ∀ i, ∃ x : ℝ, q i = (x : EReal)) (hk : ∀ i, ∃ x : ℝ, k i = (x : EReal)) (r : Fin 768) (n : Fin 32768) :
    val_main_v20 (F := Ideal) q k v (ix2 r n) = attention q k v r n := by
  have real : ∀ z : EReal, (∃ x : ℝ, z = x) → z = (z.toReal : EReal) := fun z ⟨x, h⟩ => by rw [h]; rfl
  have hs : ∀ (b : Fin 2) (h : Fin 3) (g : Fin 4) (i j : Fin 16384), val_main_v4 (F := Ideal) q k (ix5 b h g i j) =
      ((score (fun d => (q (ix4 b i ⟨h.val * 4 + g.val, by omega⟩ d) : EReal).toReal) (fun j d => (k (ix4 b ⟨j % 16384, Nat.mod_lt _ (by decide)⟩ h d) : EReal).toReal) j.val : ℝ) : EReal) := fun b h g i j => by
    rw [scores_at]
    unfold score
    rw [EReal.coe_mul, Average.coe_sum]
    congr 1
    refine Finset.sum_congr rfl fun d _ => ?_
    have e : (⟨j.val % 16384, Nat.mod_lt _ (by decide)⟩ : Fin 16384) = j := Fin.ext (Nat.mod_eq_of_lt j.isLt)
    beta_reduce
    rw [e, EReal.coe_mul, ← real _ (hq _), ← real _ (hk _), mul_comm]
  have hs' : ∀ i, ∃ x : ℝ, val_main_v4 (F := Ideal) q k i = (x : EReal) := fun i => by
    idx_vars i
    exact ⟨_, hs _ _ _ _ _⟩
  have hM : ∀ (b : Fin 2) (h : Fin 3) (g : Fin 4) (i : Fin 16384), ∃ M : ℝ, ∀ j, val_main_v9 (F := Ideal) q k (ix5 b h g i j) = (M : EReal) := fun b h g i => by
    obtain ⟨M, e⟩ := top_real q k hs' (ix4 b h g i)
    refine ⟨M, fun j => ?_⟩
    rw [top_at]
    exact (max_eq_right bot_le).trans e
  rw [result_at]
  obtain ⟨M, hM⟩ := hM ⟨n.val / 16384, by omega⟩ ⟨r.val / 256, by omega⟩ ⟨r.val / 64 % 4, by omega⟩ ⟨n.val % 16384, by omega⟩
  simp only [weights_at, hM, hs]
  have hr : (⟨r.val / 256 * 4 + r.val / 64 % 4, by omega⟩ : Fin 12) = ⟨r.val / 64, by omega⟩ := Fin.ext (by show r.val / 256 * 4 + r.val / 64 % 4 = r.val / 64; omega)
  simp only [hr]
  unfold attention
  rw [← Average.softmax_sum 16384 (by decide) _ _ M, Finset.sum_range]
  refine Finset.sum_congr rfl fun j _ => ?_
  rw [Finset.sum_range, mul_comm]
  have e : (⟨j.val % 16384, Nat.mod_lt _ (by decide)⟩ : Fin 16384) = j := Fin.ext (Nat.mod_eq_of_lt j.isLt)
  beta_reduce
  rw [e]

end Cert.ReferenceIdeal.Softmax

end
-- ==== Proof.Finite.lean ====
/- What the precondition says: the queries and the keys are real numbers. -/
module

public import proofs.«01_k».proof.Pre_qk_finite
public import Idealize.ShloMosaic.PureOps.Ideal
public import Idealize.ShloMosaic.Lib.Pointwise

@[expose] public section

set_option maxRecDepth 16384

noncomputable section

namespace Cert.Pre_qk_finite

open Idealize.ShloMosaic Idealize.ShloMosaic.Tactic Facts

theorem infinity_bits : Ideal.ofBits .f32 0x7F800000#32 = ⊤ := by simp [Ideal.ofBits, Ideal.ieee]

/-- A number whose absolute value is under infinity is real. -/
theorem real_of_under (x : EReal) (h : Ideal.cmp .olt (FloatOps.hostAbsf (F := Ideal) (φ := .f32) x : EReal) ⊤ = 1#1) : ∃ r : ℝ, x = (r : EReal) := by
  induction x with
  | bot => exact absurd h (by simp [Ideal.cmp, FloatOps.hostAbsf])
  | top => exact absurd h (by simp [Ideal.cmp, FloatOps.hostAbsf])
  | coe r => exact ⟨r, rfl⟩

variable [Facts] (q : FVec Ideal S2x16384x12x64 .f32) (k v : FVec Ideal S2x16384x3x64 .f32)

theorem first_at (b : Fin 2) (i : Fin 16384) (h : Fin 12) (d : Fin 64) :
    fn (F := Ideal) q k v (ix4 b i ⟨h.val, by omega⟩ d) = Ideal.cmp .olt (FloatOps.hostAbsf (F := Ideal) (φ := .f32) (q (ix4 b i h d)) : EReal) ⊤ := by
  rw [← infinity_bits]
  unfold fn
  pointwise

theorem second_at (b : Fin 2) (i : Fin 16384) (h : Fin 3) (d : Fin 64) :
    fn (F := Ideal) q k v (ix4 b i ⟨h.val + 12, by omega⟩ d) = Ideal.cmp .olt (FloatOps.hostAbsf (F := Ideal) (φ := .f32) (k (ix4 b i h d)) : EReal) ⊤ := by
  rw [← infinity_bits]
  unfold fn
  pointwise
  have e : (⟨h.val + 12 - 12, by omega⟩ : Fin 3) = h := Fin.ext (by show h.val + 12 - 12 = h.val; omega)
  rw [dif_neg (by omega), e]

theorem queries_real (h : fn (F := Ideal) q k v = fun _ => 1#1) (i : S2x16384x12x64.Idx) : ∃ r : ℝ, q i = (r : EReal) := by
  idx_vars i
  exact real_of_under _ ((first_at q k v _ _ _ _).symm.trans (congrFun h _))

theorem keys_real (h : fn (F := Ideal) q k v = fun _ => 1#1) (i : S2x16384x3x64.Idx) : ∃ r : ℝ, k i = (r : EReal) := by
  idx_vars i
  exact real_of_under _ ((second_at q k v _ _ _ _).symm.trans (congrFun h _))

end Cert.Pre_qk_finite

end
-- ==== Proof.Words.lean ====
/- The printed program's frame: on words a named constant is the word printed, and the two programs are then one. -/
module

public import proofs.«01_k».proof.Defs
public import proofs.«01_k».proof.Proof.Gen.Kernel
public import proofs.«01_k».proof.Proof.Run

@[expose] public section

set_option maxRecDepth 65536

noncomputable section

namespace Cert.Proof

open Idealize.ShloMosaic Idealize.ShloMosaic.TcCoe Idealize.SL.Sem

/-- A named constant read as the word that stands in its place. -/
@[reducible] def printedWord : Named Bits := ⟨fun _ _ _ b => FloatOps.ofBits _ b⟩

attribute [local instance] printedWord

/-- The two bodies are one. -/
theorem body_eq : Cert.Kernel.cc0_full_attention (F := Bits) = Cert.KernelIdeal.cc0_full_attention (F := Bits) := rfl

theorem table_eq : Cert.Kernel.defs₀ (F := Bits) = Cert.KernelIdeal.defs₀ (F := Bits) := by
  unfold Cert.Kernel.defs₀ Cert.KernelIdeal.defs₀
  refine congrArg Defs.onTc ?_
  funext l a
  match l with
  | 0 => rfl

theorem defs_eq : Cert.Kernel.defs (F := Bits) = Cert.KernelIdeal.defs (F := Bits) :=
  congrArg (Pipeline.defs Cert.KernelIdeal.pcfgs) table_eq

theorem kernel_frame : Cert.quiescent_Kernel := fun m g _ => by
  have h := Cert.KernelIdeal.Attn.frame (F := Bits) m g
  rw [← defs_eq] at h
  exact h

end Cert.Proof

end
-- ==== Proof.Feed.lean ====
/- A feed-forward block on one token, in the extended reals: normalise, gate, project down, normalise, add. -/
module

public import Idealize.ShloMosaic.Lib.Pointwise

@[expose] public section

noncomputable section

namespace Cert.Feed

open Idealize.ShloMosaic

/-- The reciprocal root of a row's mean square, the small number added. -/
def scale (x : Fin 1024 → EReal) : EReal :=
  Ideal.rsqrt (Ideal.div (∑ d, x d * x d) (Ideal.ofBits .f32 0x44800000#32) + Ideal.ofBits .f32 0x358637BD#32)

/-- A row normalised, with a weight for each place. -/
def rms (x g : Fin 1024 → EReal) (d : Fin 1024) : EReal := x d * scale x * g d

/-- One hidden unit: its gate times the gate's sigmoid times its value. -/
def unit (w : Fin 1024 → Fin 5632 → EReal) (h : Fin 1024 → EReal) (j : Fin 2816) : EReal :=
  (∑ d, h d * w d ⟨j.val, by omega⟩) * Ideal.logistic (∑ d, h d * w d ⟨j.val, by omega⟩) * ∑ d, h d * w d ⟨2816 + j.val, by omega⟩

/-- The hidden units projected down. -/
def down (v : Fin 2816 → Fin 1024 → EReal) (a : Fin 2816 → EReal) (d : Fin 1024) : EReal := ∑ j, a j * v j d

/-- The block: the row, and the normalised projection of its hidden units. -/
def feed (x : Fin 1024 → EReal) (w : Fin 1024 → Fin 5632 → EReal) (v : Fin 2816 → Fin 1024 → EReal) (g g' : Fin 1024 → EReal) (d : Fin 1024) : EReal :=
  x d + rms (down v (unit w (rms x g))) g' d

/-- A sum over the hidden units, block by block. -/
theorem sum_blocks (f : Fin 2816 → EReal) : ∑ k : Fin 11, ∑ j : Fin 256, f ⟨256 * k.val + j.val, by omega⟩ = ∑ j, f j := by
  rw [← Fintype.sum_prod_type' (f := fun (k : Fin 11) (j : Fin 256) => f ⟨256 * k.val + j.val, by omega⟩)]
  refine Fintype.sum_equiv (finProdFinEquiv (m := 11) (n := 256)) _ _ fun p => congrArg f (Fin.ext ?_)
  show 256 * p.1.val + p.2.val = p.2.val + 256 * p.1.val
  omega

end Cert.Feed

end
-- ==== Proof.FeedBlock.lean ====
/- The feed-forward kernel's body on one block of tokens, a column each, in the extended reals. -/
module

public import proofs.«01_k».proof.Proof.Feed
public import proofs.«01_k».proof.Proof.Gen.Kernel2Ideal.Frame
public import Idealize.ShloMosaic.Lib.Pipeline.ValueKit

@[expose] public section

set_option maxRecDepth 16384

noncomputable section

namespace Cert.Kernel2Ideal.Feed

open Cert.Kernel2Ideal Cert.Kernel2Ideal.Gen
open Idealize.ShloMosaic Idealize.ShloMosaic.TcCoe Idealize.ShloMosaic.Tactic
open Cert.Feed

variable {F : FTy → Type} [FloatOps F]

/-- Columns normalised, with a weight for each row. -/
def normed (x : FVec F S1024x512 .f32) (g : FVec F S1024x1 .f32) : FVec F S1024x512 .f32 :=
  mulf (mulf x (broadcastTo S1024x512 (rsqrt (addf (divf (shapeCast S1x512 (multiReduction .add [0] S512 (mulf x x) 0x00000000#32 reduces_S1024x512_S512 (.inl rfl) rfl) shapeCasts_S512_S1x512)
    (broadcast S1x512 (Scalar.ofBits .f32 0x44800000#32 : F .f32))) (broadcast S1x512 (Scalar.ofBits .f32 0x358637BD#32 : F .f32)))) broadcasts_S1x512_S1024x512))
    (broadcastTo S1024x512 g broadcasts_S1024x1_S1024x512)

/-- A block's gates and values. -/
def product (w : FVec F S512x1024 .bf16) (h : FVec F S1024x512 .bf16) : FVec F S512x512 .f32 :=
  matmul dot_S512x1024_S1024x512_S512x512_1_0_0_1_n_n none (shapeCast S512x1024 w shapeCasts_S512x1024_S512x1024) h (constant S512x512 .f32 0x00000000#32)

/-- A block's hidden units. -/
def gated (p : FVec F S512x512 .f32) : FVec F S256x512 .bf16 :=
  truncf .bf16 (mulf (mulf (extractStridedSlice S256x512 ![0, 0] p slices_S512x512_o0_0_S256x512) (logistic (extractStridedSlice S256x512 ![0, 0] p slices_S512x512_o0_0_S256x512)))
    (extractStridedSlice S256x512 ![256, 0] p slices_S512x512_o256_0_S256x512)) bitsLt_bf16_f32

/-- A block's hidden units projected down. -/
def projected (v : FVec F S1024x256 .bf16) (a : FVec F S256x512 .bf16) : FVec F S1024x512 .f32 :=
  matmul dot_S1024x256_S256x512_S1024x512_1_0_0_1_n_n none (shapeCast S1024x256 v shapeCasts_S1024x256_S1024x256) a (constant S1024x512 .f32 0x00000000#32)

theorem rows_inb : ∀ (k : Fin 11) (a : Fin 2), (![512 * k.val, 0] : Fin 2 → ℕ) a + S512x1024.size a ≤ S5632x1024.size a := by decide
theorem cols_inb : ∀ (k : Fin 11) (a : Fin 2), (![0, 256 * k.val] : Fin 2 → ℕ) a + S1024x256.size a ≤ S1024x2816.size a := by decide

/-- Block `k`'s rows and columns of the weights. -/
abbrev rows (k : Fin 11) : Rect S5632x1024 := Rect.unit ![512 * k.val, 0] S512x1024.size (rows_inb k)
abbrev cols (k : Fin 11) : Rect S1024x2816 := Rect.unit ![0, 256 * k.val] S1024x256.size (cols_inb k)

/-- Block `k`'s part of the projection. -/
def part (x2 : Vec F S5632x1024 .bf16) (x3 : Vec F S1024x2816 .bf16) (h : FVec F S1024x512 .bf16) (k : Fin 11) : FVec F S1024x512 .f32 :=
  projected (View.ld x3 (cols k)) (gated (product (View.ld x2 (rows k)) h))

/-- The parts up to block `n`, added in turn. -/
def parts (x2 : Vec F S5632x1024 .bf16) (x3 : Vec F S1024x2816 .bf16) (h : FVec F S1024x512 .bf16) : ℕ → FVec F S1024x512 .f32
  | 0 => part x2 x3 h 0
  | n + 1 => addf (parts x2 x3 h n) (part x2 x3 h (Fin.ofNat 11 (n + 1)))

/-- What a visit leaves in the output block. -/
def outBlock (x0 : Vec F S1024x512 .f32) (x1 : Vec F S1024x1 .f32) (x2 : Vec F S5632x1024 .bf16) (x3 : Vec F S1024x2816 .bf16) (x4 : Vec F S1024x1 .f32) : Vec F S512x1024 .f32 :=
  transpose S512x1024 [1, 0] (addf x0 (normed (parts x2 x3 (truncf .bf16 (normed x0 x1) bitsLt_bf16_f32) 10) x4)) transposes_S1024x512_p1_0_S512x1024

theorem out_eq (x0 : Vec F S1024x512 .f32) (x1 : Vec F S1024x1 .f32) (x2 : Vec F S5632x1024 .bf16) (x3 : Vec F S1024x2816 .bf16) (x4 : Vec F S1024x1 .f32) :
    out0_5 x0 x1 x2 x3 x4 = outBlock x0 x1 x2 x3 x4 := by
  have zero : (![0, 0] : Fin 2 → ℕ) = fun _ => 0 := by decide
  have e0 : View.ld x0 r0_0 = x0 := View.ld_unit_zero (S := S1024x512) zero _ x0
  have e1 : View.ld x1 r0_1 = x1 := View.ld_unit_zero (S := S1024x1) zero _ x1
  have e4 : View.ld x4 r0_1 = x4 := View.ld_unit_zero (S := S1024x1) zero _ x4
  have c0 : shapeCast S1024x512 x0 shapeCasts_S1024x512_S1024x512 = x0 := shapeCast_self _ _
  have c1 : shapeCast S1024x1 x1 shapeCasts_S1024x1_S1024x1 = x1 := shapeCast_self _ _
  have c4 : shapeCast S1024x1 x4 shapeCasts_S1024x1_S1024x1 = x4 := shapeCast_self _ _
  unfold out0_5 outBlock
  rw [View.canon_cons_unit_zero (S := S512x1024) zero]
  unfold k0_pay15
  rw [e0, e1, e4]
  have h : k0_pay2 x0 x1 = truncf .bf16 (normed x0 x1) bitsLt_bf16_f32 := by
    unfold k0_pay2 normed
    dsimp only
    rw [c0, c1]
  unfold k0_pay3 k0_pay4 k0_pay5
  rw [h]
  generalize truncf .bf16 (normed x0 x1) bitsLt_bf16_f32 = h
  unfold k0_pay1 k0_pay14
  dsimp only
  rw [c0, c4]
  rfl

theorem normed_at (x : FVec Ideal S1024x512 .f32) (g : FVec Ideal S1024x1 .f32) (d : Fin 1024) (u : Fin 512) :
    normed x g (ix2 d u) = rms (fun d => x (ix2 d u)) (fun d => g (ix2 d 0)) d := by
  unfold rms scale
  pointwise [normed]

theorem product_at (w : FVec Ideal S512x1024 .bf16) (h : FVec Ideal S1024x512 .bf16) (r u : Fin 512) :
    product w h (ix2 r u) = ∑ d : Fin 1024, w (ix2 r d) * h (ix2 d u) := by
  pointwise [product]

theorem gated_at (p : FVec Ideal S512x512 .f32) (j : Fin 256) (u : Fin 512) :
    gated p (ix2 j u) = p (ix2 ⟨j.val, by omega⟩ u) * Ideal.logistic (p (ix2 ⟨j.val, by omega⟩ u)) * p (ix2 ⟨256 + j.val, by omega⟩ u) := by
  pointwise [gated]

theorem projected_at (v : FVec Ideal S1024x256 .bf16) (a : FVec Ideal S256x512 .bf16) (d : Fin 1024) (u : Fin 512) :
    projected v a (ix2 d u) = ∑ j : Fin 256, v (ix2 d j) * a (ix2 j u) := by
  pointwise [projected]

theorem rows_at (x2 : FVec Ideal S5632x1024 .bf16) (k : Fin 11) (r : Fin 512) (d : Fin 1024) :
    (View.ld (Val := Elt Ideal) (e' := .bf16) x2 (rows k) : FVec Ideal S512x1024 .bf16) (ix2 r d) = x2 (ix2 ⟨512 * k.val + r.val, by omega⟩ d) := by
  refine congrArg x2 (funext fun a => Fin.ext ?_)
  match a with
  | 0 => simp
  | 1 => simp

theorem cols_at (x3 : FVec Ideal S1024x2816 .bf16) (k : Fin 11) (d : Fin 1024) (j : Fin 256) :
    (View.ld (Val := Elt Ideal) (e' := .bf16) x3 (cols k) : FVec Ideal S1024x256 .bf16) (ix2 d j) = x3 (ix2 d ⟨256 * k.val + j.val, by omega⟩) := by
  refine congrArg x3 (funext fun a => Fin.ext ?_)
  match a with
  | 0 => simp
  | 1 => simp

/-- A block's part of the projection at its place, from the weights' rows and columns. -/
theorem part_at (x2 : FVec Ideal S5632x1024 .bf16) (x3 : FVec Ideal S1024x2816 .bf16) (h : FVec Ideal S1024x512 .bf16) (w : Fin 1024 → Fin 5632 → EReal) (v : Fin 2816 → Fin 1024 → EReal)
    (hgate : ∀ (k : Fin 11) (j : Fin 256) (d : Fin 1024), x2 (ix2 ⟨512 * k.val + j.val, by omega⟩ d) = w d ⟨256 * k.val + j.val, by omega⟩)
    (hup : ∀ (k : Fin 11) (j : Fin 256) (d : Fin 1024), x2 (ix2 ⟨512 * k.val + (256 + j.val), by omega⟩ d) = w d ⟨2816 + (256 * k.val + j.val), by omega⟩)
    (hv : ∀ (j : Fin 2816) (d : Fin 1024), x3 (ix2 d j) = v j d) (k : Fin 11) (d : Fin 1024) (u : Fin 512) :
    part x2 x3 h k (ix2 d u) = ∑ j : Fin 256, unit w (fun d => h (ix2 d u)) ⟨256 * k.val + j.val, by omega⟩ * v ⟨256 * k.val + j.val, by omega⟩ d := by
  unfold part
  rw [projected_at]
  refine Finset.sum_congr rfl fun j _ => ?_
  have eg : product (F := Ideal) (View.ld (Val := Elt Ideal) (e' := .bf16) x2 (rows k)) h (ix2 ⟨j.val, by omega⟩ u) = ∑ d, h (ix2 d u) * w d ⟨256 * k.val + j.val, by omega⟩ := by
    rw [product_at]
    refine Finset.sum_congr rfl fun d _ => ?_
    rw [rows_at, hgate, mul_comm]
  have eu : product (F := Ideal) (View.ld (Val := Elt Ideal) (e' := .bf16) x2 (rows k)) h (ix2 ⟨256 + j.val, by omega⟩ u) = ∑ d, h (ix2 d u) * w d ⟨2816 + (256 * k.val + j.val), by omega⟩ := by
    rw [product_at]
    refine Finset.sum_congr rfl fun d _ => ?_
    rw [rows_at, hup, mul_comm]
  rw [gated_at, eg, eu, cols_at, hv, mul_comm]
  rfl

/-- The parts added in turn are the projection of all hidden units. -/
theorem parts_at (x2 : FVec Ideal S5632x1024 .bf16) (x3 : FVec Ideal S1024x2816 .bf16) (h : FVec Ideal S1024x512 .bf16) (w : Fin 1024 → Fin 5632 → EReal) (v : Fin 2816 → Fin 1024 → EReal)
    (hgate : ∀ (k : Fin 11) (j : Fin 256) (d : Fin 1024), x2 (ix2 ⟨512 * k.val + j.val, by omega⟩ d) = w d ⟨256 * k.val + j.val, by omega⟩)
    (hup : ∀ (k : Fin 11) (j : Fin 256) (d : Fin 1024), x2 (ix2 ⟨512 * k.val + (256 + j.val), by omega⟩ d) = w d ⟨2816 + (256 * k.val + j.val), by omega⟩)
    (hv : ∀ (j : Fin 2816) (d : Fin 1024), x3 (ix2 d j) = v j d) (d : Fin 1024) (u : Fin 512) :
    parts x2 x3 h 10 (ix2 d u) = down v (unit w fun d => h (ix2 d u)) d := by
  have fold : ∀ n, parts x2 x3 h n (ix2 d u) = ∑ k ∈ Finset.range (n + 1), part x2 x3 h (Fin.ofNat 11 k) (ix2 d u) := fun n => by
    induction n with
    | zero => rw [Finset.sum_range_one]; rfl
    | succ n ih => rw [Finset.sum_range_succ, ← ih]; rfl
  unfold down
  rw [fold, Finset.sum_range, ← sum_blocks]
  refine Finset.sum_congr rfl fun k _ => ?_
  rw [part_at x2 x3 h w v hgate hup hv, show Fin.ofNat 11 k.val = k from Fin.ext (Nat.mod_eq_of_lt k.isLt)]

/-- The output block at its place is the feed-forward block's result. -/
theorem outBlock_at (x0 : FVec Ideal S1024x512 .f32) (x1 : FVec Ideal S1024x1 .f32) (x2 : FVec Ideal S5632x1024 .bf16) (x3 : FVec Ideal S1024x2816 .bf16) (x4 : FVec Ideal S1024x1 .f32)
    (w : Fin 1024 → Fin 5632 → EReal) (v : Fin 2816 → Fin 1024 → EReal)
    (hgate : ∀ (k : Fin 11) (j : Fin 256) (d : Fin 1024), x2 (ix2 ⟨512 * k.val + j.val, by omega⟩ d) = w d ⟨256 * k.val + j.val, by omega⟩)
    (hup : ∀ (k : Fin 11) (j : Fin 256) (d : Fin 1024), x2 (ix2 ⟨512 * k.val + (256 + j.val), by omega⟩ d) = w d ⟨2816 + (256 * k.val + j.val), by omega⟩)
    (hv : ∀ (j : Fin 2816) (d : Fin 1024), x3 (ix2 d j) = v j d) (u : Fin 512) (d : Fin 1024) :
    outBlock (F := Ideal) x0 x1 x2 x3 x4 (ix2 u d) = feed (fun d => x0 (ix2 d u)) w v (fun d => x1 (ix2 d 0)) (fun d => x4 (ix2 d 0)) d := by
  have e : outBlock (F := Ideal) x0 x1 x2 x3 x4 (ix2 u d) =
      x0 (ix2 d u) + normed (parts x2 x3 (truncf .bf16 (normed x0 x1) bitsLt_bf16_f32) 10) x4 (ix2 d u) := by
    unfold outBlock
    generalize normed (parts x2 x3 (truncf .bf16 (normed x0 x1) bitsLt_bf16_f32) 10) x4 = y
    pointwise
  have eh : ∀ d, truncf .bf16 (normed x0 x1) bitsLt_bf16_f32 (ix2 d u) = rms (fun d => x0 (ix2 d u)) (fun d => x1 (ix2 d 0)) d := fun d => normed_at x0 x1 d u
  rw [e, normed_at]
  unfold feed
  simp only [parts_at x2 x3 _ w v hgate hup hv, eh]

end Cert.Kernel2Ideal.Feed

end
-- ==== Proof.FeedResult.lean ====
/- The feed-forward kernel's result array, element by element. -/
module

public import proofs.«01_k».proof.Proof.FeedBlock
public import proofs.«01_k».proof.Proof.Gen.Kernel2Ideal.Value
public import Idealize.ShloMosaic.Lib.StableHlo.ReadAt

@[expose] public section

set_option maxRecDepth 16384

noncomputable section

namespace Cert.Kernel2Ideal.Feed

open Cert.Kernel2Ideal Cert.Kernel2Ideal.Gen
open Idealize.ShloMosaic Idealize.ShloMosaic.TcCoe Idealize.ShloMosaic.Tactic
open Idealize.ShloMosaic.Pipeline (Dat Cfg Window BodyObligation cellOf)
open Cert.Feed

variable (m : (ℓ : Loc nD τ sig) → Buf (Elt Ideal) ℓ)

theorem x_entry (c : Dev nD) (d : Fin 1024) (n : Fin 32768) :
    V m c main_v1 (ix2 d n) = m ((c.tc : Thread nD τ).loc main_arg0) (ix3 ⟨n.val / 16384, by omega⟩ ⟨n.val % 16384, by omega⟩ d) := by
  unfold V
  after_reads_at

/-- The gates and the values, block by block. -/
theorem w_entry (c : Dev nD) (r : Fin 5632) (d : Fin 1024) :
    V m c main_v6 (ix2 r d) = m ((c.tc : Thread nD τ).loc main_arg1) (ix2 d ⟨r.val / 256 % 2 * 2816 + r.val / 512 * 256 + r.val % 256, by omega⟩) := by
  unfold V
  after_reads_at

theorem v_entry (c : Dev nD) (j : Fin 2816) (d : Fin 1024) :
    V m c main_v8 (ix2 d j) = m ((c.tc : Thread nD τ).loc main_arg2) (ix2 j d) := by
  unfold V
  after_reads_at

theorem g_entry (c : Dev nD) (d : Fin 1024) : V m c main_v9 (ix2 d 0) = m ((c.tc : Thread nD τ).loc main_arg3) (ix1 d) := by
  unfold V
  after_reads_at

theorem g'_entry (c : Dev nD) (d : Fin 1024) : V m c main_v10 (ix2 d 0) = m ((c.tc : Thread nD τ).loc main_arg4) (ix1 d) := by
  unfold V
  after_reads_at

theorem places : ∀ t : Fin cfg0.N, (cc0_transform_0 (grid0.coords t) 0 = 0 ∧ cc0_transform_0 (grid0.coords t) 1 = t.val)
    ∧ (cc0_transform_5 (grid0.coords t) 0 = t.val ∧ cc0_transform_5 (grid0.coords t) 1 = 0) := by
  decide +kernel

theorem x_block (c : Dev nD) (t : Fin cfg0.N) (ht : t.val < 64) (d : Fin 1024) (u : Fin 512) :
    iblk m c 0 t (ix2 d u) = V m c main_v1 (ix2 d ⟨512 * t.val + u.val, by omega⟩) := by
  show V m c main_v1 (((cfg0.win 0).blk t).view.emb (ix2 d u)) = _
  refine congrArg _ (funext fun x => Fin.ext ?_)
  match x with
  | 0 =>
    blk_simp
    show cc0_transform_0 (grid0.coords t) 0 * 1024 + d.val = d.val
    rw [(places t).1.1]; omega
  | 1 =>
    blk_simp
    show cc0_transform_0 (grid0.coords t) 1 * 512 + u.val = 512 * t.val + u.val
    rw [(places t).1.2]; omega

theorem g_block (c : Dev nD) (t : Fin cfg0.N) (d : Fin 1024) : iblk m c 1 t (ix2 d 0) = V m c main_v9 (ix2 d 0) := by
  show V m c main_v9 (((cfg0.win 1).blk t).view.emb (ix2 d 0)) = _
  refine congrArg _ (funext fun x => Fin.ext ?_)
  match x with
  | 0 =>
    blk_simp
    show 0 * 1024 + d.val = d.val
    omega
  | 1 =>
    blk_simp
    rfl

theorem w_block (c : Dev nD) (t : Fin cfg0.N) (r : Fin 5632) (d : Fin 1024) : iblk m c 2 t (ix2 r d) = V m c main_v6 (ix2 r d) := by
  show V m c main_v6 (((cfg0.win 2).blk t).view.emb (ix2 r d)) = _
  refine congrArg _ (funext fun x => Fin.ext ?_)
  match x with
  | 0 =>
    blk_simp
    show 0 * 5632 + r.val = r.val
    omega
  | 1 =>
    blk_simp
    show 0 * 1024 + d.val = d.val
    omega

theorem v_block (c : Dev nD) (t : Fin cfg0.N) (d : Fin 1024) (j : Fin 2816) : iblk m c 3 t (ix2 d j) = V m c main_v8 (ix2 d j) := by
  show V m c main_v8 (((cfg0.win 3).blk t).view.emb (ix2 d j)) = _
  refine congrArg _ (funext fun x => Fin.ext ?_)
  match x with
  | 0 =>
    blk_simp
    show 0 * 1024 + d.val = d.val
    omega
  | 1 =>
    blk_simp
    show 0 * 2816 + j.val = j.val
    omega

theorem g'_block (c : Dev nD) (t : Fin cfg0.N) (d : Fin 1024) : iblk m c 4 t (ix2 d 0) = V m c main_v10 (ix2 d 0) := by
  show V m c main_v10 (((cfg0.win 4).blk t).view.emb (ix2 d 0)) = _
  refine congrArg _ (funext fun x => Fin.ext ?_)
  match x with
  | 0 =>
    blk_simp
    show 0 * 1024 + d.val = d.val
    omega
  | 1 =>
    blk_simp
    rfl

/-- Two coordinates that agree as numbers are one index. -/
theorem ix2_eq {a b : ℕ} {i i' : Fin a} {j j' : Fin b} (hi : i.val = i'.val) (hj : j.val = j'.val) : ix2 i j = ix2 i' j' := by
  rw [Fin.ext hi, Fin.ext hj]

/-- Token `n`'s row after the block, from the arguments. -/
def result (c : Dev nD) (n : Fin 32768) (d : Fin 1024) : EReal :=
  feed (fun d => m ((c.tc : Thread nD τ).loc main_arg0) (ix3 ⟨n.val / 16384, by omega⟩ ⟨n.val % 16384, by omega⟩ d)) (fun d j => m ((c.tc : Thread nD τ).loc main_arg1) (ix2 d j))
    (fun j d => m ((c.tc : Thread nD τ).loc main_arg2) (ix2 j d)) (fun d => m ((c.tc : Thread nD τ).loc main_arg3) (ix1 d)) (fun d => m ((c.tc : Thread nD τ).loc main_arg4) (ix1 d)) d

/-- An element of a point's output block is its token's. -/
theorem out_at (c : Dev nD) (t : Fin cfg0.N) (ht : t.val < 64) (u : Fin 512) (d : Fin 1024) (n : Fin 32768) (e : Fin 1024) (hn : n.val = 512 * t.val + u.val) (he : e.val = d.val) :
    out0_5 (iblk m c 0 t) (iblk m c 1 t) (iblk m c 2 t) (iblk m c 3 t) (iblk m c 4 t) (ix2 u d) = result m c n e := by
  obtain rfl : e = d := Fin.ext he
  rw [out_eq]
  refine (outBlock_at _ _ _ _ _ (fun d j => m ((c.tc : Thread nD τ).loc main_arg1) (ix2 d j)) (fun j d => m ((c.tc : Thread nD τ).loc main_arg2) (ix2 j d))
    (fun k j d => ?_) (fun k j d => ?_) (fun j d => (v_block m c t d j).trans (v_entry m c j d)) u e).trans ?_
  · refine (w_block m c t _ d).trans ((w_entry m c _ d).trans (congrArg _ (ix2_eq rfl ?_)))
    dsimp only
    omega
  · refine (w_block m c t _ d).trans ((w_entry m c _ d).trans (congrArg _ (ix2_eq rfl ?_)))
    dsimp only
    omega
  · have hb : 512 * t.val + u.val < 32768 := by omega
    have hn' : (⟨512 * t.val + u.val, hb⟩ : Fin 32768) = n := Fin.ext hn.symm
    subst hn'
    have ex : (fun d => iblk m c 0 t (ix2 d u)) = _ := funext fun d => (x_block m c t ht d u).trans (x_entry m c d _)
    have eg : (fun d => iblk m c 1 t (ix2 d 0)) = _ := funext fun d => (g_block m c t d).trans (g_entry m c d)
    have eg' : (fun d => iblk m c 4 t (ix2 d 0)) = _ := funext fun d => (g'_block m c t d).trans (g'_entry m c d)
    rw [ex, eg, eg']
    rfl

/-- The kernel's result array is the feed-forward block's. -/
theorem result_eq (c : Dev nD) : (dats m 0 c).arrAt 5 cfg0.N = fun i => result m c (i 0) (i 1) := by
  refine (dats m 0 c).arrAt_eq_of_covers 5 _ (by decide +kernel) fun t hf y => ?_
  have ht : t.val < 64 := Nat.lt_of_lt_of_eq t.isLt N_0
  blk_simp
  rw [after0_5]
  idx_vars y
  refine out_at m c t ht _ _ _ _ ?_ ?_
  · blk_simp
    show cc0_transform_5 (grid0.coords t) 0 * 512 + y0.val = 512 * t.val + y0.val
    rw [(places t).2.1]; omega
  · blk_simp
    show cc0_transform_5 (grid0.coords t) 1 * 1024 + y1.val = y1.val
    rw [(places t).2.2]; omega

end Cert.Kernel2Ideal.Feed

end
-- ==== Proof.FeedReference.lean ====
/- The reference's result in the extended reals: the feed-forward block, element by element. -/
module

public import proofs.«01_k».proof.Proof.Feed
public import proofs.«01_k».proof.Proof.Gen.Reference2Ideal.Read

@[expose] public section

set_option maxRecDepth 16384

noncomputable section

namespace Cert.Reference2Ideal.Feed

open Cert.Reference2Ideal Cert.Reference2Ideal.Gen Cert.Reference2Ideal.Read
open Idealize.ShloMosaic Idealize.ShloMosaic.Tactic
open Cert.Feed

theorem one_bits : Ideal.ofBits .f32 0x3F800000#32 = 1 := by
  simp [Ideal.ofBits, Ideal.ieee, -EReal.coe_mul]
  norm_num

variable (x : FVec Ideal S2x16384x1024 .f32) (w : FVec Ideal S1024x5632 .f32) (v : FVec Ideal S2816x1024 .f32) (g g' : FVec Ideal S1024 .f32)

/-- A token's row. -/
def row (x : FVec Ideal S2x16384x1024 .f32) (b : Fin 2) (s : Fin 16384) (d : Fin 1024) : EReal := x (ix3 b s d)

theorem norm_at (b : Fin 2) (s : Fin 16384) (d : Fin 1024) :
    val_main_v12 (F := Ideal) x g (ix3 b s d) = rms (row x b s) (fun d => g (ix1 d)) d := by
  pointwise [val_main_v12, val_main_v11, val_main_v10, val_main_v9, val_main_v8, val_main_v7, val_main_v6, val_main_v5, val_main_v4, val_main_v3, val_main_v2, val_main_v1, val_main_v0,
    val_main_cst, val_main_cst_0, val_main_cst_1, rms, scale, row]

theorem product_at (b : Fin 2) (s : Fin 16384) (j : Fin 5632) :
    val_main_v13 (F := Ideal) x w g (ix3 b s j) = ∑ d : Fin 1024, rms (row x b s) (fun d => g (ix1 d)) d * w (ix2 d j) := by
  simp only [← norm_at]
  unfold val_main_v13
  generalize val_main_v12 (F := Ideal) x g = h
  pointwise

theorem hidden_at (b : Fin 2) (s : Fin 16384) (j : Fin 2816) :
    val_main_v17 (F := Ideal) x w g (ix3 b s j) = unit (fun d j => w (ix2 d j)) (rms (row x b s) fun d => g (ix1 d)) j := by
  unfold unit Ideal.logistic
  simp only [← product_at, ← one_bits]
  unfold val_main_v17 val_main_v16 val_main_v15 val_main_call0_v5 val_main_call0_v4 val_main_call0_v3 val_main_call0_v2 val_main_call0_v1 val_main_call0_v0 val_main_v14
    val_main_call0_cst val_main_call0_cst_0
  generalize val_main_v13 (F := Ideal) x w g = p
  pointwise

theorem down_at (b : Fin 2) (s : Fin 16384) (d : Fin 1024) :
    val_main_v18 (F := Ideal) x w v g (ix3 b s d) = down (fun j d => v (ix2 j d)) (unit (fun d j => w (ix2 d j)) (rms (row x b s) fun d => g (ix1 d))) d := by
  unfold down
  simp only [← hidden_at]
  unfold val_main_v18
  generalize val_main_v17 (F := Ideal) x w g = p
  pointwise

theorem result_at (n : Fin 32768) (d : Fin 1024) : val_main_v33 (F := Ideal) x w v g g' (ix2 n d) =
    feed (row x ⟨n.val / 16384, by omega⟩ ⟨n.val % 16384, by omega⟩) (fun d j => w (ix2 d j)) (fun j d => v (ix2 j d)) (fun d => g (ix1 d)) (fun d => g' (ix1 d)) d := by
  unfold feed
  have h := fun d => down_at x w v g ⟨n.val / 16384, by omega⟩ ⟨n.val % 16384, by omega⟩ d
  simp only [rms, scale] at h ⊢
  simp only [← h]
  unfold val_main_v33 val_main_v32 val_main_v31 val_main_v30 val_main_v29 val_main_v28 val_main_v27 val_main_v26 val_main_v25 val_main_v24 val_main_v23 val_main_v22 val_main_v21 val_main_v20
    val_main_v19 val_main_cst_2 val_main_cst_3 val_main_cst_4
  generalize val_main_v18 (F := Ideal) x w v g = p
  pointwise [row]

end Cert.Reference2Ideal.Feed

end
-- ==== Proof.Mix.lean ====
/- A layer's output projection on one token, in the extended reals: the token mixer's heads and the memory's heads, projected,
   normalised and added to the row. -/
module

public import proofs.«01_k».proof.Proof.Attention
public import proofs.«01_k».proof.Proof.Feed

@[expose] public section

noncomputable section

namespace Cert.Mix

open Idealize.ShloMosaic Idealize.ShloMosaic.Tactic
open Cert.Average (score average)

/-- Row `r` (head `r / 64`) and token `n` of the memory's heads: the average of the memory's values under the token's scores
    against the memory's keys. -/
def recall (q : (⟨4, ![2, 16384, 4, 64]⟩ : Shape).Idx → EReal) (k v : (⟨4, ![2, 256, 4, 64]⟩ : Shape).Idx → EReal) (n : Fin 32768) (r : Fin 256) : EReal :=
  average 256
    (score (fun d => (q (ix4 ⟨n.val / 16384, by omega⟩ ⟨n.val % 16384, by omega⟩ ⟨r.val / 64, by omega⟩ d)).toReal)
      (fun j d => (k (ix4 ⟨n.val / 16384, by omega⟩ ⟨j % 256, Nat.mod_lt _ (by decide)⟩ ⟨r.val / 64, by omega⟩ d)).toReal))
    (fun j => v (ix4 ⟨n.val / 16384, by omega⟩ ⟨j % 256, Nat.mod_lt _ (by decide)⟩ ⟨r.val / 64, by omega⟩ ⟨r.val % 64, by omega⟩))

/-- The heads projected: the token mixer's, then the memory's. -/
def projected (t : Fin 768 → EReal) (o : Fin 256 → EReal) (w : Fin 1024 → Fin 1024 → EReal) (d : Fin 1024) : EReal :=
  ∑ j : Fin 768, t j * w ⟨j.val, by omega⟩ d + ∑ j : Fin 256, o j * w ⟨768 + j.val, by omega⟩ d

/-- The row, and the normalised projection of its heads. -/
def mix (x : Fin 1024 → EReal) (t : Fin 768 → EReal) (o : Fin 256 → EReal) (w : Fin 1024 → Fin 1024 → EReal) (g : Fin 1024 → EReal) (d : Fin 1024) : EReal :=
  x d + Feed.rms (projected t o w) g d

/-- A sum over all heads' places is the token mixer's and the memory's. -/
theorem sum_heads (f : Fin 1024 → EReal) : ∑ j, f j = ∑ j : Fin 768, f ⟨j.val, by omega⟩ + ∑ j : Fin 256, f ⟨768 + j.val, by omega⟩ :=
  Fin.sum_univ_add (a := 768) (b := 256) f

end Cert.Mix

end
-- ==== Proof.MixBlock.lean ====
/- The output projection's body on one block of tokens, a column each, in the extended reals. -/
module

public import proofs.«01_k».proof.Proof.Mix
public import proofs.«01_k».proof.Proof.Value
public import proofs.«01_k».proof.Proof.Gen.Kernel3Ideal.Frame
public import Idealize.ShloMosaic.Lib.Pipeline.ValueKit

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Cert.KernelIdeal.Attn (scores lNew aNew)

variable {F : FTy → Type} [FloatOps F] [Named F]

/-- A block of queries times the scores' scale. -/
def scaled (q : FVec F S64x256 .bf16) : FVec F S64x256 .bf16 :=
  truncf .bf16 (mulf (extf .f32 (shapeCast S64x256 q shapeCasts_S64x256_S64x256) bitsLt_bf16_f32) (broadcast S64x256 (Named.named κ "q_scale" 0x3E38AA3B#32 : F .f32))) bitsLt_bf16_f32

/-- A head's keys and values. -/
def keys (k : FVec F S1x1x256x64 .bf16) : FVec F S256x64 .bf16 := shapeCast S256x64 k shapeCasts_S1x1x256x64_S256x64
def vals (v : FVec F S1x1x80x256 .bf16) : FVec F S80x256 .bf16 := shapeCast S80x256 v shapeCasts_S1x1x80x256_S80x256

/-- What the running maximum and sums start from. -/
def startM : FVec F S8x256 .f32 := broadcast S8x256 (Named.named κ "neg_init" 0xF149F2CA#32 : F .f32)
def startL : FVec F S8x256 .f32 := broadcast S8x256 (Scalar.ofBits .f32 0x00000000#32 : F .f32)
def startA : FVec F S64x256 .f32 := broadcast S64x256 (Scalar.ofBits .f32 0x00000000#32 : F .f32)

/-- The sum of eight lanes, in every lane, one rotation at a time. -/
def sum4 (x : FVec F S8x256 .f32) : FVec F S8x256 .f32 := addf x (dynamicRotate 0 4#32 none x rotates_S8x256_d0)
def sum2 (x : FVec F S8x256 .f32) : FVec F S8x256 .f32 := addf x (dynamicRotate 0 2#32 none x rotates_S8x256_d0)
def sum1 (x : FVec F S8x256 .f32) : FVec F S8x256 .f32 := addf x (dynamicRotate 0 1#32 none x rotates_S8x256_d0)

/-- The values' sums over the weights'. -/
def divided (a : FVec F S64x256 .f32) (l : FVec F S8x256 .f32) : FVec F S64x256 .bf16 :=
  truncf .bf16 (shapeCast S64x256 (mulf (shapeCast S8x8x256 a shapeCasts_S64x256_S8x8x256)
    (broadcastTo S8x8x256 (shapeCast S1x8x256 (divf (broadcast S8x256 (Scalar.ofBits .f32 0x3F800000#32 : F .f32)) (sum1 (sum2 (sum4 l)))) shapeCasts_S8x256_S1x8x256) broadcasts_S1x8x256_S8x8x256))
    shapeCasts_S8x8x256_S64x256) bitsLt_bf16_f32

/-- One head's attention to the memory, of a block of queries. -/
def head (q : FVec F S64x256 .bf16) (k : FVec F S1x1x256x64 .bf16) (v : FVec F S1x1x80x256 .bf16) : FVec F S64x256 .bf16 :=
  divided (aNew (scores (keys k) (scaled q)) (vals v) startM startA) (lNew (scores (keys k) (scaled q)) (vals v) startM startL)

theorem queries_inb : ∀ (h u : Fin 4) (a : Fin 2), (![64 * h.val, 256 * u.val] : Fin 2 → ℕ) a + S64x256.size a ≤ S256x1024.size a := by decide
theorem keys_inb : ∀ (h : Fin 4) (a : Fin 4), (![0, h.val, 0, 0] : Fin 4 → ℕ) a + S1x1x256x64.size a ≤ S1x4x256x64.size a := by decide
theorem vals_inb : ∀ (h : Fin 4) (a : Fin 4), (![0, h.val, 0, 0] : Fin 4 → ℕ) a + S1x1x80x256.size a ≤ S1x4x80x256.size a := by decide
theorem rows_inb : ∀ (r : Fin 4) (a : Fin 2), (![256 * r.val, 0] : Fin 2 → ℕ) a + S256x768.size a ≤ S1024x1024.size a := by decide
theorem cols_inb : ∀ (u : Fin 4) (a : Fin 2), (![0, 256 * u.val] : Fin 2 → ℕ) a + S768x256.size a ≤ S768x1024.size a := by decide

/-- Head `h`'s queries of the tokens' quarter `u`, its keys, its values; a quarter of the weights' rows, of the tokens' columns. -/
abbrev queriesOf (h u : Fin 4) : Rect S256x1024 := Rect.unit ![64 * h.val, 256 * u.val] S64x256.size (queries_inb h u)
abbrev keysOf (h : Fin 4) : Rect S1x4x256x64 := Rect.unit ![0, h.val, 0, 0] S1x1x256x64.size (keys_inb h)
abbrev valsOf (h : Fin 4) : Rect S1x4x80x256 := Rect.unit ![0, h.val, 0, 0] S1x1x80x256.size (vals_inb h)
abbrev rowsOf (r : Fin 4) : Rect S1024x1024 := Rect.unit ![256 * r.val, 0] S256x768.size (rows_inb r)
abbrev colsOf (u : Fin 4) : Rect S768x1024 := Rect.unit ![0, 256 * u.val] S768x256.size (cols_inb u)

/-- Head `h` on the tokens' quarter `u`. -/
def headAt (x2 : Vec F S256x1024 .bf16) (x3 : Vec F S1x4x256x64 .bf16) (x4 : Vec F S1x4x80x256 .bf16) (h u : Fin 4) : FVec F S64x256 .bf16 :=
  head (View.ld x2 (queriesOf h u)) (View.ld x3 (keysOf h)) (View.ld x4 (valsOf h))

/-- A quarter of the weights' rows on a quarter of the tokens. -/
def piece (w : FVec F S256x768 .bf16) (t : FVec F S768x256 .bf16) : FVec F S256x256 .f32 :=
  matmul dot_S256x768_S768x256_S256x256_1_0_0_1_n_n none (shapeCast S256x768 w shapeCasts_S256x768_S256x768) (shapeCast S768x256 t shapeCasts_S768x256_S768x256) (constant S256x256 .f32 0x00000000#32)
def pieceAt (x1 : Vec F S768x1024 .bf16) (x5 : Vec F S1024x1024 .bf16) (u r : Fin 4) : FVec F S256x256 .f32 := piece (View.ld x5 (rowsOf r)) (View.ld x1 (colsOf u))

/-- Four parts side by side, or one below another. -/
def wide {α : Type} (f : Fin 4 → S64x256.Idx → α) : S64x1024.Idx → α :=
  concatenate S64x1024 1 [⟨S64x256, f 0⟩, ⟨S64x256, f 1⟩, ⟨S64x256, f 2⟩, ⟨S64x256, f 3⟩] concatenates_S64x256_S64x256_S64x256_S64x256_S64x1024_d1
def tall {α : Type} (f : Fin 4 → S64x1024.Idx → α) : S256x1024.Idx → α :=
  concatenate S256x1024 0 [⟨S64x1024, f 0⟩, ⟨S64x1024, f 1⟩, ⟨S64x1024, f 2⟩, ⟨S64x1024, f 3⟩] concatenates_S64x1024_S64x1024_S64x1024_S64x1024_S256x1024_d0
def stacked {α : Type} (f : Fin 4 → S256x256.Idx → α) : S1024x256.Idx → α :=
  concatenate S1024x256 0 [⟨S256x256, f 0⟩, ⟨S256x256, f 1⟩, ⟨S256x256, f 2⟩, ⟨S256x256, f 3⟩] concatenates_S256x256_S256x256_S256x256_S256x256_S1024x256_d0
def abreast {α : Type} (f : Fin 4 → S1024x256.Idx → α) : S1024x1024.Idx → α :=
  concatenate S1024x1024 1 [⟨S1024x256, f 0⟩, ⟨S1024x256, f 1⟩, ⟨S1024x256, f 2⟩, ⟨S1024x256, f 3⟩] concatenates_S1024x256_S1024x256_S1024x256_S1024x256_S1024x1024_d1

/-- The token mixer's heads projected, and the memory's heads. -/
def ofTokens (x1 : Vec F S768x1024 .bf16) (x5 : Vec F S1024x1024 .bf16) : FVec F S1024x1024 .f32 := abreast fun u => stacked fun r => pieceAt x1 x5 u r
def ofMemory (x2 : Vec F S256x1024 .bf16) (x3 : Vec F S1x4x256x64 .bf16) (x4 : Vec F S1x4x80x256 .bf16) : FVec F S256x1024 .bf16 := tall fun h => wide fun u => headAt x2 x3 x4 h u

/-- The memory's heads projected. -/
def last (w : FVec F S1024x256 .bf16) (o : FVec F S256x1024 .bf16) : FVec F S1024x1024 .f32 :=
  matmul dot_S1024x256_S256x1024_S1024x1024_1_0_0_1_n_n none (shapeCast S1024x256 w shapeCasts_S1024x256_S1024x256) o (constant S1024x1024 .f32 0x00000000#32)

/-- Columns normalised, with a weight for each row. -/
def normed (x : FVec F S1024x1024 .f32) (g : FVec F S1024x1 .f32) : FVec F S1024x1024 .f32 :=
  mulf (mulf x (broadcastTo S1024x1024 (rsqrt (addf (divf (shapeCast S1x1024 (multiReduction .add [0] S1024 (mulf x x) 0x00000000#32 reduces_S1024x1024_S1024 (.inl rfl) rfl) shapeCasts_S1024_S1x1024)
    (broadcast S1x1024 (Scalar.ofBits .f32 0x44800000#32 : F .f32))) (broadcast S1x1024 (Scalar.ofBits .f32 0x358637BD#32 : F .f32)))) broadcasts_S1x1024_S1024x1024))
    (broadcastTo S1024x1024 g broadcasts_S1024x1_S1024x1024)

/-- What a visit leaves in the output block. -/
def outBlock (x0 : Vec F S1024x1024 .f32) (x1 : Vec F S768x1024 .bf16) (x2 : Vec F S256x1024 .bf16) (x3 : Vec F S1x4x256x64 .bf16) (x4 : Vec F S1x4x80x256 .bf16) (x5 : Vec F S1024x1024 .bf16)
    (x6 : Vec F S1024x1 .f32) : Vec F S1024x1024 .f32 :=
  addf x0 (normed (addf (ofTokens x1 x5) (last (View.ld x5 r0_32) (ofMemory x2 x3 x4))) x6)

theorem out_eq (x0 : Vec F S1024x1024 .f32) (x1 : Vec F S768x1024 .bf16) (x2 : Vec F S256x1024 .bf16) (x3 : Vec F S1x4x256x64 .bf16) (x4 : Vec F S1x4x80x256 .bf16) (x5 : Vec F S1024x1024 .bf16)
    (x6 : Vec F S1024x1 .f32) : out0_7 x0 x1 x2 x3 x4 x5 x6 = outBlock x0 x1 x2 x3 x4 x5 x6 := by
  have zero : (![0, 0] : Fin 2 → ℕ) = fun _ => 0 := by decide
  have e0 : View.ld x0 r0_33 = x0 := View.ld_unit_zero (S := S1024x1024) zero _ x0
  have e6 : View.ld x6 r0_34 = x6 := View.ld_unit_zero (S := S1024x1) zero _ x6
  have c0 : shapeCast S1024x1024 x0 shapeCasts_S1024x1024_S1024x1024 = x0 := shapeCast_self _ _
  have c6 : shapeCast S1024x1 x6 shapeCasts_S1024x1_S1024x1 = x6 := shapeCast_self _ _
  unfold out0_7 outBlock
  rw [View.canon_cons_unit_zero (S := S1024x1024) zero]
  unfold k0_pay147
  dsimp only
  rw [e0, e6, c0, c6]
  refine congrArg (addf x0) (congrArg (fun y => normed y x6) ?_)
  refine congr (congrArg addf ?_) (congrArg (last _) ?_)
  · rfl
  · rfl

end Cert.Kernel3Ideal.Mix

end
-- ==== Proof.MixValue.lean ====
/- The output projection's block in the extended reals: each element is the row's and the normalised projection of its heads. -/
module

public import proofs.«01_k».proof.Proof.MixBlock

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Cert.Average (score)
open Cert.KernelIdeal.Attn (scores lNew aNew rows)

/-- Which of four parts of one width a place is in, and where. -/
theorem pick {n : ℕ} (g : Fin 4 → Fin n → EReal) (k : Fin 4) (r : Fin n) (b : ℕ) (hb : b = n * k.val + r.val) (hlt : ¬b < n → ¬b - n < n → ¬b - n - n < n → b - n - n - n < n) :
    (if h : b < n then g 0 ⟨b, h⟩ else if h' : b - n < n then g 1 ⟨b - n, h'⟩ else if h'' : b - n - n < n then g 2 ⟨b - n - n, h''⟩ else g 3 ⟨b - n - n - n, hlt h h' h''⟩) = g k r := by
  have hr := r.isLt
  match k with
  | 0 =>
    have hb : b = n * 0 + r.val := hb
    rw [dif_pos (by omega)]
    exact congrArg _ (Fin.ext (by show b = r.val; omega))
  | 1 =>
    have hb : b = n * 1 + r.val := hb
    rw [dif_neg (by omega), dif_pos (by omega)]
    exact congrArg _ (Fin.ext (by show b - n = r.val; omega))
  | 2 =>
    have hb : b = n * 2 + r.val := hb
    rw [dif_neg (by omega), dif_neg (by omega), dif_pos (by omega)]
    exact congrArg _ (Fin.ext (by show b - n - n = r.val; omega))
  | 3 =>
    have hb : b = n * 3 + r.val := hb
    rw [dif_neg (by omega), dif_neg (by omega), dif_neg (by omega)]
    exact congrArg _ (Fin.ext (by show b - n - n - n = r.val; omega))

theorem wide_at (f : Fin 4 → S64x256.Idx → EReal) (a : Fin 64) (k : Fin 4) (r : Fin 256) : wide f (ix2 a ⟨256 * k.val + r.val, by omega⟩) = f k (ix2 a r) := by
  pointwise [wide]
  exact pick (fun k r => f k (ix2 a r)) k r _ rfl (by omega)
theorem tall_at (f : Fin 4 → S64x1024.Idx → EReal) (k : Fin 4) (r : Fin 64) (b : Fin 1024) : tall f (ix2 ⟨64 * k.val + r.val, by omega⟩ b) = f k (ix2 r b) := by
  pointwise [tall]
  exact pick (fun k r => f k (ix2 r b)) k r _ rfl (by omega)
theorem stacked_at (f : Fin 4 → S256x256.Idx → EReal) (k : Fin 4) (r : Fin 256) (b : Fin 256) : stacked f (ix2 ⟨256 * k.val + r.val, by omega⟩ b) = f k (ix2 r b) := by
  pointwise [stacked]
  exact pick (fun k r => f k (ix2 r b)) k r _ rfl (by omega)
theorem abreast_at (f : Fin 4 → S1024x256.Idx → EReal) (a : Fin 1024) (k : Fin 4) (r : Fin 256) : abreast f (ix2 a ⟨256 * k.val + r.val, by omega⟩) = f k (ix2 a r) := by
  pointwise [abreast]
  exact pick (fun k r => f k (ix2 a r)) k r _ rfl (by omega)

theorem q_scale : (Named.named κ "q_scale" 0x3E38AA3B#32 : Ideal .f32) = (((1 / 8) * (Real.log 2)⁻¹ : ℝ) : EReal) :=
  IdealRules.named_const.ideal_named_scalar _ _ _ _ rfl
theorem neg_init : (Named.named κ "neg_init" 0xF149F2CA#32 : Ideal .f32) = (⊥ : EReal) :=
  IdealRules.named_const.ideal_named_scalar _ _ _ _ rfl

theorem scaled_at (q : FVec Ideal S64x256 .bf16) (d : Fin 64) (u : Fin 256) :
    scaled q (ix2 d u) = q (ix2 d u) * (((1 / 8) * (Real.log 2)⁻¹ : ℝ) : EReal) := by
  rw [← q_scale]
  pointwise [scaled]
theorem keys_at (k : FVec Ideal S1x1x256x64 .bf16) (n : Fin 256) (d : Fin 64) : keys k (ix2 n d) = k (ix4 0 0 n d) := by
  pointwise [keys]
theorem vals_at (v : FVec Ideal S1x1x80x256 .bf16) (r : Fin 80) (n : Fin 256) : vals v (ix2 r n) = v (ix4 0 0 r n) := by
  pointwise [vals]

theorem startM_at (i : Fin 8) (u : Fin 256) : startM (F := Ideal) (ix2 i u) = (⊥ : EReal) := by
  rw [← neg_init]
  pointwise [startM]
theorem startL_at (i : Fin 8) (u : Fin 256) : startL (F := Ideal) (ix2 i u) = (0 : EReal) := by pointwise [startL]
theorem startA_at (d : Fin 64) (u : Fin 256) : startA (F := Ideal) (ix2 d u) = (0 : EReal) := by pointwise [startA]

theorem sum4_at (x : FVec Ideal S8x256 .f32) (i : Fin 8) (u : Fin 256) : sum4 x (ix2 i u) = x (ix2 i u) + x (ix2 (i + 4) u) := by
  pointwise [sum4]
  rw [← KernelIdeal.Attn.rotated i 4 4 (by decide) (Nat.mod_lt _ (by decide))]; rfl
theorem sum2_at (x : FVec Ideal S8x256 .f32) (i : Fin 8) (u : Fin 256) : sum2 x (ix2 i u) = x (ix2 i u) + x (ix2 (i + 6) u) := by
  pointwise [sum2]
  rw [← KernelIdeal.Attn.rotated i 2 6 (by decide) (Nat.mod_lt _ (by decide))]; rfl
theorem sum1_at (x : FVec Ideal S8x256 .f32) (i : Fin 8) (u : Fin 256) : sum1 x (ix2 i u) = x (ix2 i u) + x (ix2 (i + 7) u) := by
  pointwise [sum1]
  rw [← KernelIdeal.Attn.rotated i 1 7 (by decide) (Nat.mod_lt _ (by decide))]; rfl

/-- The eight lanes' sum, in every lane, where only the first is not zero. -/
theorem lanes_sum (x : FVec Ideal S8x256 .f32) (i : Fin 8) (u : Fin 256) (hx : ∀ j : Fin 8, j ≠ 0 → x (ix2 j u) = (0 : EReal)) : sum1 (sum2 (sum4 x)) (ix2 i u) = x (ix2 0 u) := by
  refine (Average.rotations (fun a b : EReal => a + b) (fun i => x (ix2 i u)) (fun i => sum4 x (ix2 i u)) (fun i => sum2 (sum4 x) (ix2 i u)) (fun i => sum1 (sum2 (sum4 x)) (ix2 i u))
    (fun i => sum4_at _ i u) (fun i => sum2_at _ i u) (fun i => sum1_at _ i u) i).trans ?_
  beta_reduce
  rw [hx 1 (by decide), hx 2 (by decide), hx 3 (by decide), hx 4 (by decide), hx 5 (by decide), hx 6 (by decide), hx 7 (by decide)]
  simp only [add_zero]

theorem divided_at (a : FVec Ideal S64x256 .f32) (l : FVec Ideal S8x256 .f32) (d : Fin 64) (u : Fin 256) :
    divided a l (ix2 d u) = a (ix2 d u) * Ideal.div 1 (sum1 (sum2 (sum4 l)) (ix2 ⟨d.val % 8, by omega⟩ u)) := by
  unfold divided
  generalize sum1 (sum2 (sum4 l)) = z
  rw [← KernelIdeal.Attn.one_bits]
  pointwise

/-- A head's output at its place: the average of the memory's values under the query's scores. -/
theorem head_at (q : FVec Ideal S64x256 .bf16) (k : FVec Ideal S1x1x256x64 .bf16) (v : FVec Ideal S1x1x80x256 .bf16) (d : Fin 64) (u : Fin 256)
    (Q : Fin 64 → ℝ) (K : ℕ → Fin 64 → ℝ) (V : ℕ → ℕ → EReal) (hQ : ∀ d : Fin 64, q (ix2 d u) = (Q d : EReal)) (hK : ∀ (n : Fin 256) (d : Fin 64), k (ix4 0 0 n d) = (K (n.val % 256) d : EReal))
    (hV : ∀ (r : Fin 80) (n : Fin 256), v (ix4 0 0 r n) = rows V r.val (n.val % 256)) :
    head q k v (ix2 d u) = Average.average 256 (score Q fun n => K (n % 256)) (fun n => V d.val (n % 256)) := by
  have L := KernelIdeal.Attn.lane (fun _ => keys k) (fun _ => vals v) (scaled q) (startM (F := Ideal)) (startL (F := Ideal)) (startA (F := Ideal)) u
    (fun n => score Q (fun n => K (n % 256)) n * (Real.log 2)⁻¹) (rows fun r n => V r (n % 256))
    (fun c hc k' => by
      rw [← KernelIdeal.Attn.score_scaled]
      refine Finset.sum_congr rfl fun d _ => ?_
      rw [keys_at, hK, scaled_at, hQ, Nat.mul_add_mod])
    (fun c hc r k' => by
      rw [vals_at, hV]
      unfold rows
      beta_reduce
      rw [Nat.mul_add_mod])
    (fun i => startM_at i u) (fun i => startL_at i u) (fun d => startA_at d u) 1 (by decide)
  rcases L with ⟨h0, -⟩ | ⟨M, -, hr⟩
  · exact absurd h0 (by norm_num)
  set s := scores (keys k) (scaled q)
  have hA : aNew s (vals v) startM startA (ix2 d u) = Average.weighted (fun n => score Q (fun n => K (n % 256)) n * (Real.log 2)⁻¹) (fun n => V d.val (n % 256)) M 256 := by
    have := hr d.val (by omega)
    unfold KernelIdeal.Attn.rowOf at this
    rw [dif_pos d.isLt] at this
    refine this.trans ?_
    have e : rows (fun r n => V r (n % 256)) d.val = fun n => V d.val (n % 256) := funext fun n => if_pos d.isLt
    rw [e]
  have hL : ∀ i : Fin 8, lNew s (vals v) startM startL (ix2 i u) = Average.weighted (fun n => score Q (fun n => K (n % 256)) n * (Real.log 2)⁻¹) (rows (fun r n => V r (n % 256)) (64 + i.val)) M 256 := fun i => by
    have := hr (64 + i.val) (by omega)
    unfold KernelIdeal.Attn.rowOf at this
    rw [dif_neg (by omega), dif_pos (by omega)] at this
    have e : (⟨64 + i.val - 64, by omega⟩ : Fin 8) = i := Fin.ext (by show 64 + i.val - 64 = i.val; omega)
    rw [e] at this
    exact this
  have hzero : ∀ i : Fin 8, i ≠ 0 → lNew s (vals v) startM startL (ix2 i u) = (0 : EReal) := fun i hi => by
    rw [hL]
    have hi' : i.val ≠ 0 := fun e => hi (Fin.ext e)
    unfold Average.weighted
    refine Finset.sum_eq_zero fun n _ => ?_
    have e : rows (fun r n => V r (n % 256)) (64 + i.val) n = 0 := by
      unfold rows; rw [if_neg (by omega), if_neg (by omega)]
    rw [e, mul_zero]
  unfold head
  rw [divided_at, lanes_sum _ _ _ hzero, hA, hL 0]
  refine Average.weighted_div 256 (by norm_num) (score Q fun n => K (n % 256)) _ (fun _ => rfl) _ _ M fun n => ?_
  unfold rows
  rw [if_neg (by simp), if_pos (by simp)]

theorem queriesOf_at (x : FVec Ideal S256x1024 .bf16) (h u : Fin 4) (d : Fin 64) (c : Fin 256) :
    (View.ld (Val := Elt Ideal) (e' := .bf16) x (queriesOf h u) : FVec Ideal S64x256 .bf16) (ix2 d c) = x (ix2 ⟨64 * h.val + d.val, by omega⟩ ⟨256 * u.val + c.val, by omega⟩) := by
  refine congrArg x (funext fun a => Fin.ext ?_)
  match a with
  | 0 => simp
  | 1 => simp
theorem keysOf_at (x : FVec Ideal S1x4x256x64 .bf16) (h : Fin 4) (n : Fin 256) (d : Fin 64) :
    (View.ld (Val := Elt Ideal) (e' := .bf16) x (keysOf h) : FVec Ideal S1x1x256x64 .bf16) (ix4 0 0 n d) = x (ix4 0 h n d) := by
  refine congrArg x (funext fun a => Fin.ext ?_)
  match a with
  | 0 => simp
  | 1 => simp
  | 2 => simp
  | 3 => simp
theorem valsOf_at (x : FVec Ideal S1x4x80x256 .bf16) (h : Fin 4) (r : Fin 80) (n : Fin 256) :
    (View.ld (Val := Elt Ideal) (e' := .bf16) x (valsOf h) : FVec Ideal S1x1x80x256 .bf16) (ix4 0 0 r n) = x (ix4 0 h r n) := by
  refine congrArg x (funext fun a => Fin.ext ?_)
  match a with
  | 0 => simp
  | 1 => simp
  | 2 => simp
  | 3 => simp
theorem rowsOf_at (x : FVec Ideal S1024x1024 .bf16) (k : Fin 4) (r : Fin 256) (j : Fin 768) :
    (View.ld (Val := Elt Ideal) (e' := .bf16) x (rowsOf k) : FVec Ideal S256x768 .bf16) (ix2 r j) = x (ix2 ⟨256 * k.val + r.val, by omega⟩ ⟨j.val, by omega⟩) := by
  refine congrArg x (funext fun a => Fin.ext ?_)
  match a with
  | 0 => simp
  | 1 => simp
theorem colsOf_at (x : FVec Ideal S768x1024 .bf16) (u : Fin 4) (j : Fin 768) (c : Fin 256) :
    (View.ld (Val := Elt Ideal) (e' := .bf16) x (colsOf u) : FVec Ideal S768x256 .bf16) (ix2 j c) = x (ix2 j ⟨256 * u.val + c.val, by omega⟩) := by
  refine congrArg x (funext fun a => Fin.ext ?_)
  match a with
  | 0 => simp
  | 1 => simp
theorem lastOf_at (x : FVec Ideal S1024x1024 .bf16) (d : Fin 1024) (j : Fin 256) :
    (View.ld (Val := Elt Ideal) (e' := .bf16) x r0_32 : FVec Ideal S1024x256 .bf16) (ix2 d j) = x (ix2 d ⟨768 + j.val, by omega⟩) := by
  refine congrArg x (funext fun a => Fin.ext ?_)
  match a with
  | 0 => simp
  | 1 => simp

theorem piece_at (w : FVec Ideal S256x768 .bf16) (t : FVec Ideal S768x256 .bf16) (r c : Fin 256) : piece w t (ix2 r c) = ∑ j : Fin 768, w (ix2 r j) * t (ix2 j c) := by
  pointwise [piece]
theorem last_at (w : FVec Ideal S1024x256 .bf16) (o : FVec Ideal S256x1024 .bf16) (d c : Fin 1024) : last w o (ix2 d c) = ∑ j : Fin 256, w (ix2 d j) * o (ix2 j c) := by
  pointwise [last]
theorem normed_at (x : FVec Ideal S1024x1024 .f32) (g : FVec Ideal S1024x1 .f32) (d c : Fin 1024) : normed x g (ix2 d c) = Feed.rms (fun d => x (ix2 d c)) (fun d => g (ix2 d 0)) d := by
  unfold Feed.rms Feed.scale
  pointwise [normed]

/-- A place below four times a width, as a part and a place in it. -/
theorem place (n : ℕ) (hn : 0 < n) (b : ℕ) (hb : b < 4 * n) : ∃ (k : Fin 4) (r : Fin n), b = n * k.val + r.val :=
  ⟨⟨b / n, Nat.div_lt_of_lt_mul (by rwa [Nat.mul_comm n 4])⟩, ⟨b % n, Nat.mod_lt _ hn⟩, (Nat.div_add_mod b n).symm⟩

theorem ofTokens_at (x1 : FVec Ideal S768x1024 .bf16) (x5 : FVec Ideal S1024x1024 .bf16) (d c : Fin 1024) :
    ofTokens (F := Ideal) x1 x5 (ix2 d c) = ∑ j : Fin 768, x1 (ix2 j c) * x5 (ix2 d ⟨j.val, by omega⟩) := by
  obtain ⟨k, r, hd⟩ := place 256 (by decide) d.val d.isLt
  obtain ⟨u, e, hc⟩ := place 256 (by decide) c.val c.isLt
  have hd' : 256 * k.val + r.val < 1024 := by omega
  obtain rfl : d = ⟨256 * k.val + r.val, hd'⟩ := Fin.ext hd
  have hc' : 256 * u.val + e.val < 1024 := by omega
  obtain rfl : c = ⟨256 * u.val + e.val, hc'⟩ := Fin.ext hc
  unfold ofTokens
  rw [abreast_at, stacked_at]
  unfold pieceAt
  rw [piece_at]
  refine Finset.sum_congr rfl fun j _ => ?_
  rw [rowsOf_at, colsOf_at, mul_comm]

/-- The memory's heads at their place. -/
theorem ofMemory_at (x2 : FVec Ideal S256x1024 .bf16) (x3 : FVec Ideal S1x4x256x64 .bf16) (x4 : FVec Ideal S1x4x80x256 .bf16) (j : Fin 256) (c : Fin 1024)
    (Q : Fin 64 → ℝ) (K : ℕ → Fin 64 → ℝ) (V : ℕ → ℕ → EReal) (hQ : ∀ d : Fin 64, x2 (ix2 ⟨64 * (j.val / 64) + d.val, by omega⟩ c) = (Q d : EReal))
    (hK : ∀ (n : Fin 256) (d : Fin 64), x3 (ix4 0 ⟨j.val / 64, by omega⟩ n d) = (K (n.val % 256) d : EReal))
    (hV : ∀ (r : Fin 80) (n : Fin 256), x4 (ix4 0 ⟨j.val / 64, by omega⟩ r n) = rows V r.val (n.val % 256)) :
    ofMemory (F := Ideal) x2 x3 x4 (ix2 j c) = Average.average 256 (score Q fun n => K (n % 256)) (fun n => V (j.val % 64) (n % 256)) := by
  obtain ⟨u, e, hc⟩ := place 256 (by decide) c.val c.isLt
  have hc' : 256 * u.val + e.val < 1024 := by omega
  obtain rfl : c = ⟨256 * u.val + e.val, hc'⟩ := Fin.ext hc
  have hj : j = ⟨64 * (j.val / 64) + j.val % 64, by omega⟩ := Fin.ext (by show j.val = 64 * (j.val / 64) + j.val % 64; omega)
  have hT : ofMemory (F := Ideal) x2 x3 x4 (ix2 j ⟨256 * u.val + e.val, by omega⟩) = headAt x2 x3 x4 ⟨j.val / 64, by omega⟩ u (ix2 ⟨j.val % 64, by omega⟩ e) := by
    unfold ofMemory
    refine (congrArg (fun z => tall _ (ix2 z _)) hj).trans ?_
    refine (tall_at _ ⟨j.val / 64, by omega⟩ ⟨j.val % 64, by omega⟩ _).trans ?_
    rw [wide_at]
  rw [hT]
  unfold headAt
  refine head_at _ _ _ _ _ Q K V (fun d => ?_) (fun n d => ?_) (fun r n => ?_)
  · rw [queriesOf_at, hQ]
  · rw [keysOf_at, hK]
  · rw [valsOf_at, hV]

/-- The output block at its place. -/
theorem outBlock_at (x0 : FVec Ideal S1024x1024 .f32) (x1 : FVec Ideal S768x1024 .bf16) (x2 : FVec Ideal S256x1024 .bf16) (x3 : FVec Ideal S1x4x256x64 .bf16) (x4 : FVec Ideal S1x4x80x256 .bf16)
    (x5 : FVec Ideal S1024x1024 .bf16) (x6 : FVec Ideal S1024x1 .f32) (o : Fin 256 → EReal) (d c : Fin 1024) (ho : ∀ j, ofMemory (F := Ideal) x2 x3 x4 (ix2 j c) = o j) :
    outBlock (F := Ideal) x0 x1 x2 x3 x4 x5 x6 (ix2 d c) =
      Cert.Mix.mix (fun d => x0 (ix2 d c)) (fun j => x1 (ix2 j c)) o (fun j d => x5 (ix2 d j)) (fun d => x6 (ix2 d 0)) d := by
  unfold outBlock Cert.Mix.mix
  have ep : ∀ d, (addf (ofTokens x1 x5) (last (View.ld (Val := Elt Ideal) (e' := .bf16) x5 r0_32) (ofMemory x2 x3 x4)) : FVec Ideal S1024x1024 .f32) (ix2 d c) =
      Cert.Mix.projected (fun j => x1 (ix2 j c)) o (fun j d => x5 (ix2 d j)) d := fun d => by
    refine congr (congrArg (fun a b : EReal => a + b) (ofTokens_at x1 x5 d c)) ?_
    rw [last_at]
    refine Finset.sum_congr rfl fun j _ => ?_
    rw [lastOf_at, ho, mul_comm]
  refine congrArg (fun z : EReal => x0 (ix2 d c) + z) ((normed_at _ x6 d c).trans ?_)
  simp only [ep]

end Cert.Kernel3Ideal.Mix

end
-- ==== Proof.MixResult.lean ====
/- The output projection's result array, element by element. -/
module

public import proofs.«01_k».proof.Proof.MixValue
public import proofs.«01_k».proof.Proof.Gen.Kernel3Ideal.Value
public import Idealize.ShloMosaic.Lib.StableHlo.ReadAt

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Idealize.ShloMosaic.Pipeline (Dat Cfg Window BodyObligation cellOf)
open Cert.KernelIdeal.Attn (rows)

variable (m : (ℓ : Loc nD τ sig) → Buf (Elt Ideal) ℓ)

theorem x_entry (c : Dev nD) (d : Fin 1024) (n : Fin 32768) :
    V m c main_v1 (ix2 d n) = m ((c.tc : Thread nD τ).loc main_arg0) (ix3 ⟨n.val / 16384, by omega⟩ ⟨n.val % 16384, by omega⟩ d) := by
  unfold V
  after_reads_at

theorem t_entry (c : Dev nD) (j : Fin 768) (n : Fin 32768) :
    V m c main_v4 (ix2 j n) = m ((c.tc : Thread nD τ).loc main_arg1) (ix3 ⟨n.val / 16384, by omega⟩ ⟨n.val % 16384, by omega⟩ j) := by
  unfold V
  after_reads_at

theorem q_entry (c : Dev nD) (r : Fin 256) (n : Fin 32768) : V m c main_v7 (ix2 r n) =
    m ((c.tc : Thread nD τ).loc main_arg2) (ix4 ⟨n.val / 16384, by omega⟩ ⟨n.val % 16384, by omega⟩ ⟨r.val / 64, by omega⟩ ⟨r.val % 64, by omega⟩) := by
  unfold V
  after_reads_at

theorem k_entry (c : Dev nD) (b : Fin 2) (h : Fin 4) (n : Fin 256) (d : Fin 64) :
    V m c main_v9 (ix4 b h n d) = m ((c.tc : Thread nD τ).loc main_arg3) (ix4 b n h d) := by
  unfold V
  after_reads_at

theorem v_entry (c : Dev nD) (b : Fin 2) (h : Fin 4) (r : Fin 80) (n : Fin 256) (hr : r.val < 64) :
    V m c main_v17 (ix4 b h r n) = m ((c.tc : Thread nD τ).loc main_arg4) (ix4 b n h ⟨r.val, hr⟩) := by
  unfold V
  after_reads_at
  rw [dif_pos hr]

theorem ones_entry (c : Dev nD) (b : Fin 2) (h : Fin 4) (r : Fin 80) (n : Fin 256) (hr : ¬ r.val < 64) :
    V m c main_v17 (ix4 b h r n) = (if r.val = 64 then (1 : EReal) else (0 : EReal) : EReal) := by
  unfold V
  after_reads_at
  rw [dif_neg hr]
  by_cases e : r.val = 64
  · rw [if_pos e, show r.val - 64 = 0 by omega]; rfl
  · rw [if_neg e]
    have hne : (BitVec.ofNat 32 (r.val - 64) == 0#32) = false := by
      rw [beq_eq_false_iff_ne]
      intro hc
      have := congrArg BitVec.toNat hc
      simp at this
      omega
    simp only [Scalar.select, IntOp.cmpi, hne]
    rfl

theorem w_entry (c : Dev nD) (d j : Fin 1024) : V m c main_v19 (ix2 d j) = m ((c.tc : Thread nD τ).loc main_arg5) (ix2 j d) := by
  unfold V
  after_reads_at

theorem g_entry (c : Dev nD) (d : Fin 1024) : V m c main_v20 (ix2 d 0) = m ((c.tc : Thread nD τ).loc main_arg6) (ix1 d) := by
  unfold V
  after_reads_at

theorem columns : ∀ t : Fin cfg0.N, (cc0_transform_0 (grid0.coords t) 0 = 0 ∧ cc0_transform_0 (grid0.coords t) 1 = t.val)
    ∧ (cc0_transform_1 (grid0.coords t) 0 = 0 ∧ cc0_transform_1 (grid0.coords t) 1 = t.val)
    ∧ (cc0_transform_2 (grid0.coords t) 0 = 0 ∧ cc0_transform_2 (grid0.coords t) 1 = t.val)
    ∧ (cc0_transform_7 (grid0.coords t) 0 = 0 ∧ cc0_transform_7 (grid0.coords t) 1 = t.val) := by
  decide +kernel

theorem sequences : ∀ t : Fin cfg0.N, (cc0_transform_3 (grid0.coords t) 0 = t.val / 16 ∧ cc0_transform_3 (grid0.coords t) 1 = 0 ∧ cc0_transform_3 (grid0.coords t) 2 = 0 ∧ cc0_transform_3 (grid0.coords t) 3 = 0)
    ∧ (cc0_transform_4 (grid0.coords t) 0 = t.val / 16 ∧ cc0_transform_4 (grid0.coords t) 1 = 0 ∧ cc0_transform_4 (grid0.coords t) 2 = 0 ∧ cc0_transform_4 (grid0.coords t) 3 = 0) := by
  decide +kernel

theorem x_block (c : Dev nD) (t : Fin cfg0.N) (ht : t.val < 32) (d u : Fin 1024) : iblk m c 0 t (ix2 d u) = V m c main_v1 (ix2 d ⟨1024 * t.val + u.val, by omega⟩) := by
  show V m c main_v1 (((cfg0.win 0).blk t).view.emb (ix2 d u)) = _
  refine congrArg _ (funext fun x => Fin.ext ?_)
  match x with
  | 0 =>
    blk_simp
    show cc0_transform_0 (grid0.coords t) 0 * 1024 + d.val = d.val
    rw [(columns t).1.1]; omega
  | 1 =>
    blk_simp
    show cc0_transform_0 (grid0.coords t) 1 * 1024 + u.val = 1024 * t.val + u.val
    rw [(columns t).1.2]; omega

theorem t_block (c : Dev nD) (t : Fin cfg0.N) (ht : t.val < 32) (j : Fin 768) (u : Fin 1024) : iblk m c 1 t (ix2 j u) = V m c main_v4 (ix2 j ⟨1024 * t.val + u.val, by omega⟩) := by
  show V m c main_v4 (((cfg0.win 1).blk t).view.emb (ix2 j u)) = _
  refine congrArg _ (funext fun x => Fin.ext ?_)
  match x with
  | 0 =>
    blk_simp
    show cc0_transform_1 (grid0.coords t) 0 * 768 + j.val = j.val
    rw [(columns t).2.1.1]; omega
  | 1 =>
    blk_simp
    show cc0_transform_1 (grid0.coords t) 1 * 1024 + u.val = 1024 * t.val + u.val
    rw [(columns t).2.1.2]; omega

theorem q_block (c : Dev nD) (t : Fin cfg0.N) (ht : t.val < 32) (r : Fin 256) (u : Fin 1024) : iblk m c 2 t (ix2 r u) = V m c main_v7 (ix2 r ⟨1024 * t.val + u.val, by omega⟩) := by
  show V m c main_v7 (((cfg0.win 2).blk t).view.emb (ix2 r u)) = _
  refine congrArg _ (funext fun x => Fin.ext ?_)
  match x with
  | 0 =>
    blk_simp
    show cc0_transform_2 (grid0.coords t) 0 * 256 + r.val = r.val
    rw [(columns t).2.2.1.1]; omega
  | 1 =>
    blk_simp
    show cc0_transform_2 (grid0.coords t) 1 * 1024 + u.val = 1024 * t.val + u.val
    rw [(columns t).2.2.1.2]; omega

theorem k_block (c : Dev nD) (t : Fin cfg0.N) (ht : t.val < 32) (h : Fin 4) (n : Fin 256) (d : Fin 64) : iblk m c 3 t (ix4 0 h n d) = V m c main_v9 (ix4 ⟨t.val / 16, by omega⟩ h n d) := by
  show V m c main_v9 (((cfg0.win 3).blk t).view.emb (ix4 0 h n d)) = _
  refine congrArg _ (funext fun x => Fin.ext ?_)
  match x with
  | 0 =>
    blk_simp
    show cc0_transform_3 (grid0.coords t) 0 + 0 = t.val / 16
    rw [(sequences t).1.1, Nat.add_zero]
  | 1 =>
    blk_simp
    show cc0_transform_3 (grid0.coords t) 1 * 4 + h.val = h.val
    rw [(sequences t).1.2.1]; omega
  | 2 =>
    blk_simp
    show cc0_transform_3 (grid0.coords t) 2 * 256 + n.val = n.val
    rw [(sequences t).1.2.2.1]; omega
  | 3 =>
    blk_simp
    show cc0_transform_3 (grid0.coords t) 3 * 64 + d.val = d.val
    rw [(sequences t).1.2.2.2]; omega

theorem v_block (c : Dev nD) (t : Fin cfg0.N) (ht : t.val < 32) (h : Fin 4) (r : Fin 80) (n : Fin 256) : iblk m c 4 t (ix4 0 h r n) = V m c main_v17 (ix4 ⟨t.val / 16, by omega⟩ h r n) := by
  show V m c main_v17 (((cfg0.win 4).blk t).view.emb (ix4 0 h r n)) = _
  refine congrArg _ (funext fun x => Fin.ext ?_)
  match x with
  | 0 =>
    blk_simp
    show cc0_transform_4 (grid0.coords t) 0 + 0 = t.val / 16
    rw [(sequences t).2.1, Nat.add_zero]
  | 1 =>
    blk_simp
    show cc0_transform_4 (grid0.coords t) 1 * 4 + h.val = h.val
    rw [(sequences t).2.2.1]; omega
  | 2 =>
    blk_simp
    show cc0_transform_4 (grid0.coords t) 2 * 80 + r.val = r.val
    rw [(sequences t).2.2.2.1]; omega
  | 3 =>
    blk_simp
    show cc0_transform_4 (grid0.coords t) 3 * 256 + n.val = n.val
    rw [(sequences t).2.2.2.2]; omega

theorem w_block (c : Dev nD) (t : Fin cfg0.N) (d j : Fin 1024) : iblk m c 5 t (ix2 d j) = V m c main_v19 (ix2 d j) := by
  show V m c main_v19 (((cfg0.win 5).blk t).view.emb (ix2 d j)) = _
  refine congrArg _ (funext fun x => Fin.ext ?_)
  match x with
  | 0 =>
    blk_simp
    show 0 * 1024 + d.val = d.val
    omega
  | 1 =>
    blk_simp
    show 0 * 1024 + j.val = j.val
    omega

theorem g_block (c : Dev nD) (t : Fin cfg0.N) (d : Fin 1024) : iblk m c 6 t (ix2 d 0) = V m c main_v20 (ix2 d 0) := by
  show V m c main_v20 (((cfg0.win 6).blk t).view.emb (ix2 d 0)) = _
  refine congrArg _ (funext fun x => Fin.ext ?_)
  match x with
  | 0 =>
    blk_simp
    show 0 * 1024 + d.val = d.val
    omega
  | 1 =>
    blk_simp
    rfl

/-- Token `n`'s row after the projection, from the arguments. -/
def result (c : Dev nD) (d : Fin 1024) (n : Fin 32768) : EReal :=
  Cert.Mix.mix (fun d => m ((c.tc : Thread nD τ).loc main_arg0) (ix3 ⟨n.val / 16384, by omega⟩ ⟨n.val % 16384, by omega⟩ d))
    (fun j => m ((c.tc : Thread nD τ).loc main_arg1) (ix3 ⟨n.val / 16384, by omega⟩ ⟨n.val % 16384, by omega⟩ j))
    (Cert.Mix.recall (m ((c.tc : Thread nD τ).loc main_arg2)) (m ((c.tc : Thread nD τ).loc main_arg3)) (m ((c.tc : Thread nD τ).loc main_arg4)) n)
    (fun j d => m ((c.tc : Thread nD τ).loc main_arg5) (ix2 j d)) (fun d => m ((c.tc : Thread nD τ).loc main_arg6) (ix1 d)) d

theorem real_eq (z : EReal) (h : ∃ x : ℝ, z = (x : EReal)) : z = (z.toReal : EReal) := by
  obtain ⟨x, rfl⟩ := h
  rfl

/-- The memory's heads of a token, as the kernel has them, are the average of the memory's values. -/
theorem memory_at (c : Dev nD) (hq : ∀ i, ∃ x : ℝ, m ((c.tc : Thread nD τ).loc main_arg2) i = (x : EReal)) (hk : ∀ i, ∃ x : ℝ, m ((c.tc : Thread nD τ).loc main_arg3) i = (x : EReal))
    (t : Fin cfg0.N) (ht : t.val < 32) (j : Fin 256) (u : Fin 1024) (n : Fin 32768) (hn : n.val = 1024 * t.val + u.val) :
    ofMemory (F := Ideal) (iblk m c 2 t) (iblk m c 3 t) (iblk m c 4 t) (ix2 j u) =
      Cert.Mix.recall (m ((c.tc : Thread nD τ).loc main_arg2)) (m ((c.tc : Thread nD τ).loc main_arg3)) (m ((c.tc : Thread nD τ).loc main_arg4)) n j := by
  have hb : 1024 * t.val + u.val < 32768 := by omega
  have hn' : (⟨1024 * t.val + u.val, hb⟩ : Fin 32768) = n := Fin.ext hn.symm
  have hs : (⟨t.val / 16, by omega⟩ : Fin 2) = ⟨n.val / 16384, by omega⟩ := Fin.ext (by show t.val / 16 = n.val / 16384; omega)
  refine ofMemory_at (iblk m c 2 t) (iblk m c 3 t) (iblk m c 4 t) j u
    (fun d => (m ((c.tc : Thread nD τ).loc main_arg2) (ix4 ⟨n.val / 16384, by omega⟩ ⟨n.val % 16384, by omega⟩ ⟨j.val / 64, by omega⟩ d) : EReal).toReal)
    (fun i d => (m ((c.tc : Thread nD τ).loc main_arg3) (ix4 ⟨n.val / 16384, by omega⟩ ⟨i % 256, Nat.mod_lt _ (by decide)⟩ ⟨j.val / 64, by omega⟩ d) : EReal).toReal)
    (fun r i => m ((c.tc : Thread nD τ).loc main_arg4) (ix4 ⟨n.val / 16384, by omega⟩ ⟨i % 256, Nat.mod_lt _ (by decide)⟩ ⟨j.val / 64, by omega⟩ ⟨r % 64, Nat.mod_lt _ (by decide)⟩))
    (fun d => ?_) (fun i d => ?_) (fun r i => ?_) |>.trans ?_
  · rw [q_block m c t ht, q_entry, hn', ← real_eq _ (hq _)]
    have e1 : (⟨(64 * (j.val / 64) + d.val) / 64, by omega⟩ : Fin 4) = ⟨j.val / 64, by omega⟩ := Fin.ext (by show (64 * (j.val / 64) + d.val) / 64 = j.val / 64; omega)
    have e2 : (⟨(64 * (j.val / 64) + d.val) % 64, by omega⟩ : Fin 64) = d := Fin.ext (by show (64 * (j.val / 64) + d.val) % 64 = d.val; omega)
    simp only [e1, e2]
  · rw [k_block m c t ht, k_entry, hs, ← real_eq _ (hk _)]
    have e : (⟨i.val % 256 % 256, Nat.mod_lt _ (by decide)⟩ : Fin 256) = i := Fin.ext (by show i.val % 256 % 256 = i.val; omega)
    rw [e]
  · rw [v_block m c t ht, hs]
    have e : (⟨i.val % 256 % 256, Nat.mod_lt _ (by decide)⟩ : Fin 256) = i := Fin.ext (by show i.val % 256 % 256 = i.val; omega)
    unfold rows
    beta_reduce
    rw [e]
    by_cases hr : r.val < 64
    · rw [v_entry m c _ _ _ _ hr, if_pos hr]
      have e : (⟨r.val % 64, Nat.mod_lt _ (by decide)⟩ : Fin 64) = ⟨r.val, hr⟩ := Fin.ext (Nat.mod_eq_of_lt hr)
      rw [e]
    · rw [ones_entry m c _ _ _ _ hr, if_neg hr]
  · unfold Cert.Mix.recall
    simp only [Nat.mod_mod]

/-- An element of a point's output block is its token's. -/
theorem out_at (c : Dev nD) (hq : ∀ i, ∃ x : ℝ, m ((c.tc : Thread nD τ).loc main_arg2) i = (x : EReal)) (hk : ∀ i, ∃ x : ℝ, m ((c.tc : Thread nD τ).loc main_arg3) i = (x : EReal))
    (t : Fin cfg0.N) (ht : t.val < 32) (d u e : Fin 1024) (n : Fin 32768) (he : e.val = d.val) (hn : n.val = 1024 * t.val + u.val) :
    out0_7 (iblk m c 0 t) (iblk m c 1 t) (iblk m c 2 t) (iblk m c 3 t) (iblk m c 4 t) (iblk m c 5 t) (iblk m c 6 t) (ix2 d u) = result m c e n := by
  obtain rfl : e = d := Fin.ext he
  rw [out_eq]
  refine (outBlock_at (iblk m c 0 t) (iblk m c 1 t) (iblk m c 2 t) (iblk m c 3 t) (iblk m c 4 t) (iblk m c 5 t) (iblk m c 6 t) _ e u fun j => memory_at m c hq hk t ht j u n hn).trans ?_
  have hb : 1024 * t.val + u.val < 32768 := by omega
  have hn' : (⟨1024 * t.val + u.val, hb⟩ : Fin 32768) = n := Fin.ext hn.symm
  subst hn'
  have ex : (fun d => iblk m c 0 t (ix2 d u)) = _ := funext fun d => (x_block m c t ht d u).trans (x_entry m c d _)
  have et : (fun j => iblk m c 1 t (ix2 j u)) = _ := funext fun j => (t_block m c t ht j u).trans (t_entry m c j _)
  have ew : (fun (j d : Fin 1024) => iblk m c 5 t (ix2 d j)) = _ := funext fun j => funext fun d => (w_block m c t d j).trans (w_entry m c d j)
  have eg : (fun d => iblk m c 6 t (ix2 d 0)) = _ := funext fun d => (g_block m c t d).trans (g_entry m c d)
  rw [ex, et, ew, eg]
  rfl

/-- The kernel's result array is the output projection's, where the memory's queries and keys are real. -/
theorem result_eq (c : Dev nD) (hq : ∀ i, ∃ x : ℝ, m ((c.tc : Thread nD τ).loc main_arg2) i = (x : EReal)) (hk : ∀ i, ∃ x : ℝ, m ((c.tc : Thread nD τ).loc main_arg3) i = (x : EReal)) :
    (dats m 0 c).arrAt 7 cfg0.N = fun i => result m c (i 0) (i 1) := by
  refine (dats m 0 c).arrAt_eq_of_covers 7 _ (by decide +kernel) fun t hf y => ?_
  have ht : t.val < 32 := Nat.lt_of_lt_of_eq t.isLt N_0
  blk_simp
  rw [after0_7]
  idx_vars y
  refine out_at m c hq hk t ht _ _ _ _ ?_ ?_
  · blk_simp
    show cc0_transform_7 (grid0.coords t) 0 * 1024 + y0.val = y0.val
    rw [(columns t).2.2.2.1]; omega
  · blk_simp
    show cc0_transform_7 (grid0.coords t) 1 * 1024 + y1.val = 1024 * t.val + y1.val
    rw [(columns t).2.2.2.2]; omega

end Cert.Kernel3Ideal.Mix

end
-- ==== Proof.MixReference.lean ====
/- The reference's result in the extended reals: the output projection of the token mixer's heads and the memory's, element by element. -/
module

public import proofs.«01_k».proof.Proof.Mix
public import proofs.«01_k».proof.Proof.Softmax
public import proofs.«01_k».proof.Proof.Gen.Reference3Ideal.Read

@[expose] public section

set_option maxRecDepth 16384

noncomputable section

namespace Cert.Reference3Ideal.Mix

open Cert.Reference3Ideal Cert.Reference3Ideal.Gen Cert.Reference3Ideal.Read
open Idealize.ShloMosaic Idealize.ShloMosaic.Tactic
open Cert.Average (score)
open Cert.ReferenceIdeal.Softmax (scale_bits minus_infinity reduce_max_real)

variable (x : FVec Ideal S2x16384x1024 .f32) (t : FVec Ideal S2x16384x768 .f32) (q : FVec Ideal S2x16384x4x64 .f32) (k v : FVec Ideal S2x256x4x64 .f32)
  (w : FVec Ideal S1024x1024 .f32) (g : FVec Ideal S1024 .f32)

/-- A score, scaled. -/
theorem scores_at (b : Fin 2) (h : Fin 4) (i : Fin 16384) (j : Fin 256) :
    val_main_v2 (F := Ideal) q k (ix4 b h i j) = (∑ d : Fin 64, q (ix4 b i h d) * k (ix4 b j h d)) * ((1 / 8 : ℝ) : EReal) := by
  rw [← scale_bits]
  pointwise [val_main_v2, val_main_v1, val_main_v0, val_main_cst]

/-- What is subtracted from a row of scores: their maximum, or minus infinity. -/
theorem top_at (b : Fin 2) (h : Fin 4) (i : Fin 16384) (j : Fin 256) :
    val_main_v7 (F := Ideal) q k (ix4 b h i j) = max ⊥ (val_main_v3 (F := Ideal) q k (ix3 b h i)) := by
  have e : idx_main_v6 (idx_main_v7 (ix4 b h i j)) = ix3 b h i := funext fun a => match a with
    | ⟨0, _⟩ => rfl
    | ⟨1, _⟩ => rfl
    | ⟨2, _⟩ => rfl
  rw [val_main_v7_apply, val_main_v6_apply, val_main_v5_apply, val_main_v4_apply, val_main_cst_1_apply, e]
  generalize val_main_v3 (F := Ideal) q k (ix3 b h i) = s
  exact congrArg (fun u : EReal => max u s) minus_infinity

/-- The maximum of a row of real scores is real. -/
theorem top_real (hs : ∀ i, ∃ x : ℝ, val_main_v2 (F := Ideal) q k i = (x : EReal)) (j : S2x4x16384.Idx) : ∃ M : ℝ, val_main_v3 (F := Ideal) q k j = (M : EReal) := by
  unfold val_main_v3
  revert hs
  generalize val_main_v2 (F := Ideal) q k = s
  intro hs
  exact reduce_max_real _ (fun _ _ => rfl) s _ _ (by decide) _ j (by decide) hs fun _ => minus_infinity

theorem weights_at (b : Fin 2) (h : Fin 4) (i : Fin 16384) (j : Fin 256) :
    val_main_v13 (F := Ideal) q k (ix4 b h i j) = Ideal.div (Ideal.exp (val_main_v2 (F := Ideal) q k (ix4 b h i j) - val_main_v7 (F := Ideal) q k (ix4 b h i j)))
      (∑ j' : Fin 256, Ideal.exp (val_main_v2 (F := Ideal) q k (ix4 b h i j') - val_main_v7 (F := Ideal) q k (ix4 b h i j'))) := by
  unfold val_main_v13 val_main_v12 val_main_v11 val_main_v10 val_main_cst_2 val_main_v9 val_main_v8
  generalize val_main_v2 (F := Ideal) q k = s
  generalize val_main_v7 (F := Ideal) q k = t
  pointwise

theorem memory_at (b : Fin 2) (i : Fin 16384) (r : Fin 256) :
    val_main_v16 (F := Ideal) q k v (ix3 b i r) = ∑ j : Fin 256, v (ix4 b j ⟨r.val / 64, by omega⟩ ⟨r.val % 64, by omega⟩) * val_main_v13 (F := Ideal) q k (ix4 b ⟨r.val / 64, by omega⟩ i j) := by
  unfold val_main_v16 val_main_v15 val_main_v14
  generalize val_main_v13 (F := Ideal) q k = p
  pointwise

/-- The memory's heads are the average of the memory's values, where the queries and the keys are real. -/
theorem memory_eq (hq : ∀ i, ∃ x : ℝ, q i = (x : EReal)) (hk : ∀ i, ∃ x : ℝ, k i = (x : EReal)) (n : Fin 32768) (r : Fin 256) :
    val_main_v16 (F := Ideal) q k v (ix3 ⟨n.val / 16384, by omega⟩ ⟨n.val % 16384, by omega⟩ r) = Cert.Mix.recall q k v n r := by
  have real : ∀ z : EReal, (∃ x : ℝ, z = x) → z = (z.toReal : EReal) := fun z ⟨x, h⟩ => by rw [h]; rfl
  have hs : ∀ (b : Fin 2) (h : Fin 4) (i : Fin 16384) (j : Fin 256), val_main_v2 (F := Ideal) q k (ix4 b h i j) =
      ((score (fun d => (q (ix4 b i h d) : EReal).toReal) (fun j d => (k (ix4 b ⟨j % 256, Nat.mod_lt _ (by decide)⟩ h d) : EReal).toReal) j.val : ℝ) : EReal) := fun b h i j => by
    rw [scores_at]
    unfold score
    rw [EReal.coe_mul, Average.coe_sum]
    congr 1
    refine Finset.sum_congr rfl fun d _ => ?_
    have e : (⟨j.val % 256, Nat.mod_lt _ (by decide)⟩ : Fin 256) = j := Fin.ext (Nat.mod_eq_of_lt j.isLt)
    beta_reduce
    rw [e, EReal.coe_mul, ← real _ (hq _), ← real _ (hk _)]
  have hs' : ∀ i, ∃ x : ℝ, val_main_v2 (F := Ideal) q k i = (x : EReal) := fun i => by
    idx_vars i
    exact ⟨_, hs _ _ _ _⟩
  have hM : ∀ (b : Fin 2) (h : Fin 4) (i : Fin 16384), ∃ M : ℝ, ∀ j, val_main_v7 (F := Ideal) q k (ix4 b h i j) = (M : EReal) := fun b h i => by
    obtain ⟨M, e⟩ := top_real q k hs' (ix3 b h i)
    refine ⟨M, fun j => ?_⟩
    rw [top_at]
    exact (max_eq_right bot_le).trans e
  rw [memory_at]
  obtain ⟨M, hM⟩ := hM ⟨n.val / 16384, by omega⟩ ⟨r.val / 64, by omega⟩ ⟨n.val % 16384, by omega⟩
  simp only [weights_at, hM, hs]
  unfold Cert.Mix.recall
  rw [← Average.softmax_sum 256 (by decide) _ _ M, Finset.sum_range]
  refine Finset.sum_congr rfl fun j _ => ?_
  rw [Finset.sum_range, mul_comm]
  have e : (⟨j.val % 256, Nat.mod_lt _ (by decide)⟩ : Fin 256) = j := Fin.ext (Nat.mod_eq_of_lt j.isLt)
  beta_reduce
  rw [e]

/-- The heads, the token mixer's and then the memory's. -/
theorem token_at (b : Fin 2) (i : Fin 16384) (j : Fin 768) : val_main_v17 (F := Ideal) t q k v (ix3 b i ⟨j.val, by omega⟩) = t (ix3 b i j) := by
  unfold val_main_v17
  generalize val_main_v16 (F := Ideal) q k v = o
  pointwise
theorem recalled_at (b : Fin 2) (i : Fin 16384) (j : Fin 256) : val_main_v17 (F := Ideal) t q k v (ix3 b i ⟨768 + j.val, by omega⟩) = val_main_v16 (F := Ideal) q k v (ix3 b i j) := by
  unfold val_main_v17
  generalize val_main_v16 (F := Ideal) q k v = o
  pointwise

theorem projected_at (hq : ∀ i, ∃ x : ℝ, q i = (x : EReal)) (hk : ∀ i, ∃ x : ℝ, k i = (x : EReal)) (n : Fin 32768) (d : Fin 1024) :
    val_main_v18 (F := Ideal) t q k v w (ix3 ⟨n.val / 16384, by omega⟩ ⟨n.val % 16384, by omega⟩ d) =
      Cert.Mix.projected (fun j => t (ix3 ⟨n.val / 16384, by omega⟩ ⟨n.val % 16384, by omega⟩ j)) (Cert.Mix.recall q k v n) (fun j d => w (ix2 j d)) d := by
  have e : val_main_v18 (F := Ideal) t q k v w (ix3 ⟨n.val / 16384, by omega⟩ ⟨n.val % 16384, by omega⟩ d) =
      ∑ j : Fin 1024, val_main_v17 (F := Ideal) t q k v (ix3 ⟨n.val / 16384, by omega⟩ ⟨n.val % 16384, by omega⟩ j) * w (ix2 j d) := by
    unfold val_main_v18
    generalize val_main_v17 (F := Ideal) t q k v = o
    pointwise
  rw [e, Cert.Mix.sum_heads]
  unfold Cert.Mix.projected
  simp only [token_at, recalled_at, memory_eq q k v hq hk]

/-- The reference's result is the output projection's, where the memory's queries and keys are real. -/
theorem result_at (hq : ∀ i, ∃ x : ℝ, q i = (x : EReal)) (hk : ∀ i, ∃ x : ℝ, k i = (x : EReal)) (d : Fin 1024) (n : Fin 32768) :
    val_main_v34 (F := Ideal) x t q k v w g (ix2 d n) =
      Cert.Mix.mix (fun d => x (ix3 ⟨n.val / 16384, by omega⟩ ⟨n.val % 16384, by omega⟩ d)) (fun j => t (ix3 ⟨n.val / 16384, by omega⟩ ⟨n.val % 16384, by omega⟩ j))
        (Cert.Mix.recall q k v n) (fun j d => w (ix2 j d)) (fun d => g (ix1 d)) d := by
  unfold Cert.Mix.mix Feed.rms Feed.scale
  simp only [← projected_at t q k v w hq hk]
  unfold val_main_v34 val_main_v33 val_main_v32 val_main_v31 val_main_v30 val_main_v29 val_main_v28 val_main_v27 val_main_v26 val_main_v25 val_main_v24 val_main_v23 val_main_v22 val_main_v21
    val_main_v20 val_main_v19 val_main_cst_3 val_main_cst_4 val_main_cst_5
  generalize val_main_v18 (F := Ideal) t q k v w = p
  pointwise

end Cert.Reference3Ideal.Mix

end
-- ==== Proof.MixFinite.lean ====
/- What the precondition says: the memory's queries and keys are real numbers. -/
module

public import proofs.«01_k».proof.Proof.Finite
public import proofs.«01_k».proof.Pre_memory_finite
public import proofs.«01_k».proof.Proof.Gen.Pre_memory_finite

@[expose] public section

set_option maxRecDepth 16384

noncomputable section

namespace Cert.Pre_memory_finite

open Idealize.ShloMosaic Idealize.ShloMosaic.Tactic Facts
open Cert.Pre_qk_finite (infinity_bits real_of_under)

variable [Facts] (x : FVec Ideal S2x16384x1024 .f32) (t : FVec Ideal S2x16384x768 .f32) (q : FVec Ideal S2x16384x4x64 .f32) (k v : FVec Ideal S2x256x4x64 .f32)
  (w : FVec Ideal S1024x1024 .f32) (g : FVec Ideal S1024 .f32)

theorem first_at (b : Fin 2) (i : Fin 16384) (h : Fin 4) (d : Fin 64) :
    fn (F := Ideal) x t q k v w g (ix4 b ⟨i.val, by omega⟩ h d) = Ideal.cmp .olt (FloatOps.hostAbsf (F := Ideal) (φ := .f32) (q (ix4 b i h d)) : EReal) ⊤ := by
  rw [← infinity_bits]
  unfold fn
  pointwise

theorem second_at (b : Fin 2) (i : Fin 256) (h : Fin 4) (d : Fin 64) :
    fn (F := Ideal) x t q k v w g (ix4 b ⟨i.val + 16384, by omega⟩ h d) = Ideal.cmp .olt (FloatOps.hostAbsf (F := Ideal) (φ := .f32) (k (ix4 b i h d)) : EReal) ⊤ := by
  rw [← infinity_bits]
  unfold fn
  pointwise
  have e : (⟨i.val + 16384 - 16384, by omega⟩ : Fin 256) = i := Fin.ext (by show i.val + 16384 - 16384 = i.val; omega)
  rw [dif_neg (by omega), e]

theorem queries_real (h : fn (F := Ideal) x t q k v w g = fun _ => 1#1) (i : S2x16384x4x64.Idx) : ∃ r : ℝ, q i = (r : EReal) := by
  idx_vars i
  exact real_of_under _ ((first_at x t q k v w g _ _ _ _).symm.trans (congrFun h _))

theorem keys_real (h : fn (F := Ideal) x t q k v w g = fun _ => 1#1) (i : S2x256x4x64.Idx) : ∃ r : ℝ, k i = (r : EReal) := by
  idx_vars i
  exact real_of_under _ ((second_at x t q k v w g _ _ _ _).symm.trans (congrFun h _))

end Cert.Pre_memory_finite

end
-- ==== Proof.Project.lean ====
/- The layer's input projection of one token, in the extended reals: normalise, project, turn a head by its position's angles. -/
module

public import proofs.«01_k».proof.Proof.Feed

@[expose] public section

noncomputable section

namespace Cert.Project

open Idealize.ShloMosaic
open Cert.Feed (rms)

/-- A row normalised and projected. -/
def project (x g : Fin 1024 → EReal) (w : Fin 1024 → Fin 1408 → EReal) (r : Fin 1408) : EReal := ∑ d, rms x g d * w d r

/-- A head whose first sixteen places are turned, place `j` with place `8 + j`, by the angles of cosines `c` and sines `s`. -/
def turn (x : Fin 64 → EReal) (c s : Fin 8 → EReal) (d : Fin 64) : EReal :=
  if h : d.val < 8 then x d * c ⟨d.val, h⟩ - x ⟨8 + d.val, by omega⟩ * s ⟨d.val, h⟩
  else if h' : d.val - 8 < 8 then x d * c ⟨d.val - 8, h'⟩ + x ⟨d.val - 8, by omega⟩ * s ⟨d.val - 8, h'⟩
  else x d

/-- The angle by which a token turns, at place `j` of a head: its position times a rate that falls with `j`. -/
def angle (s : Fin 16384) (j : Fin 8) : EReal :=
  Ideal.pow (Ideal.ofBits .f32 0x48F42400#32)
      (-Ideal.div (Ideal.ofBits .f32 0x40000000#32 * FloatOps.sitofp (F := Ideal) .f32 (BitVec.ofNat 32 j.val)) (Ideal.ofBits .f32 0x41800000#32)) *
    FloatOps.sitofp (F := Ideal) .f32 (BitVec.ofNat 32 s.val)

/-- A head turned by its token's position. -/
def rotate (x : Fin 64 → EReal) (s : Fin 16384) : Fin 64 → EReal := turn x (fun j => Ideal.cos (angle s j)) (fun j => Ideal.sin (angle s j))

/-- The rows that follow a head's values: a row of ones, then zeros. -/
def unitRow (j : ℕ) : EReal := if j = 0 then 1 else 0

/-- The scale of the scores, over the logarithm of two. -/
def unitScale : EReal := (((1 / 8) * (Real.log 2)⁻¹ : ℝ) : EReal)

/-- A token's queries, its keys, its values with the rows that follow them, and its queries of the memory. -/
def query (x g : Fin 1024 → EReal) (w : Fin 1024 → Fin 1408 → EReal) (s : Fin 16384) (r : Fin 768) : EReal :=
  rotate (fun d => project x g w ⟨64 * (r.val / 64) + d.val, by omega⟩) s ⟨r.val % 64, by omega⟩ * unitScale
def key (x g : Fin 1024 → EReal) (w : Fin 1024 → Fin 1408 → EReal) (s : Fin 16384) (r : Fin 192) : EReal :=
  rotate (fun d => project x g w ⟨768 + 64 * (r.val / 64) + d.val, by omega⟩) s ⟨r.val % 64, by omega⟩
def value (x g : Fin 1024 → EReal) (w : Fin 1024 → Fin 1408 → EReal) (r : Fin 240) : EReal :=
  if h : r.val % 80 < 64 then project x g w ⟨960 + 64 * (r.val / 80) + r.val % 80, by omega⟩ else unitRow (r.val % 80 - 64)
def recall (x g : Fin 1024 → EReal) (w : Fin 1024 → Fin 1408 → EReal) (r : Fin 256) : EReal := project x g w ⟨1152 + r.val, by omega⟩ * unitScale

end Cert.Project

end
-- ==== Proof.ProjectBlock.lean ====
/- The input projection's body on one block of tokens, a column each: what its stores leave in the four output blocks. -/
module

public import proofs.«01_k».proof.Proof.Project
public import proofs.«01_k».proof.Proof.Gen.Kernel4Ideal.Frame
public import Idealize.ShloMosaic.Lib.Pipeline.ValueKit
public import Idealize.ShloMosaic.Lib.WholeRead

@[expose] public section

set_option maxRecDepth 16384

noncomputable section

namespace Cert.Kernel4Ideal.Project

open Cert.Kernel4Ideal Cert.Kernel4Ideal.Gen
open Idealize.ShloMosaic Idealize.ShloMosaic.TcCoe Idealize.ShloMosaic.Tactic

variable {F : FTy → Type} [FloatOps F] [Named F]

/-- Columns normalised, with a weight for each row. -/
def normed (x : FVec F S1024x512 .f32) (g : FVec F S1024x1 .f32) : FVec F S1024x512 .f32 :=
  mulf (mulf x (broadcastTo S1024x512 (rsqrt (addf (divf (shapeCast S1x512 (multiReduction .add [0] S512 (mulf x x) 0x00000000#32 reduces_S1024x512_S512 (.inl rfl) rfl) shapeCasts_S512_S1x512)
    (broadcast S1x512 (Scalar.ofBits .f32 0x44800000#32 : F .f32))) (broadcast S1x512 (Scalar.ofBits .f32 0x358637BD#32 : F .f32)))) broadcasts_S1x512_S1024x512))
    (broadcastTo S1024x512 g broadcasts_S1024x1_S1024x512)

/-- The weights' rows on the normalised columns. -/
def product (w : FVec F S1408x1024 .bf16) (x : FVec F S1024x512 .f32) (g : FVec F S1024x1 .f32) : FVec F S1408x512 .f32 :=
  matmul dot_S1408x1024_S1024x512_S1408x512_1_0_0_1_n_n none w (truncf .bf16 (normed x g) bitsLt_bf16_f32) (constant S1408x512 .f32 0x00000000#32)

theorem queries_slice : ∀ h : Fin 12, S1408x512.Slices ![64 * h.val, 0] S64x512 := by decide
theorem keys_slice : ∀ h : Fin 3, S1408x512.Slices ![768 + 64 * h.val, 0] S64x512 := by decide
theorem values_slice : ∀ h : Fin 3, S1408x512.Slices ![960 + 64 * h.val, 0] S64x512 := by decide

/-- The queries', keys' and values' rows of a head. -/
def queriesOf (p : FVec F S1408x512 .f32) (h : Fin 12) : FVec F S64x512 .f32 := extractStridedSlice S64x512 ![64 * h.val, 0] p (queries_slice h)
def keysOf (p : FVec F S1408x512 .f32) (h : Fin 3) : FVec F S64x512 .f32 := extractStridedSlice S64x512 ![768 + 64 * h.val, 0] p (keys_slice h)
def valuesOf (p : FVec F S1408x512 .f32) (h : Fin 3) : FVec F S64x512 .f32 := extractStridedSlice S64x512 ![960 + 64 * h.val, 0] p (values_slice h)

/-- A head's rows turned by the angles of cosines `c` and sines `s`. -/
def turned (x : FVec F S64x512 .f32) (c s : FVec F S8x512 .f32) : FVec F S64x512 .f32 :=
  concatenate S64x512 0
    [⟨S8x512, subf (mulf (extractStridedSlice S8x512 ![0, 0] x slices_S64x512_o0_0_S8x512) c) (mulf (extractStridedSlice S8x512 ![8, 0] x slices_S64x512_o8_0_S8x512) s)⟩,
     ⟨S8x512, addf (mulf (extractStridedSlice S8x512 ![8, 0] x slices_S64x512_o8_0_S8x512) c) (mulf (extractStridedSlice S8x512 ![0, 0] x slices_S64x512_o0_0_S8x512) s)⟩,
     ⟨S48x512, extractStridedSlice S48x512 ![16, 0] x slices_S64x512_o16_0_S48x512⟩]
    concatenates_S8x512_S8x512_S48x512_S64x512_d0

/-- The heads as they are stored: queries turned and scaled, keys turned, values, and the memory's queries scaled. -/
def query (p : FVec F S1408x512 .f32) (c s : FVec F S8x512 .f32) (h : Fin 12) : FVec F S64x512 .bf16 :=
  truncf .bf16 (mulf (turned (queriesOf p h) c s) (broadcast S64x512 (Named.named κ "q_scale" 0x3E38AA3B#32 : F .f32))) bitsLt_bf16_f32
def key (p : FVec F S1408x512 .f32) (c s : FVec F S8x512 .f32) (h : Fin 3) : FVec F S64x512 .bf16 := truncf .bf16 (turned (keysOf p h) c s) bitsLt_bf16_f32
def value (p : FVec F S1408x512 .f32) (h : Fin 3) : FVec F S64x512 .bf16 := truncf .bf16 (valuesOf p h) bitsLt_bf16_f32
def recall (p : FVec F S1408x512 .f32) : FVec F S256x512 .bf16 :=
  truncf .bf16 (mulf (extractStridedSlice S256x512 ![1152, 0] p slices_S1408x512_o1152_0_S256x512) (broadcast S256x512 (Named.named κ "q_scale" 0x3E38AA3B#32 : F .f32))) bitsLt_bf16_f32

/-- The rows under a head's values: one row of ones, fifteen of zeros. -/
def units : FVec F S16x512 .bf16 :=
  truncf .bf16 (select (cmpi .eq (iota .tc S16x512 32 [0] iota_S16x512_d0_w32) (broadcast S16x512 0#32)) (broadcast S16x512 (Scalar.ofBits .f32 0x3F800000#32 : F .f32))
    (broadcast S16x512 (Scalar.ofBits .f32 0x00000000#32 : F .f32))) bitsLt_bf16_f32

theorem queryRect_inb : ∀ (h : Fin 12) (a : Fin 2), (![64 * h.val, 0] : Fin 2 → ℕ) a + S64x512.size a ≤ S768x512.size a := by decide
theorem keyRect_inb : ∀ (h : Fin 3) (a : Fin 2), (![64 * h.val, 0] : Fin 2 → ℕ) a + S64x512.size a ≤ S192x512.size a := by decide
theorem valueRect_inb : ∀ (h : Fin 3) (a : Fin 2), (![80 * h.val, 0] : Fin 2 → ℕ) a + S64x512.size a ≤ S240x512.size a := by decide
theorem unitsRect_inb : ∀ (h : Fin 3) (a : Fin 2), (![80 * h.val + 64, 0] : Fin 2 → ℕ) a + S16x512.size a ≤ S240x512.size a := by decide
theorem recallRect_inb : ∀ (a : Fin 2), (![0, 0] : Fin 2 → ℕ) a + S256x512.size a ≤ S256x512.size a := by decide

/-- Where the heads are stored. -/
abbrev queryRect (h : Fin 12) : Rect S768x512 := Rect.unit ![64 * h.val, 0] S64x512.size (queryRect_inb h)
abbrev keyRect (h : Fin 3) : Rect S192x512 := Rect.unit ![64 * h.val, 0] S64x512.size (keyRect_inb h)
abbrev valueRect (h : Fin 3) : Rect S240x512 := Rect.unit ![80 * h.val, 0] S64x512.size (valueRect_inb h)
abbrev unitsRect (h : Fin 3) : Rect S240x512 := Rect.unit ![80 * h.val + 64, 0] S16x512.size (unitsRect_inb h)
abbrev recallRect : Rect S256x512 := Rect.unit ![0, 0] S256x512.size recallRect_inb

/-- The heads, last first: the order in which the stores are listed. -/
def heads12 : List (Fin 12) := [11, 10, 9, 8, 7, 6, 5, 4, 3, 2, 1, 0]
def heads3 : List (Fin 3) := [2, 1, 0]

theorem mem_heads12 : ∀ h : Fin 12, h ∈ heads12 := by decide
theorem mem_heads3 : ∀ h : Fin 3, h ∈ heads3 := by decide

/-- The stores of each output block. -/
def queryStores (P : Fin 12 → FVec F S64x512 .bf16) : List (View.Piece (Elt F) S768x512 .bf16) := heads12.map fun h => ⟨queryRect h, P h⟩
def keyStores (P : Fin 3 → FVec F S64x512 .bf16) : List (View.Piece (Elt F) S192x512 .bf16) := heads3.map fun h => ⟨keyRect h, P h⟩
def valueStores (P : Fin 3 → FVec F S64x512 .bf16) (Q : FVec F S16x512 .bf16) : List (View.Piece (Elt F) S240x512 .bf16) := heads3.flatMap fun h => [⟨unitsRect h, Q⟩, ⟨valueRect h, P h⟩]
def recallStores (P : FVec F S256x512 .bf16) : List (View.Piece (Elt F) S256x512 .bf16) := [⟨recallRect, P⟩]

/-- The blocks the stores leave. -/
def queryBlock {α : Type} (P : Fin 12 → S64x512.Idx → α) (y : S768x512.Idx) : α :=
  P ⟨(y 0).val / 64, by have b : (y 0).val < 768 := (y 0).isLt; omega⟩ (ix2 ⟨(y 0).val % 64, Nat.mod_lt _ (by decide)⟩ (y 1))
def keyBlock {α : Type} (P : Fin 3 → S64x512.Idx → α) (y : S192x512.Idx) : α :=
  P ⟨(y 0).val / 64, by have b : (y 0).val < 192 := (y 0).isLt; omega⟩ (ix2 ⟨(y 0).val % 64, Nat.mod_lt _ (by decide)⟩ (y 1))
def valueBlock {α : Type} (P : Fin 3 → S64x512.Idx → α) (Q : S16x512.Idx → α) (y : S240x512.Idx) : α :=
  if h : (y 0).val % 80 < 64 then P ⟨(y 0).val / 80, by have b : (y 0).val < 240 := (y 0).isLt; omega⟩ (ix2 ⟨(y 0).val % 80, h⟩ (y 1))
  else Q (ix2 ⟨(y 0).val % 80 - 64, by omega⟩ (y 1))

theorem query_idx {α : Type} (P : Fin 12 → S64x512.Idx → α) (h : Fin 12) (x : S64x512.Idx) : queryBlock P ((queryRect h).emb x) = P h x := by
  idx_vars x
  have h0 : ((queryRect h).emb (ix2 x0 x1) 0 : ℕ) = 64 * h.val + x0.val := by simp
  have h1 : ((queryRect h).emb (ix2 x0 x1) 1 : ℕ) = x1.val := by simp
  unfold queryBlock
  refine congr (congrArg P (Fin.ext ?_)) (funext fun a => Fin.ext ?_)
  · show ((queryRect h).emb (ix2 x0 x1) 0 : ℕ) / 64 = h.val
    rw [h0]; omega
  · match a with
    | 0 => show ((queryRect h).emb (ix2 x0 x1) 0 : ℕ) % 64 = x0.val; rw [h0]; omega
    | 1 => exact h1

theorem key_idx {α : Type} (P : Fin 3 → S64x512.Idx → α) (h : Fin 3) (x : S64x512.Idx) : keyBlock P ((keyRect h).emb x) = P h x := by
  idx_vars x
  have h0 : ((keyRect h).emb (ix2 x0 x1) 0 : ℕ) = 64 * h.val + x0.val := by simp
  have h1 : ((keyRect h).emb (ix2 x0 x1) 1 : ℕ) = x1.val := by simp
  unfold keyBlock
  refine congr (congrArg P (Fin.ext ?_)) (funext fun a => Fin.ext ?_)
  · show ((keyRect h).emb (ix2 x0 x1) 0 : ℕ) / 64 = h.val
    rw [h0]; omega
  · match a with
    | 0 => show ((keyRect h).emb (ix2 x0 x1) 0 : ℕ) % 64 = x0.val; rw [h0]; omega
    | 1 => exact h1

theorem value_idx {α : Type} (P : Fin 3 → S64x512.Idx → α) (Q : S16x512.Idx → α) (h : Fin 3) (x : S64x512.Idx) : valueBlock P Q ((valueRect h).emb x) = P h x := by
  idx_vars x
  have h0 : ((valueRect h).emb (ix2 x0 x1) 0 : ℕ) = 80 * h.val + x0.val := by simp
  have h1 : ((valueRect h).emb (ix2 x0 x1) 1 : ℕ) = x1.val := by simp
  unfold valueBlock
  rw [dif_pos (by rw [h0]; omega)]
  refine congr (congrArg P (Fin.ext ?_)) (funext fun a => Fin.ext ?_)
  · show ((valueRect h).emb (ix2 x0 x1) 0 : ℕ) / 80 = h.val
    rw [h0]; omega
  · match a with
    | 0 => show ((valueRect h).emb (ix2 x0 x1) 0 : ℕ) % 80 = x0.val; rw [h0]; omega
    | 1 => exact h1

theorem units_idx {α : Type} (P : Fin 3 → S64x512.Idx → α) (Q : S16x512.Idx → α) (h : Fin 3) (x : S16x512.Idx) : valueBlock P Q ((unitsRect h).emb x) = Q x := by
  idx_vars x
  have h0 : ((unitsRect h).emb (ix2 x0 x1) 0 : ℕ) = 80 * h.val + 64 + x0.val := by simp
  have h1 : ((unitsRect h).emb (ix2 x0 x1) 1 : ℕ) = x1.val := by simp
  unfold valueBlock
  rw [dif_neg (by rw [h0]; omega)]
  refine congrArg Q (funext fun a => Fin.ext ?_)
  match a with
  | 0 => show ((unitsRect h).emb (ix2 x0 x1) 0 : ℕ) % 80 - 64 = x0.val; rw [h0]; omega
  | 1 => exact h1

theorem read_queries {σ : RefSig} {b : View σ .tc .vmem S768x512 .bf16} (f : BufTy.Contents (Elt F) b.ty) (P : Fin 12 → FVec F S64x512 .bf16) (L : List (View.Piece (Elt F) S768x512 .bf16))
    (hL : L = queryStores P) (cov : ∀ y, ∃ p ∈ L, y ∈ p.1.set) : b.read (Elt F) (b.writes (Elt F) f L) = queryBlock P := by
  funext y
  refine View.read_writes_apply_of_pieces _ _ _ _ ?_ y (cov y)
  subst hL
  intro p hp x
  obtain ⟨h, -, rfl⟩ := List.mem_map.mp hp
  exact (query_idx P h x).symm

theorem read_keys {σ : RefSig} {b : View σ .tc .vmem S192x512 .bf16} (f : BufTy.Contents (Elt F) b.ty) (P : Fin 3 → FVec F S64x512 .bf16) (L : List (View.Piece (Elt F) S192x512 .bf16))
    (hL : L = keyStores P) (cov : ∀ y, ∃ p ∈ L, y ∈ p.1.set) : b.read (Elt F) (b.writes (Elt F) f L) = keyBlock P := by
  funext y
  refine View.read_writes_apply_of_pieces _ _ _ _ ?_ y (cov y)
  subst hL
  intro p hp x
  obtain ⟨h, -, rfl⟩ := List.mem_map.mp hp
  exact (key_idx P h x).symm

theorem read_values {σ : RefSig} {b : View σ .tc .vmem S240x512 .bf16} (f : BufTy.Contents (Elt F) b.ty) (P : Fin 3 → FVec F S64x512 .bf16) (Q : FVec F S16x512 .bf16)
    (L : List (View.Piece (Elt F) S240x512 .bf16)) (hL : L = valueStores P Q) (cov : ∀ y, ∃ p ∈ L, y ∈ p.1.set) : b.read (Elt F) (b.writes (Elt F) f L) = valueBlock P Q := by
  funext y
  refine View.read_writes_apply_of_pieces _ _ _ _ ?_ y (cov y)
  subst hL
  intro p hp x
  obtain ⟨h, -, hp⟩ := List.mem_flatMap.mp hp
  rcases List.mem_cons.mp hp with rfl | hp
  · exact (units_idx P Q h x).symm
  · obtain rfl := List.mem_singleton.mp hp
    exact (value_idx P Q h x).symm

theorem read_recall {σ : RefSig} {b : View σ .tc .vmem S256x512 .bf16} (f : BufTy.Contents (Elt F) b.ty) (P : FVec F S256x512 .bf16) (L : List (View.Piece (Elt F) S256x512 .bf16))
    (hL : L = recallStores P) (cov : ∀ y, ∃ p ∈ L, y ∈ p.1.set) : b.read (Elt F) (b.writes (Elt F) f L) = P := by
  funext y
  refine View.read_writes_apply_of_pieces _ _ _ _ ?_ y (cov y)
  subst hL
  intro p hp x
  obtain rfl := List.mem_singleton.mp hp
  refine congrArg P (funext fun a => Fin.ext ?_)
  match a with
  | 0 => simp
  | 1 => simp

/-- A load of a whole buffer is what the buffer holds. -/
theorem load_whole {σ : RefSig} {s : Shape} {e : EltTy} (arg : Memref σ .tc .vmem s e) (harg : arg.IsWhole) (x : Vec F s e) (o : Fin s.rank → ℕ) (ho : o = fun _ => 0) (h : ∀ a, o a + s.size a ≤ s.size a) :
    View.readAt (Elt F) arg.view (Rect.unit o s.size h).toLoadRect (harg.unread x) = x := by
  subst ho
  funext y
  rw [harg.readAt_unread]
  refine congrArg x (funext fun a => Fin.ext ?_)
  simp [LoadRect.idx]

section
variable (c : Dev nD) (i : grid0.Coords) (arg1 : Memref sig .tc .vmem S1024x512 .f32) (harg1 : arg1.IsWhole) (arg2 : Memref sig .tc .vmem S1024x1 .f32) (harg2 : arg2.IsWhole)
  (arg3 : Memref sig .tc .vmem S1408x1024 .bf16) (harg3 : arg3.IsWhole) (arg4 : Memref sig .tc .vmem S8x512 .f32) (harg4 : arg4.IsWhole) (arg5 : Memref sig .tc .vmem S8x512 .f32) (harg5 : arg5.IsWhole)
  (arg6 : Memref sig .tc .vmem S768x512 .bf16) (harg6 : arg6.IsWhole) (arg7 : Memref sig .tc .vmem S192x512 .bf16) (harg7 : arg7.IsWhole) (arg8 : Memref sig .tc .vmem S240x512 .bf16) (harg8 : arg8.IsWhole)
  (arg9 : Memref sig .tc .vmem S256x512 .bf16) (harg9 : arg9.IsWhole)
  (x0 : Vec F S1024x512 .f32) (x1 : Vec F S1024x1 .f32) (x2 : Vec F S1408x1024 .bf16) (x3 : Vec F S8x512 .f32) (x4 : Vec F S8x512 .f32)

theorem zero2 : (![0, 0] : Fin 2 → ℕ) = fun _ => 0 := by decide

theorem product_eq : k0_pay1 x0 x1 x2 = product x2 x0 x1 := by
  unfold k0_pay1 product normed
  dsimp only
  rw [shapeCast_self x0 _, shapeCast_self x1 _, shapeCast_self x2 _]

/-- What the body stores is the heads of the projection's product. -/
theorem stores_eq :
    (kernelRun0_A c i arg1 harg1 arg2 harg2 arg3 harg3 arg4 harg4 arg5 harg5 arg6 harg6 arg7 harg7 arg8 harg8 arg9 harg9 x0 x1 x2 x3 x4).1 = queryStores (query (product x2 x0 x1) x3 x4) ∧
    (kernelRun0_A c i arg1 harg1 arg2 harg2 arg3 harg3 arg4 harg4 arg5 harg5 arg6 harg6 arg7 harg7 arg8 harg8 arg9 harg9 x0 x1 x2 x3 x4).2.1 = keyStores (key (product x2 x0 x1) x3 x4) ∧
    (kernelRun0_A c i arg1 harg1 arg2 harg2 arg3 harg3 arg4 harg4 arg5 harg5 arg6 harg6 arg7 harg7 arg8 harg8 arg9 harg9 x0 x1 x2 x3 x4).2.2.1 = valueStores (value (product x2 x0 x1)) units ∧
    (kernelRun0_A c i arg1 harg1 arg2 harg2 arg3 harg3 arg4 harg4 arg5 harg5 arg6 harg6 arg7 harg7 arg8 harg8 arg9 harg9 x0 x1 x2 x3 x4).2.2.2.1 = recallStores (recall (product x2 x0 x1)) := by
  have l0 := load_whole arg1 harg1 x0 ![0, 0] zero2 (by decide)
  have l1 := load_whole arg2 harg2 x1 ![0, 0] zero2 (by decide)
  have l2 := load_whole arg3 harg3 x2 ![0, 0] zero2 (by decide)
  have l3 := load_whole arg4 harg4 x3 ![0, 0] zero2 (by decide)
  have l4 := load_whole arg5 harg5 x4 ![0, 0] zero2 (by decide)
  have p := (congr (congr (congrArg k0_pay1 l0) l1) l2).trans (product_eq x0 x1 x2)
  have c3 := (congrArg k0_pay2 l3).trans (shapeCast_self x3 _)
  have c4 := (congrArg k0_pay3 l4).trans (shapeCast_self x4 _)
  refine ⟨Eq.trans (b := queryStores (query (k0_pay1 _ _ _) (k0_pay2 _) (k0_pay3 _))) ?_ (congrArg queryStores (congr (congr (congrArg query p) c3) c4)),
    Eq.trans (b := keyStores (key (k0_pay1 _ _ _) (k0_pay2 _) (k0_pay3 _))) ?_ (congrArg keyStores (congr (congr (congrArg key p) c3) c4)),
    Eq.trans (b := valueStores (value (k0_pay1 _ _ _)) units) ?_ (congrArg (fun q => valueStores (value q) units) p),
    Eq.trans (b := recallStores (recall (k0_pay1 _ _ _))) ?_ (congrArg (fun q => recallStores (recall q)) p)⟩
  · rfl
  · rfl
  · rfl
  · rfl

/-- What a visit leaves in the four output blocks. -/
theorem queries_out : out0_A_5 c i arg1 harg1 arg2 harg2 arg3 harg3 arg4 harg4 arg5 harg5 arg6 harg6 arg7 harg7 arg8 harg8 arg9 harg9 x0 x1 x2 x3 x4 = queryBlock (query (product x2 x0 x1) x3 x4) := by
  unfold out0_A_5
  exact read_queries _ _ _ (stores_eq c i arg1 harg1 arg2 harg2 arg3 harg3 arg4 harg4 arg5 harg5 arg6 harg6 arg7 harg7 arg8 harg8 arg9 harg9 x0 x1 x2 x3 x4).1 (cover0_A_5 c i arg1 harg1 arg2 harg2 arg3 harg3 arg4 harg4 arg5 harg5 arg6 harg6 arg7 harg7 arg8 harg8 arg9 harg9 x0 x1 x2 x3 x4)

theorem keys_out : out0_A_6 c i arg1 harg1 arg2 harg2 arg3 harg3 arg4 harg4 arg5 harg5 arg6 harg6 arg7 harg7 arg8 harg8 arg9 harg9 x0 x1 x2 x3 x4 = keyBlock (key (product x2 x0 x1) x3 x4) := by
  unfold out0_A_6
  exact read_keys _ _ _ (stores_eq c i arg1 harg1 arg2 harg2 arg3 harg3 arg4 harg4 arg5 harg5 arg6 harg6 arg7 harg7 arg8 harg8 arg9 harg9 x0 x1 x2 x3 x4).2.1 (cover0_A_6 c i arg1 harg1 arg2 harg2 arg3 harg3 arg4 harg4 arg5 harg5 arg6 harg6 arg7 harg7 arg8 harg8 arg9 harg9 x0 x1 x2 x3 x4)

theorem values_out : out0_A_7 c i arg1 harg1 arg2 harg2 arg3 harg3 arg4 harg4 arg5 harg5 arg6 harg6 arg7 harg7 arg8 harg8 arg9 harg9 x0 x1 x2 x3 x4 = valueBlock (value (product x2 x0 x1)) units := by
  unfold out0_A_7
  exact read_values _ _ _ _ (stores_eq c i arg1 harg1 arg2 harg2 arg3 harg3 arg4 harg4 arg5 harg5 arg6 harg6 arg7 harg7 arg8 harg8 arg9 harg9 x0 x1 x2 x3 x4).2.2.1 (cover0_A_7 c i arg1 harg1 arg2 harg2 arg3 harg3 arg4 harg4 arg5 harg5 arg6 harg6 arg7 harg7 arg8 harg8 arg9 harg9 x0 x1 x2 x3 x4)

theorem recall_out : out0_A_8 c i arg1 harg1 arg2 harg2 arg3 harg3 arg4 harg4 arg5 harg5 arg6 harg6 arg7 harg7 arg8 harg8 arg9 harg9 x0 x1 x2 x3 x4 = recall (product x2 x0 x1) := by
  unfold out0_A_8
  exact read_recall _ _ _ (stores_eq c i arg1 harg1 arg2 harg2 arg3 harg3 arg4 harg4 arg5 harg5 arg6 harg6 arg7 harg7 arg8 harg8 arg9 harg9 x0 x1 x2 x3 x4).2.2.2 (cover0_A_8 c i arg1 harg1 arg2 harg2 arg3 harg3 arg4 harg4 arg5 harg5 arg6 harg6 arg7 harg7 arg8 harg8 arg9 harg9 x0 x1 x2 x3 x4)

end

end Cert.Kernel4Ideal.Project

end
-- ==== Proof.ProjectValue.lean ====
/- The input projection's blocks, element by element, in the extended reals. -/
module

public import proofs.«01_k».proof.Proof.ProjectBlock

@[expose] public section

set_option maxRecDepth 16384

noncomputable section

namespace Cert.Kernel4Ideal.Project

open Cert.Kernel4Ideal Cert.Kernel4Ideal.Gen
open Idealize.ShloMosaic Idealize.ShloMosaic.TcCoe Idealize.ShloMosaic.Tactic
open Cert.Feed (rms scale)
open Cert.Project (project turn angle rotate unitRow)

theorem q_scale : (Named.named κ "q_scale" 0x3E38AA3B#32 : Ideal .f32) = (((1 / 8) * (Real.log 2)⁻¹ : ℝ) : EReal) :=
  IdealRules.named_const.ideal_named_scalar _ _ _ _ rfl

theorem normed_at (x : FVec Ideal S1024x512 .f32) (g : FVec Ideal S1024x1 .f32) (d : Fin 1024) (u : Fin 512) :
    normed x g (ix2 d u) = rms (fun d => x (ix2 d u)) (fun d => g (ix2 d 0)) d := by
  unfold rms scale
  pointwise [normed]

theorem product_at (w : FVec Ideal S1408x1024 .bf16) (x : FVec Ideal S1024x512 .f32) (g : FVec Ideal S1024x1 .f32) (r : Fin 1408) (u : Fin 512) :
    product w x g (ix2 r u) = project (fun d => x (ix2 d u)) (fun d => g (ix2 d 0)) (fun d r => w (ix2 r d)) r := by
  have e : product w x g (ix2 r u) = ∑ d : Fin 1024, w (ix2 r d) * normed x g (ix2 d u) := by
    unfold product
    generalize normed x g = y
    pointwise
  rw [e]
  unfold project
  refine Finset.sum_congr rfl fun d _ => ?_
  rw [normed_at, mul_comm]

theorem queriesOf_at (p : FVec Ideal S1408x512 .f32) (h : Fin 12) (d : Fin 64) (u : Fin 512) : queriesOf p h (ix2 d u) = p (ix2 ⟨64 * h.val + d.val, by omega⟩ u) := by
  pointwise [queriesOf]

theorem keysOf_at (p : FVec Ideal S1408x512 .f32) (h : Fin 3) (d : Fin 64) (u : Fin 512) : keysOf p h (ix2 d u) = p (ix2 ⟨768 + 64 * h.val + d.val, by omega⟩ u) := by
  pointwise [keysOf]

theorem valuesOf_at (p : FVec Ideal S1408x512 .f32) (h : Fin 3) (d : Fin 64) (u : Fin 512) : valuesOf p h (ix2 d u) = p (ix2 ⟨960 + 64 * h.val + d.val, by omega⟩ u) := by
  pointwise [valuesOf]

theorem turned_at (x : FVec Ideal S64x512 .f32) (c s : FVec Ideal S8x512 .f32) (d : Fin 64) (u : Fin 512) :
    turned x c s (ix2 d u) = turn (fun d => x (ix2 d u)) (fun j => c (ix2 j u)) (fun j => s (ix2 j u)) d := by
  unfold turn
  pointwise [turned]
  by_cases h : d.val < 8
  · rw [dif_pos h, dif_pos h]
  · rw [dif_neg h, dif_neg h]
    by_cases h' : d.val - 8 < 8
    · have e : (⟨8 + (d.val - 8), by omega⟩ : Fin 64) = d := Fin.ext (by show 8 + (d.val - 8) = d.val; omega)
      rw [dif_pos h', dif_pos h', e]
    · have e : (⟨16 + (d.val - 8 - 8), by omega⟩ : Fin 64) = d := Fin.ext (by show 16 + (d.val - 8 - 8) = d.val; omega)
      rw [dif_neg h', dif_neg h', e]

theorem query_at (p : FVec Ideal S1408x512 .f32) (c s : FVec Ideal S8x512 .f32) (h : Fin 12) (d : Fin 64) (u : Fin 512) :
    query p c s h (ix2 d u) = turn (fun d => p (ix2 ⟨64 * h.val + d.val, by omega⟩ u)) (fun j => c (ix2 j u)) (fun j => s (ix2 j u)) d * (((1 / 8) * (Real.log 2)⁻¹ : ℝ) : EReal) := by
  refine (show query p c s h (ix2 d u) = turned (queriesOf p h) c s (ix2 d u) * (Named.named κ "q_scale" 0x3E38AA3B#32 : Ideal .f32) from rfl).trans ?_
  rw [turned_at, q_scale]
  simp only [queriesOf_at]

theorem key_at (p : FVec Ideal S1408x512 .f32) (c s : FVec Ideal S8x512 .f32) (h : Fin 3) (d : Fin 64) (u : Fin 512) :
    key p c s h (ix2 d u) = turn (fun d => p (ix2 ⟨768 + 64 * h.val + d.val, by omega⟩ u)) (fun j => c (ix2 j u)) (fun j => s (ix2 j u)) d := by
  refine (show key p c s h (ix2 d u) = turned (keysOf p h) c s (ix2 d u) from rfl).trans ?_
  rw [turned_at]
  simp only [keysOf_at]

theorem value_at (p : FVec Ideal S1408x512 .f32) (h : Fin 3) (d : Fin 64) (u : Fin 512) : value p h (ix2 d u) = p (ix2 ⟨960 + 64 * h.val + d.val, by omega⟩ u) :=
  (show value p h (ix2 d u) = valuesOf p h (ix2 d u) from rfl).trans (valuesOf_at p h d u)

theorem recall_at (p : FVec Ideal S1408x512 .f32) (r : Fin 256) (u : Fin 512) :
    recall p (ix2 r u) = p (ix2 ⟨1152 + r.val, by omega⟩ u) * (((1 / 8) * (Real.log 2)⁻¹ : ℝ) : EReal) := by
  rw [← q_scale]
  pointwise [recall]

theorem units_at (r : Fin 16) (u : Fin 512) : units (F := Ideal) (ix2 r u) = unitRow r.val := by
  unfold unitRow
  pointwise [units]
  by_cases e : r.val = 0
  · rw [if_pos e, e]; rfl
  · rw [if_neg e]
    have hne : (BitVec.ofNat 32 r.val == 0#32) = false := by
      rw [beq_eq_false_iff_ne]
      intro hc
      have := congrArg BitVec.toNat hc
      simp at this
      omega
    simp only [Scalar.select, IntOp.cmpi, hne]
    rfl

/-! A column of the output blocks, when the product's column is a token's projection and the tables' columns are its position's. -/

section
variable (p : FVec Ideal S1408x512 .f32) (a b : FVec Ideal S8x512 .f32) (x g : Fin 1024 → EReal) (w : Fin 1024 → Fin 1408 → EReal) (s : Fin 16384) (u : Fin 512)

theorem queryBlock_at (hp : ∀ r, p (ix2 r u) = project x g w r) (ha : ∀ j, a (ix2 j u) = Ideal.cos (angle s j)) (hb : ∀ j, b (ix2 j u) = Ideal.sin (angle s j)) (r : Fin 768) :
    queryBlock (query p a b) (ix2 r u) = Cert.Project.query x g w s r := by
  refine (query_at p a b ⟨r.val / 64, by omega⟩ ⟨r.val % 64, by omega⟩ u).trans ?_
  unfold Cert.Project.query rotate
  simp only [hp, ha, hb]
  rfl

theorem keyBlock_at (hp : ∀ r, p (ix2 r u) = project x g w r) (ha : ∀ j, a (ix2 j u) = Ideal.cos (angle s j)) (hb : ∀ j, b (ix2 j u) = Ideal.sin (angle s j)) (r : Fin 192) :
    keyBlock (key p a b) (ix2 r u) = Cert.Project.key x g w s r := by
  refine (key_at p a b ⟨r.val / 64, by omega⟩ ⟨r.val % 64, by omega⟩ u).trans ?_
  unfold Cert.Project.key rotate
  simp only [hp, ha, hb]

theorem valueBlock_at (hp : ∀ r, p (ix2 r u) = project x g w r) (r : Fin 240) : valueBlock (value p) (units (F := Ideal)) (ix2 r u) = Cert.Project.value x g w r := by
  unfold valueBlock Cert.Project.value
  by_cases h : r.val % 80 < 64
  · refine (dif_pos h).trans (Eq.trans ?_ (dif_pos h).symm)
    exact (value_at p ⟨r.val / 80, by omega⟩ ⟨r.val % 80, h⟩ u).trans (hp _)
  · refine (dif_neg h).trans (Eq.trans ?_ (dif_neg h).symm)
    exact units_at ⟨r.val % 80 - 64, by omega⟩ u

theorem recallBlock_at (hp : ∀ r, p (ix2 r u) = project x g w r) (r : Fin 256) : recall p (ix2 r u) = Cert.Project.recall x g w r := by
  rw [recall_at, hp]
  rfl

end

end Cert.Kernel4Ideal.Project

end
-- ==== Proof.ProjectResult.lean ====
/- The input projection's result arrays, element by element. -/
module

public import proofs.«01_k».proof.Proof.ProjectValue
public import proofs.«01_k».proof.Proof.Gen.Kernel4Ideal.Value
public import Idealize.ShloMosaic.Lib.StableHlo.ReadAt

@[expose] public section

set_option maxRecDepth 16384

noncomputable section

namespace Cert.Kernel4Ideal.Project

open Cert.Kernel4Ideal Cert.Kernel4Ideal.Gen
open Idealize.ShloMosaic Idealize.ShloMosaic.TcCoe Idealize.ShloMosaic.Tactic
open Idealize.ShloMosaic.Pipeline (Dat Cfg Window BodyObligation cellOf)
open Cert.Project (project turn angle rotate unitRow unitScale)

variable (m : (ℓ : Loc nD τ sig) → Buf (Elt Ideal) ℓ)

theorem x_entry (c : Dev nD) (d : Fin 1024) (n : Fin 32768) :
    V m c main_v1 (ix2 d n) = m ((c.tc : Thread nD τ).loc main_arg0) (ix3 ⟨n.val / 16384, by omega⟩ ⟨n.val % 16384, by omega⟩ d) := by
  unfold V
  after_reads_at

theorem g_entry (c : Dev nD) (d : Fin 1024) : V m c main_v23 (ix2 d 0) = m ((c.tc : Thread nD τ).loc main_arg2) (ix1 d) := by
  unfold V
  after_reads_at

theorem w_entry (c : Dev nD) (d : Fin 1024) (r : Fin 1408) : V m c main_v22 (ix2 r d) = m ((c.tc : Thread nD τ).loc main_arg1) (ix2 d r) := by
  unfold V
  after_reads_at

theorem cos_entry (c : Dev nD) (j : Fin 8) (s : Fin 16384) : V m c main_v19 (ix2 j s) = Ideal.cos (angle s j) := by
  unfold V angle
  after_reads_at

theorem sin_entry (c : Dev nD) (j : Fin 8) (s : Fin 16384) : V m c main_v20 (ix2 j s) = Ideal.sin (angle s j) := by
  unfold V angle
  after_reads_at

theorem columns : ∀ t : Fin cfg0.N, (cc0_transform_0 (grid0.coords t) 0 = 0 ∧ cc0_transform_0 (grid0.coords t) 1 = t.val)
    ∧ (cc0_transform_3 (grid0.coords t) 0 = 0 ∧ cc0_transform_3 (grid0.coords t) 1 = t.val % 32)
    ∧ (cc0_transform_4 (grid0.coords t) 0 = 0 ∧ cc0_transform_4 (grid0.coords t) 1 = t.val % 32) := by
  decide +kernel

theorem places : ∀ t : Fin cfg0.N, (cc0_transform_5 (grid0.coords t) 0 = 0 ∧ cc0_transform_5 (grid0.coords t) 1 = t.val)
    ∧ (cc0_transform_6 (grid0.coords t) 0 = 0 ∧ cc0_transform_6 (grid0.coords t) 1 = t.val)
    ∧ (cc0_transform_7 (grid0.coords t) 0 = 0 ∧ cc0_transform_7 (grid0.coords t) 1 = t.val)
    ∧ (cc0_transform_8 (grid0.coords t) 0 = 0 ∧ cc0_transform_8 (grid0.coords t) 1 = t.val) := by
  decide +kernel

theorem x_block (c : Dev nD) (t : Fin cfg0.N) (ht : t.val < 64) (d : Fin 1024) (u : Fin 512) : iblk m c 0 t (ix2 d u) = V m c main_v1 (ix2 d ⟨512 * t.val + u.val, by omega⟩) := by
  show V m c main_v1 (((cfg0.win 0).blk t).view.emb (ix2 d u)) = _
  refine congrArg _ (funext fun x => Fin.ext ?_)
  match x with
  | 0 =>
    blk_simp
    show cc0_transform_0 (grid0.coords t) 0 * 1024 + d.val = d.val
    rw [(columns t).1.1]; omega
  | 1 =>
    blk_simp
    show cc0_transform_0 (grid0.coords t) 1 * 512 + u.val = 512 * t.val + u.val
    rw [(columns t).1.2]; omega

theorem g_block (c : Dev nD) (t : Fin cfg0.N) (d : Fin 1024) : iblk m c 1 t (ix2 d 0) = V m c main_v23 (ix2 d 0) := by
  show V m c main_v23 (((cfg0.win 1).blk t).view.emb (ix2 d 0)) = _
  refine congrArg _ (funext fun x => Fin.ext ?_)
  match x with
  | 0 =>
    blk_simp
    show 0 * 1024 + d.val = d.val
    omega
  | 1 =>
    blk_simp
    rfl

theorem w_block (c : Dev nD) (t : Fin cfg0.N) (r : Fin 1408) (d : Fin 1024) : iblk m c 2 t (ix2 r d) = V m c main_v22 (ix2 r d) := by
  show V m c main_v22 (((cfg0.win 2).blk t).view.emb (ix2 r d)) = _
  refine congrArg _ (funext fun x => Fin.ext ?_)
  match x with
  | 0 =>
    blk_simp
    show 0 * 1408 + r.val = r.val
    omega
  | 1 =>
    blk_simp
    show 0 * 1024 + d.val = d.val
    omega

theorem cos_block (c : Dev nD) (t : Fin cfg0.N) (j : Fin 8) (u : Fin 512) : iblk m c 3 t (ix2 j u) = V m c main_v19 (ix2 j ⟨512 * (t.val % 32) + u.val, by omega⟩) := by
  show V m c main_v19 (((cfg0.win 3).blk t).view.emb (ix2 j u)) = _
  refine congrArg _ (funext fun x => Fin.ext ?_)
  match x with
  | 0 =>
    blk_simp
    show cc0_transform_3 (grid0.coords t) 0 * 8 + j.val = j.val
    rw [(columns t).2.1.1]; omega
  | 1 =>
    blk_simp
    show cc0_transform_3 (grid0.coords t) 1 * 512 + u.val = 512 * (t.val % 32) + u.val
    rw [(columns t).2.1.2]; omega

theorem sin_block (c : Dev nD) (t : Fin cfg0.N) (j : Fin 8) (u : Fin 512) : iblk m c 4 t (ix2 j u) = V m c main_v20 (ix2 j ⟨512 * (t.val % 32) + u.val, by omega⟩) := by
  show V m c main_v20 (((cfg0.win 4).blk t).view.emb (ix2 j u)) = _
  refine congrArg _ (funext fun x => Fin.ext ?_)
  match x with
  | 0 =>
    blk_simp
    show cc0_transform_4 (grid0.coords t) 0 * 8 + j.val = j.val
    rw [(columns t).2.2.1]; omega
  | 1 =>
    blk_simp
    show cc0_transform_4 (grid0.coords t) 1 * 512 + u.val = 512 * (t.val % 32) + u.val
    rw [(columns t).2.2.2]; omega

/-- A token's row, the weights for its places and the projection's weights, from the arguments. -/
def row (c : Dev nD) (n : Fin 32768) (d : Fin 1024) : EReal := m ((c.tc : Thread nD τ).loc main_arg0) (ix3 ⟨n.val / 16384, by omega⟩ ⟨n.val % 16384, by omega⟩ d)
def gain (c : Dev nD) (d : Fin 1024) : EReal := m ((c.tc : Thread nD τ).loc main_arg2) (ix1 d)
def weight (c : Dev nD) (d : Fin 1024) (r : Fin 1408) : EReal := m ((c.tc : Thread nD τ).loc main_arg1) (ix2 d r)

/-- The results at a row and a token. -/
def queryOf (c : Dev nD) (r : Fin 768) (n : Fin 32768) : EReal := Cert.Project.query (row m c n) (gain m c) (weight m c) ⟨n.val % 16384, by omega⟩ r
def keyOf (c : Dev nD) (r : Fin 192) (n : Fin 32768) : EReal := Cert.Project.key (row m c n) (gain m c) (weight m c) ⟨n.val % 16384, by omega⟩ r
def valueOf (c : Dev nD) (r : Fin 240) (n : Fin 32768) : EReal := Cert.Project.value (row m c n) (gain m c) (weight m c) r
def recallOf (c : Dev nD) (r : Fin 256) (n : Fin 32768) : EReal := Cert.Project.recall (row m c n) (gain m c) (weight m c) r

/-- A point's product, a column for each of its tokens. -/
abbrev productOf (c : Dev nD) (t : Fin cfg0.N) : FVec Ideal S1408x512 .f32 := product (F := Ideal) (iblk m c 2 t) (iblk m c 0 t) (iblk m c 1 t)

theorem product_block (c : Dev nD) (t : Fin cfg0.N) (ht : t.val < 64) (r : Fin 1408) (u : Fin 512) (n : Fin 32768) (hn : n.val = 512 * t.val + u.val) :
    productOf m c t (ix2 r u) = project (row m c n) (gain m c) (weight m c) r := by
  have hb : 512 * t.val + u.val < 32768 := by omega
  obtain rfl : n = ⟨512 * t.val + u.val, hb⟩ := Fin.ext hn
  refine (product_at (iblk m c 2 t) (iblk m c 0 t) (iblk m c 1 t) r u).trans ?_
  have ex : (fun d => iblk m c 0 t (ix2 d u)) = row m c ⟨512 * t.val + u.val, hb⟩ := funext fun d => (x_block m c t ht d u).trans (x_entry m c d _)
  have eg : (fun d => iblk m c 1 t (ix2 d 0)) = gain m c := funext fun d => (g_block m c t d).trans (g_entry m c d)
  have ew : (fun (d : Fin 1024) (r : Fin 1408) => iblk m c 2 t (ix2 r d)) = weight m c := funext fun d => funext fun r => (w_block m c t r d).trans (w_entry m c d r)
  rw [ex, eg, ew]

/-- A point's tables are those of its tokens' positions. -/
theorem cos_point (c : Dev nD) (t : Fin cfg0.N) (ht : t.val < 64) (u : Fin 512) (n : Fin 32768) (hn : n.val = 512 * t.val + u.val) (j : Fin 8) :
    iblk m c 3 t (ix2 j u) = Ideal.cos (angle ⟨n.val % 16384, by omega⟩ j) :=
  (cos_block m c t j u).trans ((cos_entry m c j _).trans (congrArg (fun s => Ideal.cos (angle s j)) (Fin.ext (by dsimp only; omega))))

theorem sin_point (c : Dev nD) (t : Fin cfg0.N) (ht : t.val < 64) (u : Fin 512) (n : Fin 32768) (hn : n.val = 512 * t.val + u.val) (j : Fin 8) :
    iblk m c 4 t (ix2 j u) = Ideal.sin (angle ⟨n.val % 16384, by omega⟩ j) :=
  (sin_block m c t j u).trans ((sin_entry m c j _).trans (congrArg (fun s => Ideal.sin (angle s j)) (Fin.ext (by dsimp only; omega))))

/-- What a point leaves in its four output blocks. -/
theorem queries_after (c : Dev nD) (t : Fin cfg0.N) : (dats m 0 c).after 5 t = queryBlock (query (productOf m c t) (iblk m c 3 t) (iblk m c 4 t)) := by
  rw [after0_5]
  have h := queries_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t)
  unfold outsAt0
  dsimp only
  exact h.trans rfl

theorem keys_after (c : Dev nD) (t : Fin cfg0.N) : (dats m 0 c).after 6 t = keyBlock (key (productOf m c t) (iblk m c 3 t) (iblk m c 4 t)) := by
  rw [after0_6]
  have h := keys_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t)
  unfold outsAt0
  dsimp only
  exact h.trans rfl

theorem values_after (c : Dev nD) (t : Fin cfg0.N) : (dats m 0 c).after 7 t = valueBlock (value (productOf m c t)) units := by
  rw [after0_7]
  have h := values_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t)
  unfold outsAt0
  dsimp only
  exact h.trans rfl

theorem recall_after (c : Dev nD) (t : Fin cfg0.N) : (dats m 0 c).after 8 t = recall (productOf m c t) := by
  rw [after0_8]
  have h := recall_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t)
  unfold outsAt0
  dsimp only
  exact h.trans rfl

theorem query_at_point (c : Dev nD) (t : Fin cfg0.N) (ht : t.val < 64) (r r' : Fin 768) (u : Fin 512) (n : Fin 32768) (hr : r'.val = r.val) (hn : n.val = 512 * t.val + u.val) :
    queryBlock (query (productOf m c t) (iblk m c 3 t) (iblk m c 4 t)) (ix2 r u) = queryOf m c r' n := by
  obtain rfl : r' = r := Fin.ext hr
  exact queryBlock_at (productOf m c t) (iblk m c 3 t) (iblk m c 4 t) _ _ _ _ u (fun r => product_block m c t ht r u n hn) (cos_point m c t ht u n hn) (sin_point m c t ht u n hn) r'

theorem key_at_point (c : Dev nD) (t : Fin cfg0.N) (ht : t.val < 64) (r r' : Fin 192) (u : Fin 512) (n : Fin 32768) (hr : r'.val = r.val) (hn : n.val = 512 * t.val + u.val) :
    keyBlock (key (productOf m c t) (iblk m c 3 t) (iblk m c 4 t)) (ix2 r u) = keyOf m c r' n := by
  obtain rfl : r' = r := Fin.ext hr
  exact keyBlock_at (productOf m c t) (iblk m c 3 t) (iblk m c 4 t) _ _ _ _ u (fun r => product_block m c t ht r u n hn) (cos_point m c t ht u n hn) (sin_point m c t ht u n hn) r'

theorem value_at_point (c : Dev nD) (t : Fin cfg0.N) (ht : t.val < 64) (r r' : Fin 240) (u : Fin 512) (n : Fin 32768) (hr : r'.val = r.val) (hn : n.val = 512 * t.val + u.val) :
    valueBlock (value (productOf m c t)) (units (F := Ideal)) (ix2 r u) = valueOf m c r' n := by
  obtain rfl : r' = r := Fin.ext hr
  exact valueBlock_at (productOf m c t) _ _ _ u (fun r => product_block m c t ht r u n hn) r'

theorem recall_at_point (c : Dev nD) (t : Fin cfg0.N) (ht : t.val < 64) (r r' : Fin 256) (u : Fin 512) (n : Fin 32768) (hr : r'.val = r.val) (hn : n.val = 512 * t.val + u.val) :
    recall (productOf m c t) (ix2 r u) = recallOf m c r' n := by
  obtain rfl : r' = r := Fin.ext hr
  exact recallBlock_at (productOf m c t) _ _ _ u (fun r => product_block m c t ht r u n hn) r'

/-- The kernel's four result arrays. -/
theorem query_result (c : Dev nD) : (dats m 0 c).arrAt 5 cfg0.N = fun i => queryOf m c (i 0) (i 1) := by
  refine (dats m 0 c).arrAt_eq_of_covers 5 _ (by decide +kernel) fun t hf y => ?_
  have ht : t.val < 64 := Nat.lt_of_lt_of_eq t.isLt N_0
  blk_simp
  rw [queries_after]
  idx_vars y
  refine query_at_point m c t ht _ _ _ _ ?_ ?_
  · blk_simp
    show cc0_transform_5 (grid0.coords t) 0 * 768 + y0.val = y0.val
    rw [(places t).1.1]; omega
  · blk_simp
    show cc0_transform_5 (grid0.coords t) 1 * 512 + y1.val = 512 * t.val + y1.val
    rw [(places t).1.2]; omega

theorem key_result (c : Dev nD) : (dats m 0 c).arrAt 6 cfg0.N = fun i => keyOf m c (i 0) (i 1) := by
  refine (dats m 0 c).arrAt_eq_of_covers 6 _ (by decide +kernel) fun t hf y => ?_
  have ht : t.val < 64 := Nat.lt_of_lt_of_eq t.isLt N_0
  blk_simp
  rw [keys_after]
  idx_vars y
  refine key_at_point m c t ht _ _ _ _ ?_ ?_
  · blk_simp
    show cc0_transform_6 (grid0.coords t) 0 * 192 + y0.val = y0.val
    rw [(places t).2.1.1]; omega
  · blk_simp
    show cc0_transform_6 (grid0.coords t) 1 * 512 + y1.val = 512 * t.val + y1.val
    rw [(places t).2.1.2]; omega

theorem value_result (c : Dev nD) : (dats m 0 c).arrAt 7 cfg0.N = fun i => valueOf m c (i 0) (i 1) := by
  refine (dats m 0 c).arrAt_eq_of_covers 7 _ (by decide +kernel) fun t hf y => ?_
  have ht : t.val < 64 := Nat.lt_of_lt_of_eq t.isLt N_0
  blk_simp
  rw [values_after]
  idx_vars y
  refine value_at_point m c t ht _ _ _ _ ?_ ?_
  · blk_simp
    show cc0_transform_7 (grid0.coords t) 0 * 240 + y0.val = y0.val
    rw [(places t).2.2.1.1]; omega
  · blk_simp
    show cc0_transform_7 (grid0.coords t) 1 * 512 + y1.val = 512 * t.val + y1.val
    rw [(places t).2.2.1.2]; omega

theorem recall_result (c : Dev nD) : (dats m 0 c).arrAt 8 cfg0.N = fun i => recallOf m c (i 0) (i 1) := by
  refine (dats m 0 c).arrAt_eq_of_covers 8 _ (by decide +kernel) fun t hf y => ?_
  have ht : t.val < 64 := Nat.lt_of_lt_of_eq t.isLt N_0
  blk_simp
  rw [recall_after]
  idx_vars y
  refine recall_at_point m c t ht _ _ _ _ ?_ ?_
  · blk_simp
    show cc0_transform_8 (grid0.coords t) 0 * 256 + y0.val = y0.val
    rw [(places t).2.2.2.1]; omega
  · blk_simp
    show cc0_transform_8 (grid0.coords t) 1 * 512 + y1.val = 512 * t.val + y1.val
    rw [(places t).2.2.2.2]; omega

end Cert.Kernel4Ideal.Project

end
-- ==== Proof.EntryBlock.lean ====
/- The first layer's input projection on one block of tokens, a row each: what its stores leave in the five output blocks. The
   four blocks of heads are those of the other layers, of another product. -/
module

public import proofs.«01_k».proof.Proof.ProjectValue
public import proofs.«01_k».proof.Proof.Gen.Kernel5Ideal.Frame

@[expose] public section

set_option maxRecDepth 16384

noncomputable section

namespace Cert.Kernel5Ideal.Project

open Cert.Kernel5Ideal Cert.Kernel5Ideal.Gen
open Idealize.ShloMosaic Idealize.ShloMosaic.TcCoe Idealize.ShloMosaic.Tactic
open Cert.Feed (rms scale)
open Cert.Project (project)
open Cert.Kernel4Ideal.Project (query key value recall units queryBlock keyBlock valueBlock queryStores keyStores valueStores recallStores read_queries read_keys read_values read_recall load_whole zero2)

variable {F : FTy → Type} [FloatOps F] [Named F]

/-- Rows normalised, with a weight for each column. -/
def normed (x : FVec F S512x1024 .f32) (g : FVec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32 : F .f32))) (broadcast S512x1 (Scalar.ofBits .f32 0x358637BD#32 : F .f32)))) broadcasts_S512x1_S512x1024))
    (broadcastTo S512x1024 g broadcasts_S1x1024_S512x1024)

/-- The weights' rows on the normalised rows. -/
def product (w : FVec F S1408x1024 .bf16) (x : FVec F S512x1024 .f32) (g : FVec F S1x1024 .f32) : FVec F S1408x512 .f32 :=
  matmul dot_S1408x1024_S512x1024_S1408x512_1_1_0_0_n_n none w (truncf .bf16 (normed x g) bitsLt_bf16_f32) (constant S1408x512 .f32 0x00000000#32)

/-- The tokens, a column each. -/
def columns (x : FVec F S512x1024 .f32) : FVec F S1024x512 .f32 := transpose S1024x512 [1, 0] x transposes_S512x1024_p1_0_S1024x512

theorem normed_at (x : FVec Ideal S512x1024 .f32) (g : FVec Ideal S1x1024 .f32) (d : Fin 1024) (u : Fin 512) :
    normed x g (ix2 u d) = rms (fun d => x (ix2 u d)) (fun d => g (ix2 0 d)) d := by
  unfold rms scale
  pointwise [normed]

theorem product_at (w : FVec Ideal S1408x1024 .bf16) (x : FVec Ideal S512x1024 .f32) (g : FVec Ideal S1x1024 .f32) (r : Fin 1408) (u : Fin 512) :
    product w x g (ix2 r u) = project (fun d => x (ix2 u d)) (fun d => g (ix2 0 d)) (fun d r => w (ix2 r d)) r := by
  have e : product w x g (ix2 r u) = ∑ d : Fin 1024, w (ix2 r d) * normed x g (ix2 u d) := by
    unfold product
    generalize normed x g = y
    pointwise
  rw [e]
  unfold project
  refine Finset.sum_congr rfl fun d _ => ?_
  rw [normed_at, mul_comm]

theorem columns_at (x : FVec Ideal S512x1024 .f32) (d : Fin 1024) (u : Fin 512) : columns x (ix2 d u) = x (ix2 u d) := by
  pointwise [columns]

/-- Where the columns are stored: everywhere. -/
theorem columns_inb : ∀ (a : Fin 2), (![0, 0] : Fin 2 → ℕ) a + S1024x512.size a ≤ S1024x512.size a := by decide

def columnStores (P : FVec F S1024x512 .f32) : List (View.Piece (Elt F) S1024x512 .f32) := [⟨Rect.unit ![0, 0] S1024x512.size columns_inb, P⟩]

theorem read_columns {σ : RefSig} {b : View σ .tc .vmem S1024x512 .f32} (f : BufTy.Contents (Elt F) b.ty) (P : FVec F S1024x512 .f32) (L : List (View.Piece (Elt F) S1024x512 .f32))
    (hL : L = columnStores P) (cov : ∀ y, ∃ p ∈ L, y ∈ p.1.set) : b.read (Elt F) (b.writes (Elt F) f L) = P := by
  funext y
  refine View.read_writes_apply_of_pieces _ _ _ _ ?_ y (cov y)
  subst hL
  intro p hp x
  obtain rfl := List.mem_singleton.mp hp
  refine congrArg P (funext fun a => Fin.ext ?_)
  match a with
  | 0 => simp
  | 1 => simp

theorem product_eq (x0 : Vec F S512x1024 .f32) (x1 : Vec F S1x1024 .f32) (x2 : Vec F S1408x1024 .bf16) : k0_pay3 x0 x1 x2 = product x2 x0 x1 := by
  unfold k0_pay3 k0_pay2 product normed
  dsimp only
  rw [shapeCast_self x0 _, shapeCast_self x1 _, shapeCast_self x2 _]

theorem columns_eq (x0 : Vec F S512x1024 .f32) : k0_pay4 x0 = columns x0 := by
  unfold k0_pay4 k0_pay2 columns
  dsimp only
  rw [shapeCast_self x0 _]

section
variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1408x1024 .bf16) (harg3 : arg3.IsWhole) (arg4 : Memref sig .tc .vmem S8x512 .f32) (harg4 : arg4.IsWhole) (arg5 : Memref sig .tc .vmem S8x512 .f32) (harg5 : arg5.IsWhole)
  (arg6 : Memref sig .tc .vmem S1024x512 .f32) (harg6 : arg6.IsWhole) (arg7 : Memref sig .tc .vmem S768x512 .bf16) (harg7 : arg7.IsWhole) (arg8 : Memref sig .tc .vmem S192x512 .bf16) (harg8 : arg8.IsWhole)
  (arg9 : Memref sig .tc .vmem S240x512 .bf16) (harg9 : arg9.IsWhole) (arg10 : Memref sig .tc .vmem S256x512 .bf16) (harg10 : arg10.IsWhole)
  (x0 : Vec F S512x1024 .f32) (x1 : Vec F S1x1024 .f32) (x2 : Vec F S1408x1024 .bf16) (x3 : Vec F S8x512 .f32) (x4 : Vec F S8x512 .f32)

/-- What the body stores is its tokens and the heads of the projection's product. -/
theorem stores_eq :
    (kernelRun0_A c i arg1 harg1 arg2 harg2 arg3 harg3 arg4 harg4 arg5 harg5 arg6 harg6 arg7 harg7 arg8 harg8 arg9 harg9 arg10 harg10 x0 x1 x2 x3 x4).1 = columnStores (columns x0) ∧
    (kernelRun0_A c i arg1 harg1 arg2 harg2 arg3 harg3 arg4 harg4 arg5 harg5 arg6 harg6 arg7 harg7 arg8 harg8 arg9 harg9 arg10 harg10 x0 x1 x2 x3 x4).2.1 = queryStores (query (product x2 x0 x1) x3 x4) ∧
    (kernelRun0_A c i arg1 harg1 arg2 harg2 arg3 harg3 arg4 harg4 arg5 harg5 arg6 harg6 arg7 harg7 arg8 harg8 arg9 harg9 arg10 harg10 x0 x1 x2 x3 x4).2.2.1 = keyStores (key (product x2 x0 x1) x3 x4) ∧
    (kernelRun0_A c i arg1 harg1 arg2 harg2 arg3 harg3 arg4 harg4 arg5 harg5 arg6 harg6 arg7 harg7 arg8 harg8 arg9 harg9 arg10 harg10 x0 x1 x2 x3 x4).2.2.2.1 = valueStores (value (product x2 x0 x1)) units ∧
    (kernelRun0_A c i arg1 harg1 arg2 harg2 arg3 harg3 arg4 harg4 arg5 harg5 arg6 harg6 arg7 harg7 arg8 harg8 arg9 harg9 arg10 harg10 x0 x1 x2 x3 x4).2.2.2.2.1 = recallStores (recall (product x2 x0 x1)) := by
  have l0 := load_whole arg1 harg1 x0 ![0, 0] zero2 (by decide)
  have l1 := load_whole arg2 harg2 x1 ![0, 0] zero2 (by decide)
  have l2 := load_whole arg3 harg3 x2 ![0, 0] zero2 (by decide)
  have l3 := load_whole arg4 harg4 x3 ![0, 0] zero2 (by decide)
  have l4 := load_whole arg5 harg5 x4 ![0, 0] zero2 (by decide)
  have t := (congrArg k0_pay4 l0).trans (columns_eq x0)
  have p := (congr (congr (congrArg k0_pay3 l0) l1) l2).trans (product_eq x0 x1 x2)
  have c3 := (congrArg k0_pay5 l3).trans (shapeCast_self x3 _)
  have c4 := (congrArg k0_pay6 l4).trans (shapeCast_self x4 _)
  refine ⟨Eq.trans (b := columnStores (k0_pay4 _)) ?_ (congrArg columnStores t),
    Eq.trans (b := queryStores (query (k0_pay3 _ _ _) (k0_pay5 _) (k0_pay6 _))) ?_ (congrArg queryStores (congr (congr (congrArg query p) c3) c4)),
    Eq.trans (b := keyStores (key (k0_pay3 _ _ _) (k0_pay5 _) (k0_pay6 _))) ?_ (congrArg keyStores (congr (congr (congrArg key p) c3) c4)),
    Eq.trans (b := valueStores (value (k0_pay3 _ _ _)) units) ?_ (congrArg (fun q => valueStores (value q) units) p),
    Eq.trans (b := recallStores (recall (k0_pay3 _ _ _))) ?_ (congrArg (fun q => recallStores (recall q)) p)⟩
  · rfl
  · rfl
  · rfl
  · rfl
  · rfl

/-- What a visit leaves in the five output blocks. -/
theorem columns_out : out0_A_5 c i arg1 harg1 arg2 harg2 arg3 harg3 arg4 harg4 arg5 harg5 arg6 harg6 arg7 harg7 arg8 harg8 arg9 harg9 arg10 harg10 x0 x1 x2 x3 x4 = columns x0 := by
  unfold out0_A_5
  exact read_columns _ _ _ (stores_eq c i arg1 harg1 arg2 harg2 arg3 harg3 arg4 harg4 arg5 harg5 arg6 harg6 arg7 harg7 arg8 harg8 arg9 harg9 arg10 harg10 x0 x1 x2 x3 x4).1 (cover0_A_5 c i arg1 harg1 arg2 harg2 arg3 harg3 arg4 harg4 arg5 harg5 arg6 harg6 arg7 harg7 arg8 harg8 arg9 harg9 arg10 harg10 x0 x1 x2 x3 x4)

theorem queries_out : out0_A_6 c i arg1 harg1 arg2 harg2 arg3 harg3 arg4 harg4 arg5 harg5 arg6 harg6 arg7 harg7 arg8 harg8 arg9 harg9 arg10 harg10 x0 x1 x2 x3 x4 = queryBlock (query (product x2 x0 x1) x3 x4) := by
  unfold out0_A_6
  exact read_queries _ _ _ (stores_eq c i arg1 harg1 arg2 harg2 arg3 harg3 arg4 harg4 arg5 harg5 arg6 harg6 arg7 harg7 arg8 harg8 arg9 harg9 arg10 harg10 x0 x1 x2 x3 x4).2.1 (cover0_A_6 c i arg1 harg1 arg2 harg2 arg3 harg3 arg4 harg4 arg5 harg5 arg6 harg6 arg7 harg7 arg8 harg8 arg9 harg9 arg10 harg10 x0 x1 x2 x3 x4)

theorem keys_out : out0_A_7 c i arg1 harg1 arg2 harg2 arg3 harg3 arg4 harg4 arg5 harg5 arg6 harg6 arg7 harg7 arg8 harg8 arg9 harg9 arg10 harg10 x0 x1 x2 x3 x4 = keyBlock (key (product x2 x0 x1) x3 x4) := by
  unfold out0_A_7
  exact read_keys _ _ _ (stores_eq c i arg1 harg1 arg2 harg2 arg3 harg3 arg4 harg4 arg5 harg5 arg6 harg6 arg7 harg7 arg8 harg8 arg9 harg9 arg10 harg10 x0 x1 x2 x3 x4).2.2.1 (cover0_A_7 c i arg1 harg1 arg2 harg2 arg3 harg3 arg4 harg4 arg5 harg5 arg6 harg6 arg7 harg7 arg8 harg8 arg9 harg9 arg10 harg10 x0 x1 x2 x3 x4)

theorem values_out : out0_A_8 c i arg1 harg1 arg2 harg2 arg3 harg3 arg4 harg4 arg5 harg5 arg6 harg6 arg7 harg7 arg8 harg8 arg9 harg9 arg10 harg10 x0 x1 x2 x3 x4 = valueBlock (value (product x2 x0 x1)) units := by
  unfold out0_A_8
  exact read_values _ _ _ _ (stores_eq c i arg1 harg1 arg2 harg2 arg3 harg3 arg4 harg4 arg5 harg5 arg6 harg6 arg7 harg7 arg8 harg8 arg9 harg9 arg10 harg10 x0 x1 x2 x3 x4).2.2.2.1 (cover0_A_8 c i arg1 harg1 arg2 harg2 arg3 harg3 arg4 harg4 arg5 harg5 arg6 harg6 arg7 harg7 arg8 harg8 arg9 harg9 arg10 harg10 x0 x1 x2 x3 x4)

theorem recall_out : out0_A_9 c i arg1 harg1 arg2 harg2 arg3 harg3 arg4 harg4 arg5 harg5 arg6 harg6 arg7 harg7 arg8 harg8 arg9 harg9 arg10 harg10 x0 x1 x2 x3 x4 = recall (product x2 x0 x1) := by
  unfold out0_A_9
  exact read_recall _ _ _ (stores_eq c i arg1 harg1 arg2 harg2 arg3 harg3 arg4 harg4 arg5 harg5 arg6 harg6 arg7 harg7 arg8 harg8 arg9 harg9 arg10 harg10 x0 x1 x2 x3 x4).2.2.2.2 (cover0_A_9 c i arg1 harg1 arg2 harg2 arg3 harg3 arg4 harg4 arg5 harg5 arg6 harg6 arg7 harg7 arg8 harg8 arg9 harg9 arg10 harg10 x0 x1 x2 x3 x4)

end

end Cert.Kernel5Ideal.Project

end
-- ==== Proof.EntryResult.lean ====
/- The first layer's input projection: its result arrays, element by element. -/
module

public import proofs.«01_k».proof.Proof.EntryBlock
public import proofs.«01_k».proof.Proof.Gen.Kernel5Ideal.Value
public import Idealize.ShloMosaic.Lib.StableHlo.ReadAt

@[expose] public section

set_option maxRecDepth 16384

noncomputable section

namespace Cert.Kernel5Ideal.Project

open Cert.Kernel5Ideal Cert.Kernel5Ideal.Gen
open Idealize.ShloMosaic Idealize.ShloMosaic.TcCoe Idealize.ShloMosaic.Tactic
open Idealize.ShloMosaic.Pipeline (Dat Cfg Window BodyObligation cellOf)
open Cert.Project (project angle)
open Cert.Kernel4Ideal.Project (query key value recall units queryBlock keyBlock valueBlock queryBlock_at keyBlock_at valueBlock_at recallBlock_at)

variable (m : (ℓ : Loc nD τ sig) → Buf (Elt Ideal) ℓ)

theorem x_entry (c : Dev nD) (n : Fin 32768) (d : Fin 1024) :
    V m c main_v21 (ix2 n d) = m ((c.tc : Thread nD τ).loc main_arg0) (ix3 ⟨n.val / 16384, by omega⟩ ⟨n.val % 16384, by omega⟩ d) := by
  unfold V
  after_reads_at

theorem g_entry (c : Dev nD) (d : Fin 1024) : V m c main_v22 (ix2 0 d) = m ((c.tc : Thread nD τ).loc main_arg2) (ix1 d) := by
  unfold V
  after_reads_at

theorem w_entry (c : Dev nD) (d : Fin 1024) (r : Fin 1408) : V m c main_v20 (ix2 r d) = m ((c.tc : Thread nD τ).loc main_arg1) (ix2 d r) := by
  unfold V
  after_reads_at

theorem cos_entry (c : Dev nD) (j : Fin 8) (s : Fin 16384) : V m c main_v17 (ix2 j s) = Ideal.cos (angle s j) := by
  unfold V angle
  after_reads_at

theorem sin_entry (c : Dev nD) (j : Fin 8) (s : Fin 16384) : V m c main_v18 (ix2 j s) = Ideal.sin (angle s j) := by
  unfold V angle
  after_reads_at

/-- Which block each window that moves takes at a point. -/
theorem sources : ∀ t : Fin cfg0.N, (cc0_transform_0 (grid0.coords t) 0 = t.val ∧ cc0_transform_0 (grid0.coords t) 1 = 0)
    ∧ (cc0_transform_3 (grid0.coords t) 0 = 0 ∧ cc0_transform_3 (grid0.coords t) 1 = t.val % 32)
    ∧ (cc0_transform_4 (grid0.coords t) 0 = 0 ∧ cc0_transform_4 (grid0.coords t) 1 = t.val % 32) := by
  decide +kernel

theorem places : ∀ t : Fin cfg0.N, (cc0_transform_5 (grid0.coords t) 0 = 0 ∧ cc0_transform_5 (grid0.coords t) 1 = t.val)
    ∧ (cc0_transform_6 (grid0.coords t) 0 = 0 ∧ cc0_transform_6 (grid0.coords t) 1 = t.val)
    ∧ (cc0_transform_7 (grid0.coords t) 0 = 0 ∧ cc0_transform_7 (grid0.coords t) 1 = t.val)
    ∧ (cc0_transform_8 (grid0.coords t) 0 = 0 ∧ cc0_transform_8 (grid0.coords t) 1 = t.val)
    ∧ (cc0_transform_9 (grid0.coords t) 0 = 0 ∧ cc0_transform_9 (grid0.coords t) 1 = t.val) := by
  decide +kernel

theorem x_block (c : Dev nD) (t : Fin cfg0.N) (u : Fin 512) (d : Fin 1024) (n : Fin 32768) (hn : n.val = 512 * t.val + u.val) : iblk m c 0 t (ix2 u d) = V m c main_v21 (ix2 n d) := by
  show V m c main_v21 (((cfg0.win 0).blk t).view.emb (ix2 u d)) = _
  refine congrArg _ (funext fun x => Fin.ext ?_)
  match x with
  | 0 =>
    blk_simp
    show cc0_transform_0 (grid0.coords t) 0 * 512 + u.val = n.val
    rw [(sources t).1.1]; omega
  | 1 =>
    blk_simp
    show cc0_transform_0 (grid0.coords t) 1 * 1024 + d.val = d.val
    rw [(sources t).1.2]; omega

theorem g_block (c : Dev nD) (t : Fin cfg0.N) (d : Fin 1024) : iblk m c 1 t (ix2 0 d) = V m c main_v22 (ix2 0 d) := by
  show V m c main_v22 (((cfg0.win 1).blk t).view.emb (ix2 0 d)) = _
  refine congrArg _ (funext fun x => Fin.ext ?_)
  match x with
  | 0 =>
    blk_simp
    rfl
  | 1 =>
    blk_simp
    show 0 * 1024 + d.val = d.val
    omega

theorem w_block (c : Dev nD) (t : Fin cfg0.N) (r : Fin 1408) (d : Fin 1024) : iblk m c 2 t (ix2 r d) = V m c main_v20 (ix2 r d) := by
  show V m c main_v20 (((cfg0.win 2).blk t).view.emb (ix2 r d)) = _
  refine congrArg _ (funext fun x => Fin.ext ?_)
  match x with
  | 0 =>
    blk_simp
    show 0 * 1408 + r.val = r.val
    omega
  | 1 =>
    blk_simp
    show 0 * 1024 + d.val = d.val
    omega

theorem cos_block (c : Dev nD) (t : Fin cfg0.N) (j : Fin 8) (u : Fin 512) : iblk m c 3 t (ix2 j u) = V m c main_v17 (ix2 j ⟨512 * (t.val % 32) + u.val, by omega⟩) := by
  show V m c main_v17 (((cfg0.win 3).blk t).view.emb (ix2 j u)) = _
  refine congrArg _ (funext fun x => Fin.ext ?_)
  match x with
  | 0 =>
    blk_simp
    show cc0_transform_3 (grid0.coords t) 0 * 8 + j.val = j.val
    rw [(sources t).2.1.1]; omega
  | 1 =>
    blk_simp
    show cc0_transform_3 (grid0.coords t) 1 * 512 + u.val = 512 * (t.val % 32) + u.val
    rw [(sources t).2.1.2]; omega

theorem sin_block (c : Dev nD) (t : Fin cfg0.N) (j : Fin 8) (u : Fin 512) : iblk m c 4 t (ix2 j u) = V m c main_v18 (ix2 j ⟨512 * (t.val % 32) + u.val, by omega⟩) := by
  show V m c main_v18 (((cfg0.win 4).blk t).view.emb (ix2 j u)) = _
  refine congrArg _ (funext fun x => Fin.ext ?_)
  match x with
  | 0 =>
    blk_simp
    show cc0_transform_4 (grid0.coords t) 0 * 8 + j.val = j.val
    rw [(sources t).2.2.1]; omega
  | 1 =>
    blk_simp
    show cc0_transform_4 (grid0.coords t) 1 * 512 + u.val = 512 * (t.val % 32) + u.val
    rw [(sources t).2.2.2]; omega

/-- A token's row, the weights for its places and the projection's weights, from the arguments. -/
def row (c : Dev nD) (n : Fin 32768) (d : Fin 1024) : EReal := m ((c.tc : Thread nD τ).loc main_arg0) (ix3 ⟨n.val / 16384, by omega⟩ ⟨n.val % 16384, by omega⟩ d)
def gain (c : Dev nD) (d : Fin 1024) : EReal := m ((c.tc : Thread nD τ).loc main_arg2) (ix1 d)
def weight (c : Dev nD) (d : Fin 1024) (r : Fin 1408) : EReal := m ((c.tc : Thread nD τ).loc main_arg1) (ix2 d r)

/-- The results at a row and a token. -/
def queryOf (c : Dev nD) (r : Fin 768) (n : Fin 32768) : EReal := Cert.Project.query (row m c n) (gain m c) (weight m c) ⟨n.val % 16384, by omega⟩ r
def keyOf (c : Dev nD) (r : Fin 192) (n : Fin 32768) : EReal := Cert.Project.key (row m c n) (gain m c) (weight m c) ⟨n.val % 16384, by omega⟩ r
def valueOf (c : Dev nD) (r : Fin 240) (n : Fin 32768) : EReal := Cert.Project.value (row m c n) (gain m c) (weight m c) r
def recallOf (c : Dev nD) (r : Fin 256) (n : Fin 32768) : EReal := Cert.Project.recall (row m c n) (gain m c) (weight m c) r

/-- The tokens at a place and a token. -/
def columnOf (c : Dev nD) (d : Fin 1024) (n : Fin 32768) : EReal := row m c n d

/-- A point's product, a column for each of its tokens. -/
abbrev productOf (c : Dev nD) (t : Fin cfg0.N) : FVec Ideal S1408x512 .f32 := product (F := Ideal) (iblk m c 2 t) (iblk m c 0 t) (iblk m c 1 t)

theorem row_at (c : Dev nD) (t : Fin cfg0.N) (u : Fin 512) (n : Fin 32768) (hn : n.val = 512 * t.val + u.val) (d : Fin 1024) : iblk m c 0 t (ix2 u d) = row m c n d :=
  (x_block m c t u d n hn).trans (x_entry m c n d)

theorem product_block (c : Dev nD) (t : Fin cfg0.N) (ht : t.val < 64) (r : Fin 1408) (u : Fin 512) (n : Fin 32768) (hn : n.val = 512 * t.val + u.val) :
    productOf m c t (ix2 r u) = project (row m c n) (gain m c) (weight m c) r := by
  refine (product_at (iblk m c 2 t) (iblk m c 0 t) (iblk m c 1 t) r u).trans ?_
  have ex : (fun d => iblk m c 0 t (ix2 u d)) = row m c n := funext fun d => row_at m c t u n hn d
  have eg : (fun d => iblk m c 1 t (ix2 0 d)) = gain m c := funext fun d => (g_block m c t d).trans (g_entry m c d)
  have ew : (fun (d : Fin 1024) (r : Fin 1408) => iblk m c 2 t (ix2 r d)) = weight m c := funext fun d => funext fun r => (w_block m c t r d).trans (w_entry m c d r)
  rw [ex, eg, ew]

/-- A point's tables are those of its tokens' positions. -/
theorem cos_point (c : Dev nD) (t : Fin cfg0.N) (ht : t.val < 64) (u : Fin 512) (n : Fin 32768) (hn : n.val = 512 * t.val + u.val) (j : Fin 8) :
    iblk m c 3 t (ix2 j u) = Ideal.cos (angle ⟨n.val % 16384, by omega⟩ j) :=
  (cos_block m c t j u).trans ((cos_entry m c j _).trans (congrArg (fun s => Ideal.cos (angle s j)) (Fin.ext (by dsimp only; omega))))

theorem sin_point (c : Dev nD) (t : Fin cfg0.N) (ht : t.val < 64) (u : Fin 512) (n : Fin 32768) (hn : n.val = 512 * t.val + u.val) (j : Fin 8) :
    iblk m c 4 t (ix2 j u) = Ideal.sin (angle ⟨n.val % 16384, by omega⟩ j) :=
  (sin_block m c t j u).trans ((sin_entry m c j _).trans (congrArg (fun s => Ideal.sin (angle s j)) (Fin.ext (by dsimp only; omega))))

/-- What a point leaves in its five output blocks. -/
theorem columns_after (c : Dev nD) (t : Fin cfg0.N) : (dats m 0 c).after 5 t = columns (F := Ideal) (iblk m c 0 t) := by
  rw [after0_5]
  have h := columns_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t)
  unfold outsAt0
  dsimp only
  exact h.trans rfl

theorem queries_after (c : Dev nD) (t : Fin cfg0.N) : (dats m 0 c).after 6 t = queryBlock (query (productOf m c t) (iblk m c 3 t) (iblk m c 4 t)) := by
  rw [after0_6]
  have h := queries_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t)
  unfold outsAt0
  dsimp only
  exact h.trans rfl

theorem keys_after (c : Dev nD) (t : Fin cfg0.N) : (dats m 0 c).after 7 t = keyBlock (key (productOf m c t) (iblk m c 3 t) (iblk m c 4 t)) := by
  rw [after0_7]
  have h := keys_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t)
  unfold outsAt0
  dsimp only
  exact h.trans rfl

theorem values_after (c : Dev nD) (t : Fin cfg0.N) : (dats m 0 c).after 8 t = valueBlock (value (productOf m c t)) units := by
  rw [after0_8]
  have h := values_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t)
  unfold outsAt0
  dsimp only
  exact h.trans rfl

theorem recall_after (c : Dev nD) (t : Fin cfg0.N) : (dats m 0 c).after 9 t = recall (productOf m c t) := by
  rw [after0_9]
  have h := recall_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t)
  unfold outsAt0
  dsimp only
  exact h.trans rfl

theorem column_at_point (c : Dev nD) (t : Fin cfg0.N) (ht : t.val < 64) (r r' : Fin 1024) (u : Fin 512) (n : Fin 32768) (hr : r'.val = r.val) (hn : n.val = 512 * t.val + u.val) :
    columns (F := Ideal) (iblk m c 0 t) (ix2 r u) = columnOf m c r' n := by
  obtain rfl : r' = r := Fin.ext hr
  exact (columns_at (iblk m c 0 t) r' u).trans (row_at m c t u n hn r')

theorem query_at_point (c : Dev nD) (t : Fin cfg0.N) (ht : t.val < 64) (r r' : Fin 768) (u : Fin 512) (n : Fin 32768) (hr : r'.val = r.val) (hn : n.val = 512 * t.val + u.val) :
    queryBlock (query (productOf m c t) (iblk m c 3 t) (iblk m c 4 t)) (ix2 r u) = queryOf m c r' n := by
  obtain rfl : r' = r := Fin.ext hr
  exact queryBlock_at (productOf m c t) (iblk m c 3 t) (iblk m c 4 t) _ _ _ _ u (fun r => product_block m c t ht r u n hn) (cos_point m c t ht u n hn) (sin_point m c t ht u n hn) r'

theorem key_at_point (c : Dev nD) (t : Fin cfg0.N) (ht : t.val < 64) (r r' : Fin 192) (u : Fin 512) (n : Fin 32768) (hr : r'.val = r.val) (hn : n.val = 512 * t.val + u.val) :
    keyBlock (key (productOf m c t) (iblk m c 3 t) (iblk m c 4 t)) (ix2 r u) = keyOf m c r' n := by
  obtain rfl : r' = r := Fin.ext hr
  exact keyBlock_at (productOf m c t) (iblk m c 3 t) (iblk m c 4 t) _ _ _ _ u (fun r => product_block m c t ht r u n hn) (cos_point m c t ht u n hn) (sin_point m c t ht u n hn) r'

theorem value_at_point (c : Dev nD) (t : Fin cfg0.N) (ht : t.val < 64) (r r' : Fin 240) (u : Fin 512) (n : Fin 32768) (hr : r'.val = r.val) (hn : n.val = 512 * t.val + u.val) :
    valueBlock (value (productOf m c t)) (units (F := Ideal)) (ix2 r u) = valueOf m c r' n := by
  obtain rfl : r' = r := Fin.ext hr
  exact valueBlock_at (productOf m c t) _ _ _ u (fun r => product_block m c t ht r u n hn) r'

theorem recall_at_point (c : Dev nD) (t : Fin cfg0.N) (ht : t.val < 64) (r r' : Fin 256) (u : Fin 512) (n : Fin 32768) (hr : r'.val = r.val) (hn : n.val = 512 * t.val + u.val) :
    recall (productOf m c t) (ix2 r u) = recallOf m c r' n := by
  obtain rfl : r' = r := Fin.ext hr
  exact recallBlock_at (productOf m c t) _ _ _ u (fun r => product_block m c t ht r u n hn) r'

/-- The kernel's five result arrays. -/
theorem column_result (c : Dev nD) : (dats m 0 c).arrAt 5 cfg0.N = fun i => columnOf m c (i 0) (i 1) := by
  refine (dats m 0 c).arrAt_eq_of_covers 5 _ (by decide +kernel) fun t hf y => ?_
  have ht : t.val < 64 := Nat.lt_of_lt_of_eq t.isLt N_0
  blk_simp
  rw [columns_after]
  idx_vars y
  refine column_at_point m c t ht _ _ _ _ ?_ ?_
  · blk_simp
    show cc0_transform_5 (grid0.coords t) 0 * 1024 + y0.val = y0.val
    rw [(places t).1.1]; omega
  · blk_simp
    show cc0_transform_5 (grid0.coords t) 1 * 512 + y1.val = 512 * t.val + y1.val
    rw [(places t).1.2]; omega

theorem query_result (c : Dev nD) : (dats m 0 c).arrAt 6 cfg0.N = fun i => queryOf m c (i 0) (i 1) := by
  refine (dats m 0 c).arrAt_eq_of_covers 6 _ (by decide +kernel) fun t hf y => ?_
  have ht : t.val < 64 := Nat.lt_of_lt_of_eq t.isLt N_0
  blk_simp
  rw [queries_after]
  idx_vars y
  refine query_at_point m c t ht _ _ _ _ ?_ ?_
  · blk_simp
    show cc0_transform_6 (grid0.coords t) 0 * 768 + y0.val = y0.val
    rw [(places t).2.1.1]; omega
  · blk_simp
    show cc0_transform_6 (grid0.coords t) 1 * 512 + y1.val = 512 * t.val + y1.val
    rw [(places t).2.1.2]; omega

theorem key_result (c : Dev nD) : (dats m 0 c).arrAt 7 cfg0.N = fun i => keyOf m c (i 0) (i 1) := by
  refine (dats m 0 c).arrAt_eq_of_covers 7 _ (by decide +kernel) fun t hf y => ?_
  have ht : t.val < 64 := Nat.lt_of_lt_of_eq t.isLt N_0
  blk_simp
  rw [keys_after]
  idx_vars y
  refine key_at_point m c t ht _ _ _ _ ?_ ?_
  · blk_simp
    show cc0_transform_7 (grid0.coords t) 0 * 192 + y0.val = y0.val
    rw [(places t).2.2.1.1]; omega
  · blk_simp
    show cc0_transform_7 (grid0.coords t) 1 * 512 + y1.val = 512 * t.val + y1.val
    rw [(places t).2.2.1.2]; omega

theorem value_result (c : Dev nD) : (dats m 0 c).arrAt 8 cfg0.N = fun i => valueOf m c (i 0) (i 1) := by
  refine (dats m 0 c).arrAt_eq_of_covers 8 _ (by decide +kernel) fun t hf y => ?_
  have ht : t.val < 64 := Nat.lt_of_lt_of_eq t.isLt N_0
  blk_simp
  rw [values_after]
  idx_vars y
  refine value_at_point m c t ht _ _ _ _ ?_ ?_
  · blk_simp
    show cc0_transform_8 (grid0.coords t) 0 * 240 + y0.val = y0.val
    rw [(places t).2.2.2.1.1]; omega
  · blk_simp
    show cc0_transform_8 (grid0.coords t) 1 * 512 + y1.val = 512 * t.val + y1.val
    rw [(places t).2.2.2.1.2]; omega

theorem recall_result (c : Dev nD) : (dats m 0 c).arrAt 9 cfg0.N = fun i => recallOf m c (i 0) (i 1) := by
  refine (dats m 0 c).arrAt_eq_of_covers 9 _ (by decide +kernel) fun t hf y => ?_
  have ht : t.val < 64 := Nat.lt_of_lt_of_eq t.isLt N_0
  blk_simp
  rw [recall_after]
  idx_vars y
  refine recall_at_point m c t ht _ _ _ _ ?_ ?_
  · blk_simp
    show cc0_transform_9 (grid0.coords t) 0 * 256 + y0.val = y0.val
    rw [(places t).2.2.2.2.1]; omega
  · blk_simp
    show cc0_transform_9 (grid0.coords t) 1 * 512 + y1.val = 512 * t.val + y1.val
    rw [(places t).2.2.2.2.2]; omega

end Cert.Kernel5Ideal.Project

end
-- ==== Proof.ProjectReference.lean ====
/- The reference's results in the extended reals: a token's queries, keys, values and queries of the memory, element by element. -/
module

public import proofs.«01_k».proof.Proof.Project
public import proofs.«01_k».proof.Proof.Softmax
public import proofs.«01_k».proof.Proof.Gen.Reference4Ideal.Read

@[expose] public section

set_option maxRecDepth 16384

noncomputable section

namespace Cert.Reference4Ideal.Project

open Cert.Reference4Ideal Cert.Reference4Ideal.Gen Cert.Reference4Ideal.Read
open Idealize.ShloMosaic Idealize.ShloMosaic.Tactic
open Cert.Feed (rms scale)
open Cert.Project (project turn angle rotate unitRow unitScale)
open Cert.ReferenceIdeal.Softmax (scale_bits)

variable (x : FVec Ideal S2x16384x1024 .f32) (w : FVec Ideal S1024x1408 .f32) (g : FVec Ideal S1024 .f32)

/-- The row of a token, by its sequence and its position. -/
def row (b : Fin 2) (s : Fin 16384) (d : Fin 1024) : EReal := x (ix3 b s d)
def gain (d : Fin 1024) : EReal := g (ix1 d)
def weight (d : Fin 1024) (r : Fin 1408) : EReal := w (ix2 d r)

theorem product_at (b : Fin 2) (s : Fin 16384) (r : Fin 1408) : val_main_v32 (F := Ideal) x w g (ix3 b s r) = project (row x b s) (gain g) (weight w) r := by
  unfold project rms scale row gain weight
  pointwise [val_main_v32, val_main_v31, val_main_v30, val_main_v29, val_main_v28, val_main_v27, val_main_v26, val_main_v25, val_main_v24, val_main_v23, val_main_v22, val_main_v21, val_main_v20, val_main_v19,
    val_main_cst_3, val_main_cst_4, val_main_cst_5]

theorem cos_at (s : Fin 16384) (j : Fin 8) : val_main_v17 (F := Ideal) (ix2 s j) = Ideal.cos (angle s j) := by
  unfold angle
  rw [mul_comm]
  pointwise [val_main_v17, val_main_v16, val_main_v15, val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]

theorem sin_at (s : Fin 16384) (j : Fin 8) : val_main_v18 (F := Ideal) (ix2 s j) = Ideal.sin (angle s j) := by
  unfold angle
  rw [mul_comm]
  pointwise [val_main_v18, val_main_v16, val_main_v15, val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]

/-- A head joined from its two turned parts and the rest is the head turned. -/
theorem joined (y : Fin 64 → EReal) (c e : Fin 8 → EReal) (d : Fin 64) :
    (if h : d.val < 16 then
      if h' : d.val < 8 then y d * c ⟨d.val, h'⟩ - y ⟨8 + d.val, by omega⟩ * e ⟨d.val, h'⟩
      else y ⟨8 + (d.val - 8), by omega⟩ * c ⟨d.val - 8, by omega⟩ + y ⟨d.val - 8, by omega⟩ * e ⟨d.val - 8, by omega⟩
    else y ⟨16 + (d.val - 16), by omega⟩) = turn y c e d := by
  unfold turn
  by_cases h : d.val < 8
  · rw [dif_pos h, dif_pos (by omega), dif_pos h]
  · rw [dif_neg h]
    by_cases h' : d.val - 8 < 8
    · have e : (⟨8 + (d.val - 8), by omega⟩ : Fin 64) = d := Fin.ext (by show 8 + (d.val - 8) = d.val; omega)
      rw [dif_pos h', dif_pos (by omega), dif_neg h, e]
    · have e : (⟨16 + (d.val - 16), by omega⟩ : Fin 64) = d := Fin.ext (by show 16 + (d.val - 16) = d.val; omega)
      rw [dif_neg h', dif_neg (by omega), e]

theorem queries_at (b : Fin 2) (s : Fin 16384) (h : Fin 12) (d : Fin 64) :
    val_main_v34 (F := Ideal) x w g (ix4 b s h d) = project (row x b s) (gain g) (weight w) ⟨64 * h.val + d.val, by omega⟩ := by
  rw [← product_at]
  unfold val_main_v34 val_main_v33
  generalize val_main_v32 (F := Ideal) x w g = y
  pointwise
  refine congrArg (fun r => y (ix3 b s r)) (Fin.ext ?_)
  show h.val * 64 + d.val = 64 * h.val + d.val
  omega

theorem keys_at (b : Fin 2) (s : Fin 16384) (h : Fin 3) (d : Fin 64) :
    val_main_v36 (F := Ideal) x w g (ix4 b s h d) = project (row x b s) (gain g) (weight w) ⟨768 + 64 * h.val + d.val, by omega⟩ := by
  rw [← product_at]
  unfold val_main_v36 val_main_v35
  generalize val_main_v32 (F := Ideal) x w g = y
  pointwise
  refine congrArg (fun r => y (ix3 b s r)) (Fin.ext ?_)
  show 768 + (h.val * 64 + d.val) = 768 + 64 * h.val + d.val
  omega

theorem values_at (b : Fin 2) (s : Fin 16384) (h : Fin 3) (d : Fin 64) :
    val_main_v38 (F := Ideal) x w g (ix4 b s h d) = project (row x b s) (gain g) (weight w) ⟨960 + 64 * h.val + d.val, by omega⟩ := by
  rw [← product_at]
  unfold val_main_v38 val_main_v37
  generalize val_main_v32 (F := Ideal) x w g = y
  pointwise
  refine congrArg (fun r => y (ix3 b s r)) (Fin.ext ?_)
  show 960 + (h.val * 64 + d.val) = 960 + 64 * h.val + d.val
  omega

theorem turnedQueries_at (b : Fin 2) (s : Fin 16384) (h : Fin 12) (d : Fin 64) :
    val_main_v61 (F := Ideal) x w g (ix4 b s h d) = rotate (fun d => project (row x b s) (gain g) (weight w) ⟨64 * h.val + d.val, by omega⟩) s d := by
  unfold rotate
  simp only [← queries_at, ← cos_at, ← sin_at]
  rw [← joined]
  unfold val_main_v61 val_main_v60 val_main_v59 val_main_v58 val_main_v57 val_main_v56 val_main_v55 val_main_v54 val_main_v53 val_main_v52 val_main_v51 val_main_v50 val_main_v49 val_main_v48 val_main_v47 val_main_v46
    val_main_v45 val_main_v44 val_main_v43 val_main_v42 val_main_v41 val_main_v40
  generalize val_main_v34 (F := Ideal) x w g = y
  generalize val_main_v17 (F := Ideal) = c
  generalize val_main_v18 (F := Ideal) = e
  pointwise

theorem turnedKeys_at (b : Fin 2) (s : Fin 16384) (h : Fin 3) (d : Fin 64) :
    val_main_v83 (F := Ideal) x w g (ix4 b s h d) = rotate (fun d => project (row x b s) (gain g) (weight w) ⟨768 + 64 * h.val + d.val, by omega⟩) s d := by
  unfold rotate
  simp only [← keys_at, ← cos_at, ← sin_at]
  rw [← joined]
  unfold val_main_v83 val_main_v82 val_main_v81 val_main_v80 val_main_v79 val_main_v78 val_main_v77 val_main_v76 val_main_v75 val_main_v74 val_main_v73 val_main_v72 val_main_v71 val_main_v70 val_main_v69 val_main_v68
    val_main_v67 val_main_v66 val_main_v65 val_main_v64 val_main_v63 val_main_v62
  generalize val_main_v36 (F := Ideal) x w g = y
  generalize val_main_v17 (F := Ideal) = c
  generalize val_main_v18 (F := Ideal) = e
  pointwise

theorem two_bits : Ideal.ofBits .f32 0x40000000#32 = ((2 : ℝ) : EReal) := by
  simp [Ideal.ofBits, Ideal.ieee, -EReal.coe_mul]
  norm_num

/-- Times an eighth, over the logarithm of two: one scale. -/
theorem scaled_eq (z : EReal) : Ideal.div (z * Ideal.ofBits .f32 0x3E000000#32) (Ideal.log (Ideal.ofBits .f32 0x40000000#32)) = z * unitScale := by
  have hl : Ideal.log ((2 : ℝ) : EReal) = ((Real.log 2 : ℝ) : EReal) := if_neg (by norm_num)
  have hne : Real.log 2 ≠ 0 := (Real.log_pos (by norm_num)).ne'
  unfold unitScale
  rw [scale_bits, two_bits, hl, Ideal.div_coe hne, mul_assoc, ← EReal.coe_mul, one_div (Real.log 2)]

theorem query_eq (r : Fin 768) (n : Fin 32768) :
    val_main_v96 (F := Ideal) x w g (ix2 r n) =
      Cert.Project.query (row x ⟨n.val / 16384, by omega⟩ ⟨n.val % 16384, by omega⟩) (gain g) (weight w) ⟨n.val % 16384, by omega⟩ r := by
  unfold Cert.Project.query
  rw [← scaled_eq]
  refine Eq.trans ?_ (congrArg (fun z : EReal => Ideal.div (z * Ideal.ofBits .f32 0x3E000000#32) (Ideal.log (Ideal.ofBits .f32 0x40000000#32)))
    (turnedQueries_at x w g ⟨n.val / 16384, by omega⟩ ⟨n.val % 16384, by omega⟩ ⟨r.val / 64, by omega⟩ ⟨r.val % 64, by omega⟩))
  unfold val_main_v96 val_main_v95 val_main_v94 val_main_v93 val_main_v92 val_main_v91 val_main_v90 val_main_cst_9 val_main_v84 val_main_cst_6
  generalize val_main_v61 (F := Ideal) x w g = y
  pointwise

theorem key_eq (r : Fin 192) (n : Fin 32768) :
    val_main_v99 (F := Ideal) x w g (ix2 r n) =
      Cert.Project.key (row x ⟨n.val / 16384, by omega⟩ ⟨n.val % 16384, by omega⟩) (gain g) (weight w) ⟨n.val % 16384, by omega⟩ r := by
  unfold Cert.Project.key
  refine Eq.trans ?_ (turnedKeys_at x w g ⟨n.val / 16384, by omega⟩ ⟨n.val % 16384, by omega⟩ ⟨r.val / 64, by omega⟩ ⟨r.val % 64, by omega⟩)
  unfold val_main_v99 val_main_v98 val_main_v97
  generalize val_main_v83 (F := Ideal) x w g = y
  pointwise

theorem ones_at (b : Fin 2) (s : Fin 16384) (h : Fin 3) (j : Fin 16) : val_main_v100 (F := Ideal) (ix4 b s h j) = unitRow j.val := by
  unfold unitRow val_main_v100
  rw [id]
  pointwise [val_main_v89, val_main_v88, val_main_v87, val_main_v86, val_main_v85, val_main_cst_7, val_main_cst_8, val_main_c, val_main_call0_v0, val_main_call0_v1]
  by_cases e : j.val = 0
  · rw [if_pos e, e]; rfl
  · rw [if_neg e]
    have hne : (BitVec.ofNat 32 j.val == 0#32) = false := by
      rw [beq_eq_false_iff_ne]
      intro hc
      have := congrArg BitVec.toNat hc
      simp at this
      omega
    simp only [Scalar.select, IntOp.cmpi, hne]
    rfl

theorem value_eq (r : Fin 240) (n : Fin 32768) :
    val_main_v104 (F := Ideal) x w g (ix2 r n) = Cert.Project.value (row x ⟨n.val / 16384, by omega⟩ ⟨n.val % 16384, by omega⟩) (gain g) (weight w) r := by
  have e : val_main_v104 (F := Ideal) x w g (ix2 r n) =
      if h : r.val % 80 < 64 then val_main_v38 (F := Ideal) x w g (ix4 ⟨n.val / 16384, by omega⟩ ⟨n.val % 16384, by omega⟩ ⟨r.val / 80, by omega⟩ ⟨r.val % 80, h⟩)
      else val_main_v100 (F := Ideal) (ix4 ⟨n.val / 16384, by omega⟩ ⟨n.val % 16384, by omega⟩ ⟨r.val / 80, by omega⟩ ⟨r.val % 80 - 64, by omega⟩) := by
    unfold val_main_v104 val_main_v103 val_main_v102 val_main_v101
    generalize val_main_v38 (F := Ideal) x w g = y
    generalize val_main_v100 (F := Ideal) = o
    pointwise
  rw [e]
  unfold Cert.Project.value
  by_cases h : r.val % 80 < 64
  · rw [dif_pos h, dif_pos h, values_at]
  · rw [dif_neg h, dif_neg h, ones_at]

theorem recall_eq (r : Fin 256) (n : Fin 32768) :
    val_main_v111 (F := Ideal) x w g (ix2 r n) = Cert.Project.recall (row x ⟨n.val / 16384, by omega⟩ ⟨n.val % 16384, by omega⟩) (gain g) (weight w) r := by
  unfold Cert.Project.recall
  rw [← scaled_eq, ← product_at]
  unfold val_main_v111 val_main_v110 val_main_v109 val_main_v108 val_main_v107 val_main_v106 val_main_v105 val_main_cst_10 val_main_v84 val_main_cst_6 val_main_v39
  generalize val_main_v32 (F := Ideal) x w g = y
  pointwise

end Cert.Reference4Ideal.Project

end
-- ==== Proof.EntryReference.lean ====
/- The first layer's input projection as the reference computes it: the other layers', and x with its tokens in columns. -/
module

public import proofs.«01_k».proof.Proof.ProjectReference
public import proofs.«01_k».proof.Proof.Gen.Reference5Ideal.Read

@[expose] public section

set_option maxRecDepth 16384

noncomputable section

namespace Cert.Reference5Ideal.Project

open Cert.Reference5Ideal Cert.Reference5Ideal.Gen Cert.Reference5Ideal.Read
open Idealize.ShloMosaic Idealize.ShloMosaic.Tactic
open Cert.Reference4Ideal.Project (row gain weight)

variable (x : FVec Ideal S2x16384x1024 .f32) (w : FVec Ideal S1024x1408 .f32) (g : FVec Ideal S1024 .f32)

theorem column_eq (d : Fin 1024) (n : Fin 32768) : val_main_v1 (F := Ideal) x (ix2 d n) = row x ⟨n.val / 16384, by omega⟩ ⟨n.val % 16384, by omega⟩ d := by
  unfold row
  pointwise [val_main_v1, val_main_v0]

theorem query_eq (r : Fin 768) (n : Fin 32768) : val_main_v98 (F := Ideal) x w g (ix2 r n)
    = Cert.Project.query (row x ⟨n.val / 16384, by omega⟩ ⟨n.val % 16384, by omega⟩) (gain g) (weight w) ⟨n.val % 16384, by omega⟩ r :=
  (congrFun (show val_main_v98 (F := Ideal) x w g = Cert.Reference4Ideal.Read.val_main_v96 (F := Ideal) x w g from rfl) _).trans (Cert.Reference4Ideal.Project.query_eq x w g r n)

theorem key_eq (r : Fin 192) (n : Fin 32768) : val_main_v101 (F := Ideal) x w g (ix2 r n)
    = Cert.Project.key (row x ⟨n.val / 16384, by omega⟩ ⟨n.val % 16384, by omega⟩) (gain g) (weight w) ⟨n.val % 16384, by omega⟩ r :=
  (congrFun (show val_main_v101 (F := Ideal) x w g = Cert.Reference4Ideal.Read.val_main_v99 (F := Ideal) x w g from rfl) _).trans (Cert.Reference4Ideal.Project.key_eq x w g r n)

theorem value_eq (r : Fin 240) (n : Fin 32768) : val_main_v106 (F := Ideal) x w g (ix2 r n)
    = Cert.Project.value (row x ⟨n.val / 16384, by omega⟩ ⟨n.val % 16384, by omega⟩) (gain g) (weight w) r :=
  (congrFun (show val_main_v106 (F := Ideal) x w g = Cert.Reference4Ideal.Read.val_main_v104 (F := Ideal) x w g from rfl) _).trans (Cert.Reference4Ideal.Project.value_eq x w g r n)

theorem recall_eq (r : Fin 256) (n : Fin 32768) : val_main_v113 (F := Ideal) x w g (ix2 r n)
    = Cert.Project.recall (row x ⟨n.val / 16384, by omega⟩ ⟨n.val % 16384, by omega⟩) (gain g) (weight w) r :=
  (congrFun (show val_main_v113 (F := Ideal) x w g = Cert.Reference4Ideal.Read.val_main_v111 (F := Ideal) x w g from rfl) _).trans (Cert.Reference4Ideal.Project.recall_eq x w g r n)

end Cert.Reference5Ideal.Project

end
-- ==== Proof.lean ====
module

public import proofs.«01_k».proof.Defs
public import proofs.«01_k».proof.Proof.Gen.Kernel
public import proofs.«01_k».proof.Proof.Gen.Pre_qk_finite
public import proofs.«01_k».proof.Proof.Result
public import proofs.«01_k».proof.Proof.Softmax
public import proofs.«01_k».proof.Proof.Finite
public import proofs.«01_k».proof.Proof.Words
public import proofs.«01_k».proof.Proof.Gen.ReferenceIdeal.Run
public import proofs.«01_k».proof.Proof.FeedResult
public import proofs.«01_k».proof.Proof.FeedReference
public import proofs.«01_k».proof.Proof.Gen.Kernel2.Frame
public import proofs.«01_k».proof.Proof.Gen.Reference2Ideal.Run
public import proofs.«01_k».proof.Proof.MixResult
public import proofs.«01_k».proof.Proof.MixReference
public import proofs.«01_k».proof.Proof.MixFinite
public import proofs.«01_k».proof.Proof.Gen.Kernel3.Frame
public import proofs.«01_k».proof.Proof.Gen.Reference3Ideal.Run
public import proofs.«01_k».proof.Proof.ProjectResult
public import proofs.«01_k».proof.Proof.EntryResult
public import proofs.«01_k».proof.Proof.EntryReference
public import proofs.«01_k».proof.Proof.Gen.Kernel5.Frame
public import proofs.«01_k».proof.Proof.Gen.Reference5Ideal.Run
public import proofs.«01_k».proof.Proof.ProjectReference
public import proofs.«01_k».proof.Proof.Gen.Kernel4.Frame
public import proofs.«01_k».proof.Proof.Gen.Reference4Ideal.Run
public import Idealize.ShloMosaic.Lib.Claim

@[expose] public section

set_option maxRecDepth 16384

noncomputable section

namespace Cert.Proof

open Idealize.ShloMosaic Idealize.ShloMosaic.TcCoe Idealize.ShloMosaic.Tactic Idealize.SL.Sem

theorem reference_frame : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

theorem reference_frame_pre : Cert.quiescent_ReferenceIdeal_pre_qk_finite := fun m g _ => reference_frame m g trivial

/-- Minus infinity, and an eighth over the natural logarithm of two, each for the constant it names. -/
theorem constants : Cert.preserves_Kernel_KernelIdeal :=
  ⟨IdealRules.named_const.statement Cert.KernelIdeal.κ "neg_init" .f32 0xF149F2CA#32 _ rfl,
    IdealRules.named_const.statement Cert.KernelIdeal.κ "q_scale" .f32 0x3E38AA3B#32 _ rfl⟩

/-- Both programs compute attention. -/
theorem values : Cert.algebraic_KernelIdeal_ReferenceIdeal_pre_qk_finite := fun m g m' g' hpre hagree =>
  have hq := fun c : Dev Cert.KernelIdeal.nD => Cert.Pre_qk_finite.queries_real _ _ _ (hpre c)
  have hk := fun c : Dev Cert.KernelIdeal.nD => Cert.Pre_qk_finite.keys_real _ _ _ (hpre c)
  ⟨fun c => fun i => Cert.Average.attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (i 0) (i 1),
    (θ_run Cert.KernelIdeal.defs _ _).mono (fun _ h c => ⟨(h c).1.trans (Cert.KernelIdeal.Attn.result_eq m c (hq c) (hk c)), (h c).2⟩) (Cert.KernelIdeal.Attn.result (F := Ideal) m g),
    (θ_run Cert.ReferenceIdeal.defs _ _).mono (fun _ h c => ⟨(h c).1.trans (by
      rw [(hagree c).1, (hagree c).2.1, (hagree c).2.2, Cert.ReferenceIdeal.Read.val_main_v20_eq]
      funext i
      idx_vars i
      exact Cert.ReferenceIdeal.Softmax.result_eq _ _ _ (hq c) (hk c) _ _), (h c).2⟩) (Cert.ReferenceIdeal.Value.run (F := Ideal) m' g')⟩

theorem feed_reference_frame : Cert.quiescent_Reference2Ideal := fun m g _ =>
  (θ_run Cert.Reference2Ideal.defs _ _).mono (fun r h => ⟨fun c => (h c).2, sem_eq_zero_of_no_sems (by decide) r.2⟩) (Cert.Reference2Ideal.Value.run (F := Ideal) m g)

/-- Both programs compute the feed-forward block. -/
theorem feed_values : Cert.algebraic_Kernel2Ideal_Reference2Ideal := fun m g m' g' _ hagree =>
  ⟨fun c => fun i => Cert.Kernel2Ideal.Feed.result m c (i 0) (i 1),
    (θ_run Cert.Kernel2Ideal.defs _ _).mono (fun _ h c => ⟨(h c).1.trans (Cert.Kernel2Ideal.Feed.result_eq m c), (h c).2⟩) (Cert.Kernel2Ideal.Value.run_blocks (F := Ideal) m g),
    (θ_run Cert.Reference2Ideal.defs _ _).mono (fun _ h c => ⟨(h c).1.trans (by
      rw [Cert.Reference2Ideal.Read.val_main_v33_eq, (hagree c).1, (hagree c).2.1, (hagree c).2.2.1, (hagree c).2.2.2.1, (hagree c).2.2.2.2]
      funext i
      idx_vars i
      exact Cert.Reference2Ideal.Feed.result_at _ _ _ _ _ _ _), (h c).2⟩) (Cert.Reference2Ideal.Value.run (F := Ideal) m' g')⟩

theorem mix_reference_frame : Cert.quiescent_Reference3Ideal := fun m g _ =>
  (θ_run Cert.Reference3Ideal.defs _ _).mono (fun r h => ⟨fun c => (h c).2, sem_eq_zero_of_no_sems (by decide) r.2⟩) (Cert.Reference3Ideal.Value.run (F := Ideal) m g)

/-- The same two constants, of the output projection's kernel. -/
theorem mix_constants : Cert.preserves_Kernel3_Kernel3Ideal :=
  ⟨IdealRules.named_const.statement Cert.Kernel3Ideal.κ "q_scale" .f32 0x3E38AA3B#32 _ rfl,
    IdealRules.named_const.statement Cert.Kernel3Ideal.κ "neg_init" .f32 0xF149F2CA#32 _ rfl⟩

/-- Both programs compute the output projection. -/
theorem mix_values : Cert.algebraic_Kernel3Ideal_Reference3Ideal_pre_memory_finite := fun m g m' g' hpre hagree =>
  have hq := fun c : Dev Cert.Kernel3Ideal.nD => Cert.Pre_memory_finite.queries_real _ _ _ _ _ _ _ (hpre c)
  have hk := fun c : Dev Cert.Kernel3Ideal.nD => Cert.Pre_memory_finite.keys_real _ _ _ _ _ _ _ (hpre c)
  ⟨fun c => fun i => Cert.Kernel3Ideal.Mix.result m c (i 0) (i 1),
    (θ_run Cert.Kernel3Ideal.defs _ _).mono (fun _ h c => ⟨(h c).1.trans (Cert.Kernel3Ideal.Mix.result_eq m c (hq c) (hk c)), (h c).2⟩) (Cert.Kernel3Ideal.Value.run_blocks (F := Ideal) m g),
    (θ_run Cert.Reference3Ideal.defs _ _).mono (fun _ h c => ⟨(h c).1.trans (by
      rw [Cert.Reference3Ideal.Read.val_main_v34_eq, (hagree c).1, (hagree c).2.1, (hagree c).2.2.1, (hagree c).2.2.2.1, (hagree c).2.2.2.2.1, (hagree c).2.2.2.2.2.1, (hagree c).2.2.2.2.2.2]
      funext i
      idx_vars i
      exact Cert.Reference3Ideal.Mix.result_at _ _ _ _ _ _ _ (hq c) (hk c) _ _), (h c).2⟩) (Cert.Reference3Ideal.Value.run (F := Ideal) m' g')⟩

theorem project_reference_frame : Cert.quiescent_Reference4Ideal := fun m g _ =>
  (θ_run Cert.Reference4Ideal.defs _ _).mono (fun r h => ⟨fun c => (h c).2.2.2.2, sem_eq_zero_of_no_sems (by decide) r.2⟩) (Cert.Reference4Ideal.Value.run (F := Ideal) m g)

/-- The scale of the queries, of the input projection's kernel. -/
theorem project_constants : Cert.preserves_Kernel4_Kernel4Ideal := IdealRules.named_const.statement Cert.Kernel4Ideal.κ "q_scale" .f32 0x3E38AA3B#32 _ rfl

/-- Both programs compute the input projection: the queries, the keys, the values, the queries of the memory. -/
theorem project_values : Cert.algebraic_Kernel4Ideal_Reference4Ideal := fun m g m' g' _ hagree =>
  ⟨fun c => fun i => Cert.Kernel4Ideal.Project.queryOf m c (i 0) (i 1), fun c => fun i => Cert.Kernel4Ideal.Project.keyOf m c (i 0) (i 1),
    fun c => fun i => Cert.Kernel4Ideal.Project.valueOf m c (i 0) (i 1), fun c => fun i => Cert.Kernel4Ideal.Project.recallOf m c (i 0) (i 1),
    (θ_run Cert.Kernel4Ideal.defs _ _).mono (fun _ h c => ⟨(h c).1.trans (Cert.Kernel4Ideal.Project.query_result m c), (h c).2.1.trans (Cert.Kernel4Ideal.Project.key_result m c),
      (h c).2.2.1.trans (Cert.Kernel4Ideal.Project.value_result m c), (h c).2.2.2.1.trans (Cert.Kernel4Ideal.Project.recall_result m c), (h c).2.2.2.2⟩)
      (Cert.Kernel4Ideal.Value.run_blocks (F := Ideal) m g),
    (θ_run Cert.Reference4Ideal.defs _ _).mono (fun _ h c => ⟨(h c).1.trans (by
        rw [Cert.Reference4Ideal.Read.val_main_v96_eq, (hagree c).1, (hagree c).2.1, (hagree c).2.2]
        funext i
        idx_vars i
        exact Cert.Reference4Ideal.Project.query_eq _ _ _ _ _),
      (h c).2.1.trans (by
        rw [Cert.Reference4Ideal.Read.val_main_v99_eq, (hagree c).1, (hagree c).2.1, (hagree c).2.2]
        funext i
        idx_vars i
        exact Cert.Reference4Ideal.Project.key_eq _ _ _ _ _),
      (h c).2.2.1.trans (by
        rw [Cert.Reference4Ideal.Read.val_main_v104_eq, (hagree c).1, (hagree c).2.1, (hagree c).2.2]
        funext i
        idx_vars i
        exact Cert.Reference4Ideal.Project.value_eq _ _ _ _ _),
      (h c).2.2.2.1.trans (by
        rw [Cert.Reference4Ideal.Read.val_main_v111_eq, (hagree c).1, (hagree c).2.1, (hagree c).2.2]
        funext i
        idx_vars i
        exact Cert.Reference4Ideal.Project.recall_eq _ _ _ _ _), (h c).2.2.2.2⟩) (Cert.Reference4Ideal.Value.run (F := Ideal) m' g')⟩

theorem entry_reference_frame : Cert.quiescent_Reference5Ideal := fun m g _ =>
  (θ_run Cert.Reference5Ideal.defs _ _).mono (fun r h => ⟨fun c => (h c).2.2.2.2.2, sem_eq_zero_of_no_sems (by decide) r.2⟩) (Cert.Reference5Ideal.Value.run (F := Ideal) m g)

/-- The scale of the queries, of the first layer's input projection. -/
theorem entry_constants : Cert.preserves_Kernel5_Kernel5Ideal := IdealRules.named_const.statement Cert.Kernel5Ideal.κ "q_scale" .f32 0x3E38AA3B#32 _ rfl

/-- Both programs compute the first layer's input projection: the tokens in columns, the queries, the keys, the values, the queries of the memory. -/
theorem entry_values : Cert.algebraic_Kernel5Ideal_Reference5Ideal := fun m g m' g' _ hagree =>
  ⟨fun c => fun i => Cert.Kernel5Ideal.Project.columnOf m c (i 0) (i 1),
    fun c => fun i => Cert.Kernel5Ideal.Project.queryOf m c (i 0) (i 1),
    fun c => fun i => Cert.Kernel5Ideal.Project.keyOf m c (i 0) (i 1),
    fun c => fun i => Cert.Kernel5Ideal.Project.valueOf m c (i 0) (i 1),
    fun c => fun i => Cert.Kernel5Ideal.Project.recallOf m c (i 0) (i 1),
    (θ_run Cert.Kernel5Ideal.defs _ _).mono (fun _ h c => ⟨(h c).1.trans (Cert.Kernel5Ideal.Project.column_result m c), (h c).2.1.trans (Cert.Kernel5Ideal.Project.query_result m c), (h c).2.2.1.trans (Cert.Kernel5Ideal.Project.key_result m c), (h c).2.2.2.1.trans (Cert.Kernel5Ideal.Project.value_result m c), (h c).2.2.2.2.1.trans (Cert.Kernel5Ideal.Project.recall_result m c), (h c).2.2.2.2.2⟩)
      (Cert.Kernel5Ideal.Value.run_blocks (F := Ideal) m g),
    (θ_run Cert.Reference5Ideal.defs _ _).mono (fun _ h c => ⟨(h c).1.trans ((Cert.Reference5Ideal.Read.val_main_v1_eq (F := Ideal) _).trans (by
        rw [(hagree c).1]
        funext i
        idx_vars i
        exact Cert.Reference5Ideal.Project.column_eq _ _ _)),
      (h c).2.1.trans (by
        rw [Cert.Reference5Ideal.Read.val_main_v98_eq, (hagree c).1, (hagree c).2.1, (hagree c).2.2]
        funext i
        idx_vars i
        exact Cert.Reference5Ideal.Project.query_eq _ _ _ _ _),
      (h c).2.2.1.trans (by
        rw [Cert.Reference5Ideal.Read.val_main_v101_eq, (hagree c).1, (hagree c).2.1, (hagree c).2.2]
        funext i
        idx_vars i
        exact Cert.Reference5Ideal.Project.key_eq _ _ _ _ _),
      (h c).2.2.2.1.trans (by
        rw [Cert.Reference5Ideal.Read.val_main_v106_eq, (hagree c).1, (hagree c).2.1, (hagree c).2.2]
        funext i
        idx_vars i
        exact Cert.Reference5Ideal.Project.value_eq _ _ _ _ _),
      (h c).2.2.2.2.1.trans (by
        rw [Cert.Reference5Ideal.Read.val_main_v113_eq, (hagree c).1, (hagree c).2.1, (hagree c).2.2]
        funext i
        idx_vars i
        exact Cert.Reference5Ideal.Project.recall_eq _ _ _ _ _), (h c).2.2.2.2.2⟩) (Cert.Reference5Ideal.Value.run (F := Ideal) m' g')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_qk_finite.Gen.facts, Cert.Pre_memory_finite.Gen.facts,
  kernel_frame, fun m g _ => Cert.KernelIdeal.Attn.frame m g, fun m g _ => Cert.KernelIdeal.Attn.frame m g,
  reference_frame, reference_frame_pre, fun m g _ => Cert.Kernel2.Gen.frame m g, fun m g _ => Cert.Kernel2Ideal.Gen.frame m g, feed_reference_frame,
  fun m g _ => Cert.Kernel3.Gen.frame m g, fun m g _ => Cert.Kernel3Ideal.Gen.frame m g, fun m g _ => Cert.Kernel3Ideal.Gen.frame m g, mix_reference_frame, fun m g _ => mix_reference_frame m g trivial,
  fun m g _ => Cert.Kernel4.Gen.frame m g, fun m g _ => Cert.Kernel4Ideal.Gen.frame m g, project_reference_frame,
  fun m g _ => Cert.Kernel5.Gen.frame m g, fun m g _ => Cert.Kernel5Ideal.Gen.frame m g, entry_reference_frame,
  constants, values, trivial, feed_values, mix_constants, mix_values, project_constants, project_values, entry_constants, entry_values⟩

end Cert.Proof

end
